-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_expert_tables : Cert.Pre_expert_tables.Facts] (m : (ℓ : Loc Cert.Kernel3.nD Cert.Kernel3.τ Cert.Kernel3.sig) → Buf (Elt Bits) ℓ) : Prop :=
  ∀ c : Dev Cert.Kernel3.nD,
    (Cert.Pre_expert_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).1 = (fun _ => 1#1)
    ∧ (Cert.Pre_expert_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).2 = (fun _ => 1#1)

def Pre_Kernel3Ideal [hPre_expert_tables : Cert.Pre_expert_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_expert_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_expert_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2 = (fun _ => 1#1)

def Pre_Reference3Ideal [hPre_expert_tables : Cert.Pre_expert_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_expert_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_expert_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2 = (fun _ => 1#1)

def Pre_Kernel4 [hPre_pass_tables : Cert.Pre_pass_tables.Facts] (m : (ℓ : Loc Cert.Kernel4.nD Cert.Kernel4.τ Cert.Kernel4.sig) → Buf (Elt Bits) ℓ) : Prop :=
  ∀ c : Dev Cert.Kernel4.nD,
    (Cert.Pre_pass_tables.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))).1 = (fun _ => 1#1)
    ∧ (Cert.Pre_pass_tables.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))).2.1 = (fun _ => 1#1)
    ∧ (Cert.Pre_pass_tables.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))).2.2 = (fun _ => 1#1)

def Pre_Kernel4Ideal [hPre_pass_tables : Cert.Pre_pass_tables.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_pass_tables.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_pass_tables.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_pass_tables.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2 = (fun _ => 1#1)

def Pre_Reference4Ideal [hPre_pass_tables : Cert.Pre_pass_tables.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_pass_tables.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_pass_tables.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_pass_tables.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_expert_tables : Cert.Pre_expert_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_expert_tables : Cert.Pre_expert_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] [hPre_expert_tables : Cert.Pre_expert_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_pass_tables : Cert.Pre_pass_tables.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_pass_tables : Cert.Pre_pass_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] [hPre_pass_tables : Cert.Pre_pass_tables.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_on_read_columns [hKernel2Ideal : Cert.Kernel2Ideal.Facts] [hReference2Ideal : Cert.Reference2Ideal.Facts] [hOn_read_columns : Cert.On_read_columns.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![16384, 6144]⟩ : Shape).Idx, (Cert.On_read_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Kernel2Ideal.nD Cert.Kernel2Ideal.τ).loc Cert.Kernel2Ideal.main_v4_0) i = v0 c i)
          ∧ (∀ i : (⟨2, ![16384, 7168]⟩ : Shape).Idx, (Cert.On_read_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 i = 1#1 → r.2.mem ((c.tc : Thread Cert.Kernel2Ideal.nD Cert.Kernel2Ideal.τ).loc Cert.Kernel2Ideal.main_v4_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![16384, 6144]⟩ : Shape).Idx, (Cert.On_read_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 i = 1#1 → r.2.mem ((c.tc : Thread Cert.Reference2Ideal.nD Cert.Reference2Ideal.τ).loc Cert.Reference2Ideal.main_v16) i = v0 c i)
          ∧ (∀ i : (⟨2, ![16384, 7168]⟩ : Shape).Idx, (Cert.On_read_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 i = 1#1 → r.2.mem ((c.tc : Thread Cert.Reference2Ideal.nD Cert.Reference2Ideal.τ).loc Cert.Reference2Ideal.main_v18) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_expert_tables : Cert.Pre_expert_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_pass_tables : Cert.Pre_pass_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_expert_tables : Cert.Pre_expert_tables.Facts) (hPre_pass_tables : Cert.Pre_pass_tables.Facts) (hOn_read_columns : Cert.On_read_columns.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_expert_tables := hPre_expert_tables)
    ∧ quiescent_Kernel3Ideal (hKernel3Ideal := hKernel3Ideal) (hPre_expert_tables := hPre_expert_tables)
    ∧ quiescent_Reference3Ideal (hReference3Ideal := hReference3Ideal) (hPre_expert_tables := hPre_expert_tables)
    ∧ quiescent_Kernel4 (hKernel4 := hKernel4) (hPre_pass_tables := hPre_pass_tables)
    ∧ quiescent_Kernel4Ideal (hKernel4Ideal := hKernel4Ideal) (hPre_pass_tables := hPre_pass_tables)
    ∧ quiescent_Reference4Ideal (hReference4Ideal := hReference4Ideal) (hPre_pass_tables := hPre_pass_tables)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_read_columns (hKernel2Ideal := hKernel2Ideal) (hReference2Ideal := hReference2Ideal) (hOn_read_columns := hOn_read_columns)
    ∧ preserves_Kernel3_Kernel3Ideal
    ∧ algebraic_Kernel3Ideal_Reference3Ideal (hKernel3Ideal := hKernel3Ideal) (hReference3Ideal := hReference3Ideal) (hPre_expert_tables := hPre_expert_tables)
    ∧ preserves_Kernel4_Kernel4Ideal
    ∧ algebraic_Kernel4Ideal_Reference4Ideal (hKernel4Ideal := hKernel4Ideal) (hReference4Ideal := hReference4Ideal) (hPre_pass_tables := hPre_pass_tables)
-- ==== On_read_columns.lean ====
abbrev S16384x2048 : Shape := ⟨2, ![16384, 2048]⟩
abbrev S1x2048 : Shape := ⟨2, ![1, 2048]⟩
abbrev S1x2048x11264 : Shape := ⟨3, ![1, 2048, 11264]⟩
abbrev S16384x6144 : Shape := ⟨2, ![16384, 6144]⟩
abbrev S_ : Shape := ⟨0, ![]⟩
abbrev S16384x7168 : Shape := ⟨2, ![16384, 7168]⟩

class Facts : Prop where
  bcast_S_S16384x6144 : S_.BroadcastsInDim S16384x6144 (![] : Fin 0 → Fin S16384x6144.rank)
  bcast_S_S16384x7168 : S_.BroadcastsInDim S16384x7168 (![] : Fin 0 → Fin S16384x7168.rank)

variable [Facts]

def fn {F : FTy → Type} [FloatOps F] (main_arg0 : FVec F S16384x2048 .f32) (main_arg1 : FVec F S1x2048 .f32) (main_arg2 : FVec F S1x2048x11264 .f32) : IVec S16384x6144 1 × IVec S16384x7168 1 :=
  let main_v0 : IVec S16384x6144 32 := iotaInDim S16384x6144 32 1
  let main_c : IVec S_ 32 := constantI S_ 32 5120#32
  let main_v1 : IVec S16384x6144 32 := broadcastInDim S16384x6144 ![] bcast_S_S16384x6144 main_c
  let main_v2 : IVec S16384x6144 1 := cmpi .slt main_v0 main_v1
  let main_v3 : IVec S16384x7168 32 := iotaInDim S16384x7168 32 1
  let main_c_0 : IVec S_ 32 := constantI S_ 32 6144#32
  let main_v4 : IVec S16384x7168 32 := broadcastInDim S16384x7168 ![] bcast_S_S16384x7168 main_c_0
  let main_v5 : IVec S16384x7168 1 := cmpi .slt main_v3 main_v4
  (main_v2, main_v5)
-- ==== Pre_expert_tables.lean ====
abbrev S288 : Shape := ⟨1, ![288]⟩
abbrev S1 : Shape := ⟨1, ![1]⟩
abbrev S73728x2048 : Shape := ⟨2, ![73728, 2048]⟩
abbrev S32x1x2048 : Shape := ⟨3, ![32, 1, 2048]⟩
abbrev S32x2048x2048 : Shape := ⟨3, ![32, 2048, 2048]⟩
abbrev S287 : Shape := ⟨1, ![287]⟩
abbrev S_ : Shape := ⟨0, ![]⟩

class Facts : Prop where
  slices_S288_S287_0 : S288.Slices ![0] S287
  slices_S288_S287_1 : S288.Slices ![1] S287
  bcast_S_S288 : S_.BroadcastsInDim S288 (![] : Fin 0 → Fin S288.rank)
  bcast_S_S1 : S_.BroadcastsInDim S1 (![] : Fin 0 → Fin S1.rank)
  bcast_S1_S288_0 : S1.BroadcastsInDim S288 (![0] : Fin 1 → Fin S288.rank)
  bcast_S1_S287_0 : S1.BroadcastsInDim S287 (![0] : Fin 1 → Fin S287.rank)

variable [Facts]

def fn_where {F : FTy → Type} [FloatOps F] (arg0 : IVec S287 1) (arg1 : IVec S287 1) (arg2 : IVec S287 1) : IVec S287 1 :=
  let v0 : IVec S287 1 := select arg0 arg1 arg2
  v0

def fn_part1 {F : FTy → Type} [FloatOps F] (main_arg1 : IVec S288 32) (main_arg2 : IVec S1 32) (main_v0 : IVec S287 32) (main_v1 : IVec S287 32) (main_v2 : IVec S287 32) (main_v3 : IVec S287 32) (main_v4 : IVec S288 32) (main_v17 : IVec S288 1) (main_v18 : IVec S288 32) : IVec S288 1 × IVec S287 1 :=
  let main_v19 : IVec S288 32 := addi main_v4 main_v18
  let main_v20 : IVec S288 32 := broadcastInDim S288 ![0] bcast_S1_S288_0 main_arg2
  let main_v21 : IVec S288 1 := cmpi .ne main_v19 main_v20
  let main_c_4 : IVec S_ 32 := constantI S_ 32 32#32
  let main_v22 : IVec S288 32 := broadcastInDim S288 ![] bcast_S_S288 main_c_4
  let main_v23 : IVec S288 1 := cmpi .sge main_arg1 main_v22
  let main_v24 : IVec S288 1 := ori main_v21 main_v23
  let main_v25 : IVec S288 1 := andi main_v17 main_v24
  let main_v26 : IVec S287 32 := (extractStridedSlice S287 ![1] · slices_S288_S287_1) main_v4
  let main_v27 : IVec S287 32 := broadcastInDim S287 ![0] bcast_S1_S287_0 main_arg2
  let main_v28 : IVec S287 1 := cmpi .sge main_v26 main_v27
  let main_v29 : IVec S287 1 := cmpi .eq main_v1 main_v0
  let main_v30 : IVec S287 1 := cmpi .eq main_v3 main_v2
  let main_v31 : IVec S287 1 := cmpi .eq main_v2 main_v1
  let main_v32 : IVec S287 1 := fn_where (F := F) main_v29 main_v30 main_v31
  let main_v33 : IVec S287 1 := ori main_v28 main_v32
  (main_v25, main_v33)

def fn {F : FTy → Type} [FloatOps F] (main_arg0 : IVec S288 32) (main_arg1 : IVec S288 32) (main_arg2 : IVec S1 32) (main_arg3 : IVec S1 32) (main_arg4 : FVec F S73728x2048 .bf16) (main_arg5 : FVec F S32x1x2048 .f32) (main_arg6 : FVec F S32x2048x2048 .f32) : IVec S288 1 × IVec S287 1 :=
  let main_v0 : IVec S287 32 := (extractStridedSlice S287 ![0] · slices_S288_S287_0) main_arg0
  let main_v1 : IVec S287 32 := (extractStridedSlice S287 ![1] · slices_S288_S287_1) main_arg0
  let main_v2 : IVec S287 32 := (extractStridedSlice S287 ![0] · slices_S288_S287_0) main_arg1
  let main_v3 : IVec S287 32 := (extractStridedSlice S287 ![1] · slices_S288_S287_1) main_arg1
  let main_v4 : IVec S288 32 := iotaInDim S288 32 0
  let main_c : IVec S_ 32 := constantI S_ 32 0#32
  let main_v5 : IVec S288 32 := broadcastInDim S288 ![] bcast_S_S288 main_c
  let main_v6 : IVec S288 1 := cmpi .sge main_arg0 main_v5
  let main_c_0 : IVec S_ 32 := constantI S_ 32 32#32
  let main_v7 : IVec S288 32 := broadcastInDim S288 ![] bcast_S_S288 main_c_0
  let main_v8 : IVec S288 1 := cmpi .slt main_arg0 main_v7
  let main_v9 : IVec S288 1 := andi main_v6 main_v8
  let main_c_1 : IVec S_ 32 := constantI S_ 32 1#32
  let main_v10 : IVec S1 32 := broadcastInDim S1 ![] bcast_S_S1 main_c_1
  let main_v11 : IVec S1 1 := cmpi .sge main_arg2 main_v10
  let main_v12 : IVec S288 1 := broadcastInDim S288 ![0] bcast_S1_S288_0 main_v11
  let main_v13 : IVec S288 1 := andi main_v9 main_v12
  let main_c_2 : IVec S_ 32 := constantI S_ 32 288#32
  let main_v14 : IVec S1 32 := broadcastInDim S1 ![] bcast_S_S1 main_c_2
  let main_v15 : IVec S1 1 := cmpi .sle main_arg2 main_v14
  let main_v16 : IVec S288 1 := broadcastInDim S288 ![0] bcast_S1_S288_0 main_v15
  let main_v17 : IVec S288 1 := andi main_v13 main_v16
  let main_c_3 : IVec S_ 32 := constantI S_ 32 1#32
  let main_v18 : IVec S288 32 := broadcastInDim S288 ![] bcast_S_S288 main_c_3
  fn_part1 (F := F) main_arg1 main_arg2 main_v0 main_v1 main_v2 main_v3 main_v4 main_v17 main_v18
-- ==== Pre_pass_tables.lean ====
abbrev S288 : Shape := ⟨1, ![288]⟩
abbrev S1 : Shape := ⟨1, ![1]⟩
abbrev S73728x2048 : Shape := ⟨2, ![73728, 2048]⟩
abbrev S32x1x4096 : Shape := ⟨3, ![32, 1, 4096]⟩
abbrev S32x2048x4096 : Shape := ⟨3, ![32, 2048, 4096]⟩
abbrev S287 : Shape := ⟨1, ![287]⟩
abbrev S_ : Shape := ⟨0, ![]⟩

class Facts : Prop where
  slices_S288_S287_0 : S288.Slices ![0] S287
  slices_S288_S287_1 : S288.Slices ![1] S287
  bcast_S_S288 : S_.BroadcastsInDim S288 (![] : Fin 0 → Fin S288.rank)
  bcast_S_S1 : S_.BroadcastsInDim S1 (![] : Fin 0 → Fin S1.rank)
  bcast_S1_S288_0 : S1.BroadcastsInDim S288 (![0] : Fin 1 → Fin S288.rank)
  bcast_S1_S287_0 : S1.BroadcastsInDim S287 (![0] : Fin 1 → Fin S287.rank)
  slices_S288_S1_0 : S288.Slices ![0] S1

variable [Facts]

def fn_where {F : FTy → Type} [FloatOps F] (arg0 : IVec S287 1) (arg1 : IVec S287 1) (arg2 : IVec S287 1) : IVec S287 1 :=
  let v0 : IVec S287 1 := select arg0 arg1 arg2
  v0

def fn_part1 {F : FTy → Type} [FloatOps F] (main_arg0 : IVec S288 32) (main_arg1 : IVec S288 32) (main_arg2 : IVec S1 32) (main_arg3 : IVec S1 32) (main_v0 : IVec S287 32) (main_v1 : IVec S287 32) (main_v2 : IVec S287 32) (main_v3 : IVec S287 32) (main_v4 : IVec S288 32) (main_v17 : IVec S288 1) (main_v18 : IVec S288 32) : IVec S288 1 × IVec S287 1 × IVec S1 1 :=
  let main_v19 : IVec S288 32 := addi main_v4 main_v18
  let main_v20 : IVec S288 32 := broadcastInDim S288 ![0] bcast_S1_S288_0 main_arg2
  let main_v21 : IVec S288 1 := cmpi .ne main_v19 main_v20
  let main_c_4 : IVec S_ 32 := constantI S_ 32 32#32
  let main_v22 : IVec S288 32 := broadcastInDim S288 ![] bcast_S_S288 main_c_4
  let main_v23 : IVec S288 1 := cmpi .sge main_arg1 main_v22
  let main_v24 : IVec S288 1 := ori main_v21 main_v23
  let main_v25 : IVec S288 1 := andi main_v17 main_v24
  let main_v26 : IVec S287 32 := (extractStridedSlice S287 ![1] · slices_S288_S287_1) main_v4
  let main_v27 : IVec S287 32 := broadcastInDim S287 ![0] bcast_S1_S287_0 main_arg2
  let main_v28 : IVec S287 1 := cmpi .sge main_v26 main_v27
  let main_v29 : IVec S287 1 := cmpi .eq main_v1 main_v0
  let main_v30 : IVec S287 1 := cmpi .eq main_v3 main_v2
  let main_v31 : IVec S287 1 := cmpi .eq main_v2 main_v1
  let main_v32 : IVec S287 1 := fn_where (F := F) main_v29 main_v30 main_v31
  let main_v33 : IVec S287 1 := ori main_v28 main_v32
  let main_v34 : IVec S1 32 := (extractStridedSlice S1 ![0] · slices_S288_S1_0) main_arg0
  let main_v35 : IVec S1 1 := cmpi .eq main_arg3 main_v34
  (main_v25, main_v33, main_v35)

def fn {F : FTy → Type} [FloatOps F] (main_arg0 : IVec S288 32) (main_arg1 : IVec S288 32) (main_arg2 : IVec S1 32) (main_arg3 : IVec S1 32) (main_arg4 : FVec F S73728x2048 .f32) (main_arg5 : FVec F S32x1x4096 .f32) (main_arg6 : FVec F S32x2048x4096 .f32) : IVec S288 1 × IVec S287 1 × IVec S1 1 :=
  let main_v0 : IVec S287 32 := (extractStridedSlice S287 ![0] · slices_S288_S287_0) main_arg0
  let main_v1 : IVec S287 32 := (extractStridedSlice S287 ![1] · slices_S288_S287_1) main_arg0
  let main_v2 : IVec S287 32 := (extractStridedSlice S287 ![0] · slices_S288_S287_0) main_arg1
  let main_v3 : IVec S287 32 := (extractStridedSlice S287 ![1] · slices_S288_S287_1) main_arg1
  let main_v4 : IVec S288 32 := iotaInDim S288 32 0
  let main_c : IVec S_ 32 := constantI S_ 32 0#32
  let main_v5 : IVec S288 32 := broadcastInDim S288 ![] bcast_S_S288 main_c
  let main_v6 : IVec S288 1 := cmpi .sge main_arg0 main_v5
  let main_c_0 : IVec S_ 32 := constantI S_ 32 32#32
  let main_v7 : IVec S288 32 := broadcastInDim S288 ![] bcast_S_S288 main_c_0
  let main_v8 : IVec S288 1 := cmpi .slt main_arg0 main_v7
  let main_v9 : IVec S288 1 := andi main_v6 main_v8
  let main_c_1 : IVec S_ 32 := constantI S_ 32 1#32
  let main_v10 : IVec S1 32 := broadcastInDim S1 ![] bcast_S_S1 main_c_1
  let main_v11 : IVec S1 1 := cmpi .sge main_arg2 main_v10
  let main_v12 : IVec S288 1 := broadcastInDim S288 ![0] bcast_S1_S288_0 main_v11
  let main_v13 : IVec S288 1 := andi main_v9 main_v12
  let main_c_2 : IVec S_ 32 := constantI S_ 32 288#32
  let main_v14 : IVec S1 32 := broadcastInDim S1 ![] bcast_S_S1 main_c_2
  let main_v15 : IVec S1 1 := cmpi .sle main_arg2 main_v14
  let main_v16 : IVec S288 1 := broadcastInDim S288 ![0] bcast_S1_S288_0 main_v15
  let main_v17 : IVec S288 1 := andi main_v13 main_v16
  let main_c_3 : IVec S_ 32 := constantI S_ 32 1#32
  let main_v18 : IVec S288 32 := broadcastInDim S288 ![] bcast_S_S288 main_c_3
  fn_part1 (F := F) main_arg0 main_arg1 main_arg2 main_arg3 main_v0 main_v1 main_v2 main_v3 main_v4 main_v17 main_v18
-- ==== Kernel.lean ====
abbrev S16384x6144 : Shape := ⟨2, ![16384, 6144]⟩
abbrev S16384x7168 : Shape := ⟨2, ![16384, 7168]⟩
abbrev S2048x2048 : Shape := ⟨2, ![2048, 2048]⟩
abbrev S1x6144 : Shape := ⟨2, ![1, 6144]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x2048 : Shape := ⟨3, ![1, 1024, 2048]⟩
abbrev S16384x2048 : Shape := ⟨2, ![16384, 2048]⟩
abbrev S6144 : Shape := ⟨1, ![6144]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024 : Shape := ⟨1, ![1024]⟩
abbrev S8x128x128 : Shape := ⟨3, ![8, 128, 128]⟩
abbrev S1024x2048 : Shape := ⟨2, ![1024, 2048]⟩
abbrev S512x1024 : Shape := ⟨2, ![512, 1024]⟩
abbrev S512x2048 : Shape := ⟨2, ![512, 2048]⟩
abbrev S1x2048 : Shape := ⟨2, ![1, 2048]⟩
abbrev S256x1024 : Shape := ⟨2, ![256, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S512x256 : Shape := ⟨2, ![512, 256]⟩
abbrev S256x256 : Shape := ⟨2, ![256, 256]⟩

abbrev nBuf : Space → Nat
  | .hbm => 27
  | .vmem => 28
  | .smem => 0
  | _ => 0

abbrev bufTy : (tb : Table) → Fin (tcTables nBuf tb) → BufTy
  | .hbm, ⟨0, _⟩ => ⟨S16384x6144, .bf16⟩
  | .hbm, ⟨1, _⟩ => ⟨S16384x7168, .bf16⟩
  | .hbm, ⟨2, _⟩ => ⟨S2048x2048, .bf16⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x1024x2048, .f32⟩
  | .hbm, ⟨9, _⟩ => ⟨S1x1024x2048, .f32⟩
  | .hbm, ⟨10, _⟩ => ⟨S16384x2048, .bf16⟩
  | .hbm, ⟨11, _⟩ => ⟨S6144, .f32⟩
  | .hbm, ⟨12, _⟩ => ⟨S1x6144, .f32⟩
  | .hbm, ⟨13, _⟩ => ⟨S8x128, .f32⟩
  | .hbm, ⟨14, _⟩ => ⟨S128x8, .f32⟩
  | .hbm, ⟨15, _⟩ => ⟨S128x8x128, .f32⟩
  | .hbm, ⟨16, _⟩ => ⟨S128x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8x128x128, .f32⟩
  | .hbm, ⟨22, _⟩ => ⟨S1024x2048, .f32⟩
  | .hbm, ⟨23, _⟩ => ⟨S1024x2048, .bf16⟩
  | .hbm, ⟨24, _⟩ => ⟨S1024x2048, .f32⟩
  | .hbm, ⟨25, _⟩ => ⟨S1024x2048, .bf16⟩
  | .hbm, ⟨26, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x1024, .f32⟩
  | .local _ .vmem, ⟨8, _⟩ => ⟨S1x1024, .f32⟩
  | .local _ .vmem, ⟨9, _⟩ => ⟨S8x128x128, .f32⟩
  | .local _ .vmem, ⟨10, _⟩ => ⟨S128x1024, .f32⟩
  | .local _ .vmem, ⟨11, _⟩ => ⟨S1024x2048, .bf16⟩
  | .local _ .vmem, ⟨12, _⟩ => ⟨S512x1024, .bf16⟩
  | .local _ .vmem, ⟨13, _⟩ => ⟨S512x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | .local _ .vmem, ⟨21, _⟩ => ⟨S1024x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x1024, .bf16⟩
  | .local _ .vmem, ⟨27, _⟩ => ⟨S512x1024, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_11 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_12 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_13 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x6144 : Shape := ⟨2, ![16384, 6144]⟩
abbrev S16384x7168 : Shape := ⟨2, ![16384, 7168]⟩
abbrev S2048x2048 : Shape := ⟨2, ![2048, 2048]⟩
abbrev S1x6144 : Shape := ⟨2, ![1, 6144]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x2048 : Shape := ⟨3, ![1, 1024, 2048]⟩
abbrev S16384x2048 : Shape := ⟨2, ![16384, 2048]⟩
abbrev S_ : Shape := ⟨0, ![]⟩
abbrev S16384x1024 : Shape := ⟨2, ![16384, 1024]⟩
abbrev S16384 : Shape := ⟨1, ![16384]⟩
abbrev S16384x1 : Shape := ⟨2, ![16384, 1]⟩
abbrev S8x16x128x8x128 : Shape := ⟨5, ![8, 16, 128, 8, 128]⟩
abbrev S128x128 : Shape := ⟨2, ![128, 128]⟩
abbrev S1x128x128 : Shape := ⟨3, ![1, 128, 128]⟩
abbrev S8x128x128 : Shape := ⟨3, ![8, 128, 128]⟩
abbrev S8x8x16x128x128 : Shape := ⟨5, ![8, 8, 16, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1024x2048 : Shape := ⟨2, ![1024, 2048]⟩
abbrev S8x2048x4x256 : Shape := ⟨4, ![8, 2048, 4, 256]⟩
abbrev S2048x1024 : Shape := ⟨2, ![2048, 1024]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S16384x3x2048 : Shape := ⟨3, ![16384, 3, 2048]⟩
abbrev S16384x1x2048 : Shape := ⟨3, ![16384, 1, 2048]⟩

abbrev nBuf : Space → Nat
  | .hbm => 138
  | .vmem => 0
  | .smem => 0
  | _ => 0

abbrev hbmTy0_0 (i : Nat) : BufTy := match i % 128 with
  | 0 => ⟨S16384x6144, .bf16⟩
  | 1 => ⟨S16384x7168, .bf16⟩
  | 2 => ⟨S2048x2048, .bf16⟩
  | 3 => ⟨S1x6144, .f32⟩
  | 4 => ⟨S1x1024, .f32⟩
  | 5 => ⟨S1x1024, .f32⟩
  | 6 => ⟨S1x8x128x128, .f32⟩
  | 7 => ⟨S1x8x128, .f32⟩
  | 8 => ⟨S1x1024x2048, .f32⟩
  | 9 => ⟨S1x1024x2048, .f32⟩
  | 10 => ⟨S16384x2048, .bf16⟩
  | 11 => ⟨S16384x2048, .bf16⟩
  | 12 => ⟨S16384x2048, .f32⟩
  | 13 => ⟨S_, .f32⟩
  | 14 => ⟨S16384x2048, .f32⟩
  | 15 => ⟨S16384x2048, .f32⟩
  | 16 => ⟨S_, .f32⟩
  | 17 => ⟨S16384x2048, .f32⟩
  | 18 => ⟨S16384x2048, .f32⟩
  | 19 => ⟨S16384x2048, .f32⟩
  | 20 => ⟨S_, .f32⟩
  | 21 => ⟨S16384x2048, .f32⟩
  | 22 => ⟨S16384x2048, .f32⟩
  | 23 => ⟨S16384x2048, .f32⟩
  | 24 => ⟨S16384x1024, .f32⟩
  | 25 => ⟨S16384x1024, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1024, .f32⟩
  | 33 => ⟨S16384x1024, .f32⟩
  | 34 => ⟨S16384x1024, .f32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S16384x1024, .f32⟩
  | 42 => ⟨S16384x1024, .f32⟩
  | 43 => ⟨S_, .f32⟩
  | 44 => ⟨S16384x1, .f32⟩
  | 45 => ⟨S16384x1, .f32⟩
  | 46 => ⟨S16384x1, .f32⟩
  | 47 => ⟨S16384x1024, .f32⟩
  | 48 => ⟨S16384x1024, .f32⟩
  | 49 => ⟨S16384x1024, .f32⟩
  | 50 => ⟨S16384x1024, .f32⟩
  | 51 => ⟨S16384x1024, .f32⟩
  | 52 => ⟨S16384x1024, .f32⟩
  | 53 => ⟨S8x16x128x8x128, .f32⟩
  | 54 => ⟨S_, .i1⟩
  | 55 => ⟨S128x128, .i1⟩
  | 56 => ⟨S128x128, .i32⟩
  | 57 => ⟨S_, .i32⟩
  | 58 => ⟨S128x128, .i32⟩
  | 59 => ⟨S128x128, .i32⟩
  | 60 => ⟨S128x128, .i32⟩
  | 61 => ⟨S128x128, .i1⟩
  | 62 => ⟨S_, .i1⟩
  | 63 => ⟨S128x128, .i1⟩
  | 64 => ⟨S128x128, .i1⟩
  | 65 => ⟨S1x128x128, .i1⟩
  | 66 => ⟨S8x128x128, .f32⟩
  | 67 => ⟨S_, .f32⟩
  | 68 => ⟨S_, .f32⟩
  | 69 => ⟨S8x128x128, .i1⟩
  | 70 => ⟨S8x128x128, .f32⟩
  | 71 => ⟨S8x128x128, .f32⟩
  | 72 => ⟨S8x8x16x128x128, .f32⟩
  | 73 => ⟨S8x16x128x8x128, .f32⟩
  | 74 => ⟨S8x128, .f32⟩
  | 75 => ⟨S128x8, .f32⟩
  | 76 => ⟨S1x1x128x8x1, .f32⟩
  | 77 => ⟨S8x16x128x8x128, .f32⟩
  | 78 => ⟨S8x16x128x8x128, .f32⟩
  | 79 => ⟨S16384x1024, .f32⟩
  | 80 => ⟨S16384x1024, .f32⟩
  | 81 => ⟨S1024x2048, .f32⟩
  | 82 => ⟨S16384x2048, .f32⟩
  | 83 => ⟨S16384x1024, .bf16⟩
  | 84 => ⟨S16384x1024, .f32⟩
  | 85 => ⟨S8x2048x4x256, .f32⟩
  | 86 => ⟨S2048x1024, .bf16⟩
  | 87 => ⟨S2048x1024, .f32⟩
  | 88 => ⟨S8x256x4x256, .f32⟩
  | 89 => ⟨S2048x1024, .bf16⟩
  | 90 => ⟨S2048x1024, .f32⟩
  | 91 => ⟨S8x256x4x256, .f32⟩
  | 92 => ⟨S8x4x2048x256, .f32⟩
  | 93 => ⟨S_, .f32⟩
  | 94 => ⟨S8x4x2048x256, .f32⟩
  | 95 => ⟨S8x4x2048x256, .f32⟩
  | 96 => ⟨S_, .f32⟩
  | 97 => ⟨S8x4x2048, .f32⟩
  | 98 => ⟨S_, .f32⟩
  | 99 => ⟨S8x4x2048, .f32⟩
  | 100 => ⟨S8x4x2048, .f32⟩
  | 101 => ⟨S8x4x2048x1, .f32⟩
  | 102 => ⟨S8x4x2048x256, .f32⟩
  | 103 => ⟨S8x4x2048x256, .f32⟩
  | 104 => ⟨S8x4x2048x256, .f32⟩
  | 105 => ⟨S_, .f32⟩
  | 106 => ⟨S8x4x2048, .f32⟩
  | 107 => ⟨S8x4x2048x1, .f32⟩
  | 108 => ⟨S8x4x2048x256, .f32⟩
  | 109 => ⟨S8x4x2048x256, .f32⟩
  | 110 => ⟨S8x4x256x2048, .f32⟩
  | 111 => ⟨S8x2048x4x256, .f32⟩
  | 112 => ⟨S16384x1024, .f32⟩
  | 113 => ⟨S1024x2048, .f32⟩
  | 114 => ⟨S16384x2048, .f32⟩
  | 115 => ⟨S16384x6144, .bf16⟩
  | 116 => ⟨S16384x6144, .f32⟩
  | 117 => ⟨S16384x6144, .f32⟩
  | 118 => ⟨S16384x6144, .f32⟩
  | 119 => ⟨S16384x6144, .f32⟩
  | 120 => ⟨S16384x6144, .f32⟩
  | 121 => ⟨S_, .f32⟩
  | 122 => ⟨S16384x6144, .f32⟩
  | 123 => ⟨S16384x6144, .f32⟩
  | 124 => ⟨S_, .f32⟩
  | 125 => ⟨S16384x6144, .f32⟩
  | 126 => ⟨S16384x6144, .f32⟩
  | 127 => ⟨S16384x3x2048, .f32⟩
  | _ => ⟨S16384x6144, .bf16⟩

abbrev hbmTy0_1 (i : Nat) : BufTy := match i % 128 with
  | 0 => ⟨S16384x2048, .f32⟩
  | 1 => ⟨S16384x1x2048, .f32⟩
  | 2 => ⟨S16384x2048, .f32⟩
  | 3 => ⟨S16384x2048, .f32⟩
  | 4 => ⟨S16384x2048, .f32⟩
  | 5 => ⟨S16384x1x2048, .f32⟩
  | 6 => ⟨S16384x2048, .f32⟩
  | 7 => ⟨S16384x2048, .f32⟩
  | 8 => ⟨S16384x2048, .f32⟩
  | 9 => ⟨S16384x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_8 : Ref sig .tc := ⟨.hbm, 93, rfl⟩
abbrev main_v61 : Ref sig .tc := ⟨.hbm, 94, rfl⟩
abbrev main_v62 : Ref sig .tc := ⟨.hbm, 95, rfl⟩
abbrev main_cst_9 : Ref sig .tc := ⟨.hbm, 96, rfl⟩
abbrev main_v63 : Ref sig .tc := ⟨.hbm, 97, rfl⟩
abbrev main_cst_10 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_11 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_12 : Ref sig .tc := ⟨.hbm, 121, rfl⟩
abbrev main_v85 : Ref sig .tc := ⟨.hbm, 122, rfl⟩
abbrev main_v86 : Ref sig .tc := ⟨.hbm, 123, rfl⟩
abbrev main_cst_13 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S1x2048x11264 : Shape := ⟨3, ![1, 2048, 11264]⟩
abbrev S2048 : Shape := ⟨1, ![2048]⟩
abbrev S2048x11264 : Shape := ⟨2, ![2048, 11264]⟩
abbrev S16384x6144 : Shape := ⟨2, ![16384, 6144]⟩
abbrev S16384x7168 : Shape := ⟨2, ![16384, 7168]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11264, .f32⟩
  | .hbm, ⟨3, _⟩ => ⟨S2048, .f32⟩
  | .hbm, ⟨4, _⟩ => ⟨S2048x11264, .f32⟩
  | .hbm, ⟨5, _⟩ => ⟨S2048x11264, .bf16⟩
  | .hbm, ⟨6, _⟩ => ⟨S1x2048, .f32⟩
  | .hbm, ⟨7, _⟩ => ⟨S16384x6144, .bf16⟩
  | .hbm, ⟨8, _⟩ => ⟨S16384x7168, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .sge arg1 c5_i32
  let c5_i32_0 : BitVec 32 := 5#32
  let v1 : BitVec 32 := Scalar.subi arg1 c5_i32_0
  let c6_i32 : BitVec 32 := 6#32
  let v2 : BitVec 32 := Scalar.select v0 v1 c6_i32
  let c0_i32 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x2048 : Shape := ⟨2, ![16384, 2048]⟩
abbrev S1x2048 : Shape := ⟨2, ![1, 2048]⟩
abbrev S1x2048x11264 : Shape := ⟨3, ![1, 2048, 11264]⟩
abbrev S_ : Shape := ⟨0, ![]⟩
abbrev S16384 : Shape := ⟨1, ![16384]⟩
abbrev S16384x1 : Shape := ⟨2, ![16384, 1]⟩
abbrev S2048x11264 : Shape := ⟨2, ![2048, 11264]⟩
abbrev S16384x11264 : Shape := ⟨2, ![16384, 11264]⟩
abbrev S16384x5120 : Shape := ⟨2, ![16384, 5120]⟩
abbrev S16384x6144 : Shape := ⟨2, ![16384, 6144]⟩
abbrev S16384x7168 : Shape := ⟨2, ![16384, 7168]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x11264, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x11264, .f32⟩
  | .hbm, ⟨19, _⟩ => ⟨S16384x11264, .f32⟩
  | .hbm, ⟨20, _⟩ => ⟨S16384x11264, .bf16⟩
  | .hbm, ⟨21, _⟩ => ⟨S16384x5120, .bf16⟩
  | .hbm, ⟨22, _⟩ => ⟨S_, .i32⟩
  | .hbm, ⟨23, _⟩ => ⟨S_, .bf16⟩
  | .hbm, ⟨24, _⟩ => ⟨S16384x6144, .bf16⟩
  | .hbm, ⟨25, _⟩ => ⟨S16384x6144, .bf16⟩
  | .hbm, ⟨26, _⟩ => ⟨S_, .i32⟩
  | .hbm, ⟨27, _⟩ => ⟨S_, .bf16⟩
  | .hbm, ⟨28, _⟩ => ⟨S16384x7168, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel3.lean ====
abbrev S288 : Shape := ⟨1, ![288]⟩
abbrev S1 : Shape := ⟨1, ![1]⟩
abbrev S73728x2048 : Shape := ⟨2, ![73728, 2048]⟩
abbrev S32x1x2048 : Shape := ⟨3, ![32, 1, 2048]⟩
abbrev S32x2048x2048 : Shape := ⟨3, ![32, 2048, 2048]⟩
abbrev S256x2048 : Shape := ⟨2, ![256, 2048]⟩
abbrev S1x1x2048 : Shape := ⟨3, ![1, 1, 2048]⟩
abbrev S2048x2048 : Shape := ⟨2, ![2048, 2048]⟩
abbrev S_ : Shape := ⟨0, ![]⟩
abbrev S1x2048x2048 : Shape := ⟨3, ![1, 2048, 2048]⟩
abbrev S128x2048 : Shape := ⟨2, ![128, 2048]⟩
abbrev S1x2048 : Shape := ⟨2, ![1, 2048]⟩

abbrev nBuf : Space → Nat
  | .hbm => 4
  | .vmem => 8
  | .smem => 4
  | _ => 0

abbrev bufTy : (tb : Table) → Fin (tcTables nBuf tb) → BufTy
  | .hbm, ⟨0, _⟩ => ⟨S73728x2048, .bf16⟩
  | .hbm, ⟨1, _⟩ => ⟨S32x1x2048, .f32⟩
  | .hbm, ⟨2, _⟩ => ⟨S32x2048x2048, .f32⟩
  | .hbm, ⟨3, _⟩ => ⟨S73728x2048, .f32⟩
  | .local _ .vmem, ⟨0, _⟩ => ⟨S256x2048, .bf16⟩
  | .local _ .vmem, ⟨1, _⟩ => ⟨S256x2048, .bf16⟩
  | .local _ .vmem, ⟨2, _⟩ => ⟨S1x1x2048, .f32⟩
  | .local _ .vmem, ⟨3, _⟩ => ⟨S1x1x2048, .f32⟩
  | .local _ .vmem, ⟨4, _⟩ => ⟨S256x2048, .f32⟩
  | .local _ .vmem, ⟨5, _⟩ => ⟨S256x2048, .f32⟩
  | .local _ .vmem, ⟨6, _⟩ => ⟨S2048x2048, .f32⟩
  | .local _ .vmem, ⟨7, _⟩ => ⟨S2048x2048, .bf16⟩
  | .local _ .smem, ⟨0, _⟩ => ⟨S288, .i32⟩
  | .local _ .smem, ⟨1, _⟩ => ⟨S288, .i32⟩
  | .local _ .smem, ⟨2, _⟩ => ⟨S1, .i32⟩
  | .local _ .smem, ⟨3, _⟩ => ⟨S1, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 288], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v8 : Index := Scalar.indexCast arg1
  ![v8.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond3 (i : grid0.Coords) : BitVec 1 :=
  let arg1 : BitVec 32 := BitVec.ofNat 32 (i 1).val
  let c0_i32_14 : BitVec 32 := 0#32
  let v27 : BitVec 1 := Scalar.cmpi .eq arg1 c0_i32_14
  let arg0 : BitVec 32 := BitVec.ofNat 32 (i 0).val
  let c0_i32_15 : BitVec 32 := 0#32
  let v28 : BitVec 1 := Scalar.cmpi .eq arg0 c0_i32_15
  let v29 : BitVec 1 := Scalar.andi v27 v28
  let v30 : BitVec 32 := Scalar.extui v29
  let c0_i32_16 : BitVec 32 := 0#32
  let v31 : BitVec 1 := Scalar.cmpi .ne v30 c0_i32_16
  v31

def k0_mult1 (i : grid0.Coords) : BitVec 32 :=
  let arg0 : BitVec 32 := BitVec.ofNat 32 (i 0).val
  let c2048_i32_25 : BitVec 32 := 2048#32
  let v49 : BitVec 32 := Scalar.muli arg0 c2048_i32_25
  v49
def k0_off4 (i : grid0.Coords) (v9 : BitVec 32) : Fin 3 → Nat :=
  let c0_i32_26 : BitVec 32 := 0#32
  let arg0 : BitVec 32 := BitVec.ofNat 32 (i 0).val
  let c2048_i32_25 : BitVec 32 := 2048#32
  let v49 : BitVec 32 := Scalar.muli arg0 c2048_i32_25
  let v50 : BitVec 32 := v49
  ![v9.toNat, 0, v50.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v9 : BitVec 32) (v14 : BitVec 32) : BitVec 1 :=
  let arg1 : BitVec 32 := BitVec.ofNat 32 (i 1).val
  let c0_i32_2 : BitVec 32 := 0#32
  let v10 : BitVec 1 := Scalar.cmpi .eq arg1 c0_i32_2
  let v15 : BitVec 1 := Scalar.cmpi .ne v9 v14
  let v16 : BitVec 1 := Scalar.ori v10 v15
  let v17 : BitVec 32 := Scalar.extui v16
  let c0_i32_4 : BitVec 32 := 0#32
  let v18 : BitVec 1 := Scalar.cmpi .ne v17 c0_i32_4
  v18

def k0_mult2 (i : grid0.Coords) : BitVec 32 :=
  let arg0 : BitVec 32 := BitVec.ofNat 32 (i 0).val
  let c2048_i32 : BitVec 32 := 2048#32
  let v32 : BitVec 32 := Scalar.muli arg0 c2048_i32
  v32
def k0_off5 (i : grid0.Coords) (v9 : BitVec 32) : Fin 3 → Nat :=
  let c0_i32_17 : BitVec 32 := 0#32
  let arg0 : BitVec 32 := BitVec.ofNat 32 (i 0).val
  let c2048_i32 : BitVec 32 := 2048#32
  let v32 : BitVec 32 := Scalar.muli arg0 c2048_i32
  let v33 : BitVec 32 := v32
  ![v9.toNat, 0, v33.toNat]

def k0_chk1 (i : grid0.Coords) (v0 : BitVec 32) (v9 : BitVec 32) (v14 : BitVec 32) : Prop :=
  (∀ (k0_h1 : k0_cond1 i v0 = 1#1), ∀ (k0_h2 : k0_cond2 i v9 v14 = 1#1), ∀ (k0_h3 : k0_cond3 i = 1#1), ∀ a, (k0_off4 i v9) a + S1x2048x2048.size a ≤ S32x2048x2048.size a) ∧
  (∀ (k0_h1 : k0_cond1 i v0 = 1#1), ∀ (k0_h2 : k0_cond2 i v9 v14 = 1#1), ∀ a, (k0_off5 i v9) a + S1x2048x2048.size a ≤ S32x2048x2048.size a)
theorem k0_off4_inb : ∀ (i : grid0.Coords) (v0 : BitVec 32) (v9 : BitVec 32) (v14 : BitVec 32) (k0_hw1 : k0_chk1 i v0 v9 v14), ∀ (k0_h1 : k0_cond1 i v0 = 1#1), ∀ (k0_h2 : k0_cond2 i v9 v14 = 1#1), ∀ (k0_h3 : k0_cond3 i = 1#1), ∀ a, (k0_off4 i v9) a + S1x2048x2048.size a ≤ S32x2048x2048.size a := fun i v0 v9 v14 k0_hw1 k0_h1 k0_h2 k0_h3 => k0_hw1.1 k0_h1 k0_h2 k0_h3
theorem k0_off5_inb : ∀ (i : grid0.Coords) (v0 : BitVec 32) (v9 : BitVec 32) (v14 : BitVec 32) (k0_hw1 : k0_chk1 i v0 v9 v14), ∀ (k0_h1 : k0_cond1 i v0 = 1#1), ∀ (k0_h2 : k0_cond2 i v9 v14 = 1#1), ∀ a, (k0_off5 i v9) a + S1x2048x2048.size a ≤ S32x2048x2048.size a := fun i v0 v9 v14 k0_hw1 k0_h1 k0_h2 => k0_hw1.2 k0_h1 k0_h2

@[reducible] def k0_t1_loop : Scf.Loop 32 :=
  let c0_i32_18 : BitVec 32 := 0#32
  let c16_i32 : BitVec 32 := 16#32
  let v36 : BitVec 32 := Scalar.addi c0_i32_18 c16_i32
  let c1_i32_19 : BitVec 32 := 1#32
  ⟨c0_i32_18, v36, c1_i32_19⟩
def k0_mult3 (k0_t1 : Fin k0_t1_loop.trips) : BitVec 32 :=
  let c0_i32_18 : BitVec 32 := 0#32
  let c1_i32_19 : BitVec 32 := 1#32
  let arg13 : BitVec 32 := Scf.iv c0_i32_18 c1_i32_19 k0_t1
  let c128_i32 : BitVec 32 := 128#32
  let v49 : BitVec 32 := Scalar.muli arg13 c128_i32
  v49
def k0_off6 (k0_t1 : Fin k0_t1_loop.trips) : Fin 2 → Nat :=
  let c0_i32_18 : BitVec 32 := 0#32
  let c1_i32_19 : BitVec 32 := 1#32
  let arg13 : BitVec 32 := Scf.iv c0_i32_18 c1_i32_19 k0_t1
  let c128_i32 : BitVec 32 := 128#32
  let v49 : BitVec 32 := Scalar.muli arg13 c128_i32
  let v50 : BitVec 32 := v49
  let v51 : Index := Scalar.indexCast v50
  let c0_25 : Index := 0#32
  ![v51.toNat, 0]
def k0_off7 (i : grid0.Coords) : Fin 1 → Nat :=
  let arg1 : BitVec 32 := BitVec.ofNat 32 (i 1).val
  let v37 : Index := Scalar.indexCast arg1
  ![v37.toNat]
def k0_mult4 (i : grid0.Coords) (v38 : BitVec 32) : BitVec 32 :=
  let c32_i32 : BitVec 32 := 32#32
  let v39 : BitVec 1 := Scalar.cmpi .slt v38 c32_i32
  let arg0 : BitVec 32 := BitVec.ofNat 32 (i 0).val
  let c1_i32_22 : BitVec 32 := 1#32
  let v44 : BitVec 32 := Scalar.addi arg0 c1_i32_22
  let v45 : BitVec 32 := Scalar.select v39 arg0 v44
  let c2048_i32_25 : BitVec 32 := 2048#32
  let v49 : BitVec 32 := Scalar.muli v45 c2048_i32_25
  v49
def k0_cond4 (i : grid0.Coords) (v38 : BitVec 32) : BitVec 1 :=
  let c32_i32 : BitVec 32 := 32#32
  let v39 : BitVec 1 := Scalar.cmpi .slt v38 c32_i32
  let arg0 : BitVec 32 := BitVec.ofNat 32 (i 0).val
  let c1_i32_22 : BitVec 32 := 1#32
  let v44 : BitVec 32 := Scalar.addi arg0 c1_i32_22
  let v45 : BitVec 32 := Scalar.select v39 arg0 v44
  let c1_i32_23 : BitVec 32 := 1#32
  let v46 : BitVec 1 := Scalar.cmpi .slt v45 c1_i32_23
  let v47 : BitVec 32 := Scalar.extui v46
  let c0_i32_24 : BitVec 32 := 0#32
  let v48 : BitVec 1 := Scalar.cmpi .ne v47 c0_i32_24
  v48

def k0_chk2 (i : grid0.Coords) (v0 : BitVec 32) (v9 : BitVec 32) (v14 : BitVec 32) (v38 : BitVec 32) : Prop :=
  (∀ (k0_h1 : k0_cond1 i v0 = 1#1), ∀ (k0_h2 : k0_cond2 i v9 v14 = 1#1), ∀ (k0_h4 : k0_cond4 i v38 = 1#1), 2048 ∣ (k0_mult4 i v38).toNat)
theorem k0_mult4_dvd : ∀ (i : grid0.Coords) (v0 : BitVec 32) (v9 : BitVec 32) (v14 : BitVec 32) (v38 : BitVec 32) (k0_hw2 : k0_chk2 i v0 v9 v14 v38), ∀ (k0_h1 : k0_cond1 i v0 = 1#1), ∀ (k0_h2 : k0_cond2 i v9 v14 = 1#1), ∀ (k0_h4 : k0_cond4 i v38 = 1#1), 2048 ∣ (k0_mult4 i v38).toNat := fun i v0 v9 v14 v38 k0_hw2 k0_h1 k0_h2 k0_h4 => k0_hw2 k0_h1 k0_h2 k0_h4

def k0_off8 (i : grid0.Coords) (v38 : BitVec 32) (v41 : BitVec 32) (v42 : BitVec 32) : Fin 3 → Nat :=
  let c32_i32 : BitVec 32 := 32#32
  let v39 : BitVec 1 := Scalar.cmpi .slt v38 c32_i32
  let v43 : BitVec 32 := Scalar.select v39 v41 v42
  let c0_i32_26 : BitVec 32 := 0#32
  let arg0 : BitVec 32 := BitVec.ofNat 32 (i 0).val
  let c1_i32_22 : BitVec 32 := 1#32
  let v44 : BitVec 32 := Scalar.addi arg0 c1_i32_22
  let v45 : BitVec 32 := Scalar.select v39 arg0 v44
  let c2048_i32_25 : BitVec 32 := 2048#32
  let v49 : BitVec 32 := Scalar.muli v45 c2048_i32_25
  let v50 : BitVec 32 := v49
  ![v43.toNat, 0, v50.toNat]

def k0_chk3 (i : grid0.Coords) (v0 : BitVec 32) (v9 : BitVec 32) (v14 : BitVec 32) (v38 : BitVec 32) (v41 : BitVec 32) (v42 : BitVec 32) : Prop :=
  (∀ (k0_h1 : k0_cond1 i v0 = 1#1), ∀ (k0_h2 : k0_cond2 i v9 v14 = 1#1), ∀ (k0_h4 : k0_cond4 i v38 = 1#1), ∀ a, (k0_off8 i v38 v41 v42) a + S1x2048x2048.size a ≤ S32x2048x2048.size a)
theorem k0_off8_inb : ∀ (i : grid0.Coords) (v0 : BitVec 32) (v9 : BitVec 32) (v14 : BitVec 32) (v38 : BitVec 32) (v41 : BitVec 32) (v42 : BitVec 32) (k0_hw3 : k0_chk3 i v0 v9 v14 v38 v41 v42), ∀ (k0_h1 : k0_cond1 i v0 = 1#1), ∀ (k0_h2 : k0_cond2 i v9 v14 = 1#1), ∀ (k0_h4 : k0_cond4 i v38 = 1#1), ∀ a, (k0_off8 i v38 v41 v42) a + S1x2048x2048.size a ≤ S32x2048x2048.size a := fun i v0 v9 v14 v38 v41 v42 k0_hw3 k0_h1 k0_h2 k0_h4 => k0_hw3 k0_h1 k0_h2 k0_h4

def k0_cond5 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S288 : Shape := ⟨1, ![288]⟩
abbrev S1 : Shape := ⟨1, ![1]⟩
abbrev S73728x2048 : Shape := ⟨2, ![73728, 2048]⟩
abbrev S32x1x2048 : Shape := ⟨3, ![32, 1, 2048]⟩
abbrev S32x2048x2048 : Shape := ⟨3, ![32, 2048, 2048]⟩
abbrev S288x256x2048 : Shape := ⟨3, ![288, 256, 2048]⟩
abbrev S_ : Shape := ⟨0, ![]⟩
abbrev S288x1 : Shape := ⟨2, ![288, 1]⟩
abbrev S288x2048x2048 : Shape := ⟨3, ![288, 2048, 2048]⟩
abbrev S288x1x2048 : Shape := ⟨3, ![288, 1, 2048]⟩
abbrev S288x1x1 : Shape := ⟨3, ![288, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S1, .i32⟩
  | .hbm, ⟨3, _⟩ => ⟨S1, .i32⟩
  | .hbm, ⟨4, _⟩ => ⟨S73728x2048, .bf16⟩
  | .hbm, ⟨5, _⟩ => ⟨S32x1x2048, .f32⟩
  | .hbm, ⟨6, _⟩ => ⟨S32x2048x2048, .f32⟩
  | .hbm, ⟨7, _⟩ => ⟨S73728x2048, .f32⟩
  | .hbm, ⟨8, _⟩ => ⟨S288x256x2048, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x2048x2048, .f32⟩
  | .hbm, ⟨18, _⟩ => ⟨S288x256x2048, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x1x2048, .f32⟩
  | .hbm, ⟨28, _⟩ => ⟨S288x256x2048, .f32⟩
  | .hbm, ⟨29, _⟩ => ⟨S288x256x2048, .f32⟩
  | .hbm, ⟨30, _⟩ => ⟨S288, .i32⟩
  | .hbm, ⟨31, _⟩ => ⟨S288, .i32⟩
  | .hbm, ⟨32, _⟩ => ⟨S288, .i1⟩
  | .hbm, ⟨33, _⟩ => ⟨S288x1x1, .i1⟩
  | .hbm, ⟨34, _⟩ => ⟨S_, .f32⟩
  | .hbm, ⟨35, _⟩ => ⟨S_, .f32⟩
  | .hbm, ⟨36, _⟩ => ⟨S288x256x2048, .i1⟩
  | .hbm, ⟨37, _⟩ => ⟨S288x256x2048, .f32⟩
  | .hbm, ⟨38, _⟩ => ⟨S288x256x2048, .f32⟩
  | .hbm, ⟨39, _⟩ => ⟨S73728x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel4.lean ====
abbrev S288 : Shape := ⟨1, ![288]⟩
abbrev S1 : Shape := ⟨1, ![1]⟩
abbrev S73728x2048 : Shape := ⟨2, ![73728, 2048]⟩
abbrev S32x1x4096 : Shape := ⟨3, ![32, 1, 4096]⟩
abbrev S32x2048x4096 : Shape := ⟨3, ![32, 2048, 4096]⟩
abbrev S256x2048 : Shape := ⟨2, ![256, 2048]⟩
abbrev S1x1x1024 : Shape := ⟨3, ![1, 1, 1024]⟩
abbrev S256x1024 : Shape := ⟨2, ![256, 1024]⟩
abbrev S2x2048x1024 : Shape := ⟨3, ![2, 2048, 1024]⟩
abbrev S2048x1024 : Shape := ⟨2, ![2048, 1024]⟩
abbrev S2 : Shape := ⟨1, ![2]⟩
abbrev S_ : Shape := ⟨0, ![]⟩
abbrev S1x2048x1024 : Shape := ⟨3, ![1, 2048, 1024]⟩
abbrev S128x1024 : Shape := ⟨2, ![128, 1024]⟩
abbrev S1x1024 : Shape := ⟨2, ![1, 1024]⟩

abbrev nBuf : Space → Nat
  | .hbm => 4
  | .vmem => 11
  | .smem => 4
  | _ => 0

abbrev bufTy : (tb : Table) → Fin (tcTables nBuf tb) → BufTy
  | .hbm, ⟨0, _⟩ => ⟨S73728x2048, .f32⟩
  | .hbm, ⟨1, _⟩ => ⟨S32x1x4096, .f32⟩
  | .hbm, ⟨2, _⟩ => ⟨S32x2048x4096, .f32⟩
  | .hbm, ⟨3, _⟩ => ⟨S73728x2048, .bf16⟩
  | .local _ .vmem, ⟨0, _⟩ => ⟨S256x2048, .f32⟩
  | .local _ .vmem, ⟨1, _⟩ => ⟨S256x2048, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .bf16⟩
  | .local _ .vmem, ⟨7, _⟩ => ⟨S256x1024, .bf16⟩
  | .local _ .vmem, ⟨8, _⟩ => ⟨S2x2048x1024, .f32⟩
  | .local _ .vmem, ⟨9, _⟩ => ⟨S2048x1024, .bf16⟩
  | .local _ .vmem, ⟨10, _⟩ => ⟨S2048x1024, .bf16⟩
  | .local _ .smem, ⟨0, _⟩ => ⟨S288, .i32⟩
  | .local _ .smem, ⟨1, _⟩ => ⟨S288, .i32⟩
  | .local _ .smem, ⟨2, _⟩ => ⟨S1, .i32⟩
  | .local _ .smem, ⟨3, _⟩ => ⟨S1, .i32⟩
  | _, _ => ⟨S73728x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 288], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v8 : Index := Scalar.indexCast arg1
  ![v8.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond3 (i : grid0.Coords) : BitVec 1 :=
  let arg1 : BitVec 32 := BitVec.ofNat 32 (i 1).val
  let c0_i32_28 : BitVec 32 := 0#32
  let v54 : BitVec 1 := Scalar.cmpi .eq arg1 c0_i32_28
  let arg0 : BitVec 32 := BitVec.ofNat 32 (i 0).val
  let c0_i32_29 : BitVec 32 := 0#32
  let v55 : BitVec 1 := Scalar.cmpi .eq arg0 c0_i32_29
  let v56 : BitVec 1 := Scalar.andi v54 v55
  let v57 : BitVec 32 := Scalar.extui v56
  let c0_i32_30 : BitVec 32 := 0#32
  let v58 : BitVec 1 := Scalar.cmpi .ne v57 c0_i32_30
  v58

def k0_mult1 (i : grid0.Coords) : BitVec 32 :=
  let c0_i32_56 : BitVec 32 := 0#32
  let arg0 : BitVec 32 := BitVec.ofNat 32 (i 0).val
  let c1024_i32_55 : BitVec 32 := 1024#32
  let v91 : BitVec 32 := Scalar.muli arg0 c1024_i32_55
  let v92 : BitVec 32 := Scalar.addi c0_i32_56 v91
  v92
def k0_mult2 (i : grid0.Coords) : BitVec 32 :=
  let c2048_i32_58 : BitVec 32 := 2048#32
  let arg0 : BitVec 32 := BitVec.ofNat 32 (i 0).val
  let c1024_i32_57 : BitVec 32 := 1024#32
  let v94 : BitVec 32 := Scalar.muli arg0 c1024_i32_57
  let v95 : BitVec 32 := Scalar.addi c2048_i32_58 v94
  v95
def k0_off4 (i : grid0.Coords) (v9 : BitVec 32) (c0_i32_56 : BitVec 32) : Fin 3 → Nat :=
  let c0_i32_63 : BitVec 32 := 0#32
  let arg0 : BitVec 32 := BitVec.ofNat 32 (i 0).val
  let c1024_i32_55 : BitVec 32 := 1024#32
  let v91 : BitVec 32 := Scalar.muli arg0 c1024_i32_55
  let v92 : BitVec 32 := Scalar.addi c0_i32_56 v91
  let v93 : BitVec 32 := v92
  ![v9.toNat, 0, v93.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v9 : BitVec 32) (v14 : BitVec 32) : BitVec 1 :=
  let arg1 : BitVec 32 := BitVec.ofNat 32 (i 1).val
  let c0_i32_2 : BitVec 32 := 0#32
  let v10 : BitVec 1 := Scalar.cmpi .eq arg1 c0_i32_2
  let v15 : BitVec 1 := Scalar.cmpi .ne v9 v14
  let v16 : BitVec 1 := Scalar.ori v10 v15
  let v17 : BitVec 32 := Scalar.extui v16
  let c0_i32_4 : BitVec 32 := 0#32
  let v18 : BitVec 1 := Scalar.cmpi .ne v17 c0_i32_4
  v18

def k0_mult3 (i : grid0.Coords) : BitVec 32 :=
  let c0_i32_31 : BitVec 32 := 0#32
  let arg0 : BitVec 32 := BitVec.ofNat 32 (i 0).val
  let c1024_i32 : BitVec 32 := 1024#32
  let v59 : BitVec 32 := Scalar.muli arg0 c1024_i32
  let v60 : BitVec 32 := Scalar.addi c0_i32_31 v59
  v60
def k0_mult4 (i : grid0.Coords) : BitVec 32 :=
  let c2048_i32 : BitVec 32 := 2048#32
  let arg0 : BitVec 32 := BitVec.ofNat 32 (i 0).val
  let c1024_i32_32 : BitVec 32 := 1024#32
  let v62 : BitVec 32 := Scalar.muli arg0 c1024_i32_32
  let v63 : BitVec 32 := Scalar.addi c2048_i32 v62
  v63
def k0_off5 (i : grid0.Coords) (v9 : BitVec 32) (c0_i32_31 : BitVec 32) : Fin 3 → Nat :=
  let c0_i32_37 : BitVec 32 := 0#32
  let arg0 : BitVec 32 := BitVec.ofNat 32 (i 0).val
  let c1024_i32 : BitVec 32 := 1024#32
  let v59 : BitVec 32 := Scalar.muli arg0 c1024_i32
  let v60 : BitVec 32 := Scalar.addi c0_i32_31 v59
  let v61 : BitVec 32 := v60
  ![v9.toNat, 0, v61.toNat]

def k0_chk1 (i : grid0.Coords) (v0 : BitVec 32) (v9 : BitVec 32) (v14 : BitVec 32) : Prop :=
  (∀ (k0_h1 : k0_cond1 i v0 = 1#1), ∀ (k0_h2 : k0_cond2 i v9 v14 = 1#1), ∀ (k0_h3 : k0_cond3 i = 1#1), ∀ (r : Fin 2), ∀ a, (k0_off4 i v9 (BitVec.ofNat 32 (2048 * r.val))) a + S1x2048x1024.size a ≤ S32x2048x4096.size a) ∧
  (∀ (k0_h1 : k0_cond1 i v0 = 1#1), ∀ (k0_h2 : k0_cond2 i v9 v14 = 1#1), ∀ (r : Fin 2), ∀ a, (k0_off5 i v9 (BitVec.ofNat 32 (2048 * r.val))) a + S1x2048x1024.size a ≤ S32x2048x4096.size a)
theorem k0_off4_inb : ∀ (i : grid0.Coords) (v0 : BitVec 32) (v9 : BitVec 32) (v14 : BitVec 32) (k0_hw1 : k0_chk1 i v0 v9 v14), ∀ (k0_h1 : k0_cond1 i v0 = 1#1), ∀ (k0_h2 : k0_cond2 i v9 v14 = 1#1), ∀ (k0_h3 : k0_cond3 i = 1#1), ∀ (r : Fin 2), ∀ a, (k0_off4 i v9 (BitVec.ofNat 32 (2048 * r.val))) a + S1x2048x1024.size a ≤ S32x2048x4096.size a := fun i v0 v9 v14 k0_hw1 k0_h1 k0_h2 k0_h3 r => k0_hw1.1 k0_h1 k0_h2 k0_h3 r
theorem k0_off5_inb : ∀ (i : grid0.Coords) (v0 : BitVec 32) (v9 : BitVec 32) (v14 : BitVec 32) (k0_hw1 : k0_chk1 i v0 v9 v14), ∀ (k0_h1 : k0_cond1 i v0 = 1#1), ∀ (k0_h2 : k0_cond2 i v9 v14 = 1#1), ∀ (r : Fin 2), ∀ a, (k0_off5 i v9 (BitVec.ofNat 32 (2048 * r.val))) a + S1x2048x1024.size a ≤ S32x2048x4096.size a := fun i v0 v9 v14 k0_hw1 k0_h1 k0_h2 r => k0_hw1.2 k0_h1 k0_h2 r

@[reducible] def k0_t1_loop : Scf.Loop 32 :=
  let c0_i32_44 : BitVec 32 := 0#32
  let c16_i32 : BitVec 32 := 16#32
  let v77 : BitVec 32 := Scalar.addi c0_i32_44 c16_i32
  let c1_i32_45 : BitVec 32 := 1#32
  ⟨c0_i32_44, v77, c1_i32_45⟩
def k0_mult5 (k0_t1 : Fin k0_t1_loop.trips) : BitVec 32 :=
  let c0_i32_44 : BitVec 32 := 0#32
  let c1_i32_45 : BitVec 32 := 1#32
  let arg15 : BitVec 32 := Scf.iv c0_i32_44 c1_i32_45 k0_t1
  let c128_i32 : BitVec 32 := 128#32
  let v91 : BitVec 32 := Scalar.muli arg15 c128_i32
  v91
def k0_off6 (k0_t1 : Fin k0_t1_loop.trips) : Fin 2 → Nat :=
  let c0_i32_44 : BitVec 32 := 0#32
  let c1_i32_45 : BitVec 32 := 1#32
  let arg15 : BitVec 32 := Scf.iv c0_i32_44 c1_i32_45 k0_t1
  let c128_i32 : BitVec 32 := 128#32
  let v91 : BitVec 32 := Scalar.muli arg15 c128_i32
  let v92 : BitVec 32 := v91
  let v95 : Index := Scalar.indexCast v92
  let c0_57 : Index := 0#32
  ![v95.toNat, 0]
@[reducible] def k0_t2_loop : Scf.Loop 32 :=
  let c0_i32_48 : BitVec 32 := 0#32
  let c16_i32_49 : BitVec 32 := 16#32
  let v78 : BitVec 32 := Scalar.addi c0_i32_48 c16_i32_49
  let c1_i32_50 : BitVec 32 := 1#32
  ⟨c0_i32_48, v78, c1_i32_50⟩
def k0_mult6 (k0_t2 : Fin k0_t2_loop.trips) : BitVec 32 :=
  let c0_i32_48 : BitVec 32 := 0#32
  let c1_i32_50 : BitVec 32 := 1#32
  let arg15 : BitVec 32 := Scf.iv c0_i32_48 c1_i32_50 k0_t2
  let c128_i32 : BitVec 32 := 128#32
  let v91 : BitVec 32 := Scalar.muli arg15 c128_i32
  v91
def k0_off7 (k0_t2 : Fin k0_t2_loop.trips) : Fin 2 → Nat :=
  let c0_i32_48 : BitVec 32 := 0#32
  let c1_i32_50 : BitVec 32 := 1#32
  let arg15 : BitVec 32 := Scf.iv c0_i32_48 c1_i32_50 k0_t2
  let c128_i32 : BitVec 32 := 128#32
  let v91 : BitVec 32 := Scalar.muli arg15 c128_i32
  let v92 : BitVec 32 := v91
  let v95 : Index := Scalar.indexCast v92
  let c0_57 : Index := 0#32
  ![v95.toNat, 0]
def k0_off8 (i : grid0.Coords) : Fin 1 → Nat :=
  let arg1 : BitVec 32 := BitVec.ofNat 32 (i 1).val
  let v79 : Index := Scalar.indexCast arg1
  ![v79.toNat]
def k0_mult7 (i : grid0.Coords) (v80 : BitVec 32) : BitVec 32 :=
  let c0_i32_56 : BitVec 32 := 0#32
  let c32_i32 : BitVec 32 := 32#32
  let v81 : BitVec 1 := Scalar.cmpi .slt v80 c32_i32
  let arg0 : BitVec 32 := BitVec.ofNat 32 (i 0).val
  let c1_i32_53 : BitVec 32 := 1#32
  let v86 : BitVec 32 := Scalar.addi arg0 c1_i32_53
  let v87 : BitVec 32 := Scalar.select v81 arg0 v86
  let c1024_i32_55 : BitVec 32 := 1024#32
  let v91 : BitVec 32 := Scalar.muli v87 c1024_i32_55
  let v92 : BitVec 32 := Scalar.addi c0_i32_56 v91
  v92
def k0_cond4 (i : grid0.Coords) (v80 : BitVec 32) : BitVec 1 :=
  let c32_i32 : BitVec 32 := 32#32
  let v81 : BitVec 1 := Scalar.cmpi .slt v80 c32_i32
  let arg0 : BitVec 32 := BitVec.ofNat 32 (i 0).val
  let c1_i32_53 : BitVec 32 := 1#32
  let v86 : BitVec 32 := Scalar.addi arg0 c1_i32_53
  let v87 : BitVec 32 := Scalar.select v81 arg0 v86
  let c2_i32 : BitVec 32 := 2#32
  let v88 : BitVec 1 := Scalar.cmpi .slt v87 c2_i32
  let v89 : BitVec 32 := Scalar.extui v88
  let c0_i32_54 : BitVec 32 := 0#32
  let v90 : BitVec 1 := Scalar.cmpi .ne v89 c0_i32_54
  v90

def k0_mult8 (i : grid0.Coords) (v80 : BitVec 32) : BitVec 32 :=
  let c2048_i32_58 : BitVec 32 := 2048#32
  let c32_i32 : BitVec 32 := 32#32
  let v81 : BitVec 1 := Scalar.cmpi .slt v80 c32_i32
  let arg0 : BitVec 32 := BitVec.ofNat 32 (i 0).val
  let c1_i32_53 : BitVec 32 := 1#32
  let v86 : BitVec 32 := Scalar.addi arg0 c1_i32_53
  let v87 : BitVec 32 := Scalar.select v81 arg0 v86
  let c1024_i32_57 : BitVec 32 := 1024#32
  let v94 : BitVec 32 := Scalar.muli v87 c1024_i32_57
  let v95 : BitVec 32 := Scalar.addi c2048_i32_58 v94
  v95

def k0_chk2 (i : grid0.Coords) (v0 : BitVec 32) (v9 : BitVec 32) (v14 : BitVec 32) (v80 : BitVec 32) : Prop :=
  (∀ (k0_h1 : k0_cond1 i v0 = 1#1), ∀ (k0_h2 : k0_cond2 i v9 v14 = 1#1), ∀ (k0_h4 : k0_cond4 i v80 = 1#1), 1024 ∣ (k0_mult7 i v80).toNat) ∧
  (∀ (k0_h1 : k0_cond1 i v0 = 1#1), ∀ (k0_h2 : k0_cond2 i v9 v14 = 1#1), ∀ (k0_h4 : k0_cond4 i v80 = 1#1), 1024 ∣ (k0_mult8 i v80).toNat)
theorem k0_mult7_dvd : ∀ (i : grid0.Coords) (v0 : BitVec 32) (v9 : BitVec 32) (v14 : BitVec 32) (v80 : BitVec 32) (k0_hw2 : k0_chk2 i v0 v9 v14 v80), ∀ (k0_h1 : k0_cond1 i v0 = 1#1), ∀ (k0_h2 : k0_cond2 i v9 v14 = 1#1), ∀ (k0_h4 : k0_cond4 i v80 = 1#1), 1024 ∣ (k0_mult7 i v80).toNat := fun i v0 v9 v14 v80 k0_hw2 k0_h1 k0_h2 k0_h4 => k0_hw2.1 k0_h1 k0_h2 k0_h4
theorem k0_mult8_dvd : ∀ (i : grid0.Coords) (v0 : BitVec 32) (v9 : BitVec 32) (v14 : BitVec 32) (v80 : BitVec 32) (k0_hw2 : k0_chk2 i v0 v9 v14 v80), ∀ (k0_h1 : k0_cond1 i v0 = 1#1), ∀ (k0_h2 : k0_cond2 i v9 v14 = 1#1), ∀ (k0_h4 : k0_cond4 i v80 = 1#1), 1024 ∣ (k0_mult8 i v80).toNat := fun i v0 v9 v14 v80 k0_hw2 k0_h1 k0_h2 k0_h4 => k0_hw2.2 k0_h1 k0_h2 k0_h4

def k0_off9 (i : grid0.Coords) (v80 : BitVec 32) (v83 : BitVec 32) (v84 : BitVec 32) (c0_i32_56 : BitVec 32) : Fin 3 → Nat :=
  let c32_i32 : BitVec 32 := 32#32
  let v81 : BitVec 1 := Scalar.cmpi .slt v80 c32_i32
  let v85 : BitVec 32 := Scalar.select v81 v83 v84
  let c0_i32_63 : BitVec 32 := 0#32
  let arg0 : BitVec 32 := BitVec.ofNat 32 (i 0).val
  let c1_i32_53 : BitVec 32 := 1#32
  let v86 : BitVec 32 := Scalar.addi arg0 c1_i32_53
  let v87 : BitVec 32 := Scalar.select v81 arg0 v86
  let c1024_i32_55 : BitVec 32 := 1024#32
  let v91 : BitVec 32 := Scalar.muli v87 c1024_i32_55
  let v92 : BitVec 32 := Scalar.addi c0_i32_56 v91
  let v93 : BitVec 32 := v92
  ![v85.toNat, 0, v93.toNat]

def k0_chk3 (i : grid0.Coords) (v0 : BitVec 32) (v9 : BitVec 32) (v14 : BitVec 32) (v80 : BitVec 32) (v83 : BitVec 32) (v84 : BitVec 32) : Prop :=
  (∀ (k0_h1 : k0_cond1 i v0 = 1#1), ∀ (k0_h2 : k0_cond2 i v9 v14 = 1#1), ∀ (k0_h4 : k0_cond4 i v80 = 1#1), ∀ (r : Fin 2), ∀ a, (k0_off9 i v80 v83 v84 (BitVec.ofNat 32 (2048 * r.val))) a + S1x2048x1024.size a ≤ S32x2048x4096.size a)
theorem k0_off9_inb : ∀ (i : grid0.Coords) (v0 : BitVec 32) (v9 : BitVec 32) (v14 : BitVec 32) (v80 : BitVec 32) (v83 : BitVec 32) (v84 : BitVec 32) (k0_hw3 : k0_chk3 i v0 v9 v14 v80 v83 v84), ∀ (k0_h1 : k0_cond1 i v0 = 1#1), ∀ (k0_h2 : k0_cond2 i v9 v14 = 1#1), ∀ (k0_h4 : k0_cond4 i v80 = 1#1), ∀ (r : Fin 2), ∀ a, (k0_off9 i v80 v83 v84 (BitVec.ofNat 32 (2048 * r.val))) a + S1x2048x1024.size a ≤ S32x2048x4096.size a := fun i v0 v9 v14 v80 v83 v84 k0_hw3 k0_h1 k0_h2 k0_h4 r => k0_hw3 k0_h1 k0_h2 k0_h4 r

def k0_cond5 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S288 : Shape := ⟨1, ![288]⟩
abbrev S1 : Shape := ⟨1, ![1]⟩
abbrev S73728x2048 : Shape := ⟨2, ![73728, 2048]⟩
abbrev S32x1x4096 : Shape := ⟨3, ![32, 1, 4096]⟩
abbrev S32x2048x4096 : Shape := ⟨3, ![32, 2048, 4096]⟩
abbrev S288x256x2048 : Shape := ⟨3, ![288, 256, 2048]⟩
abbrev S_ : Shape := ⟨0, ![]⟩
abbrev S288x1 : Shape := ⟨2, ![288, 1]⟩
abbrev S288x2048x4096 : Shape := ⟨3, ![288, 2048, 4096]⟩
abbrev S288x256x4096 : Shape := ⟨3, ![288, 256, 4096]⟩
abbrev S288x1x4096 : Shape := ⟨3, ![288, 1, 4096]⟩
abbrev S288x1x1 : Shape := ⟨3, ![288, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S1, .i32⟩
  | .hbm, ⟨3, _⟩ => ⟨S1, .i32⟩
  | .hbm, ⟨4, _⟩ => ⟨S73728x2048, .f32⟩
  | .hbm, ⟨5, _⟩ => ⟨S32x1x4096, .f32⟩
  | .hbm, ⟨6, _⟩ => ⟨S32x2048x4096, .f32⟩
  | .hbm, ⟨7, _⟩ => ⟨S288x256x2048, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x2048x4096, .f32⟩
  | .hbm, ⟨17, _⟩ => ⟨S288x256x4096, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x1x4096, .f32⟩
  | .hbm, ⟨27, _⟩ => ⟨S288x256x4096, .f32⟩
  | .hbm, ⟨28, _⟩ => ⟨S288x256x4096, .f32⟩
  | .hbm, ⟨29, _⟩ => ⟨S288x256x2048, .f32⟩
  | .hbm, ⟨30, _⟩ => ⟨S288x256x2048, .f32⟩
  | .hbm, ⟨31, _⟩ => ⟨S_, .f32⟩
  | .hbm, ⟨32, _⟩ => ⟨S288x256x2048, .f32⟩
  | .hbm, ⟨33, _⟩ => ⟨S288x256x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S288x256x2048, .f32⟩
  | .hbm, ⟨38, _⟩ => ⟨S288x256x2048, .f32⟩
  | .hbm, ⟨39, _⟩ => ⟨S_, .f32⟩
  | .hbm, ⟨40, _⟩ => ⟨S288x256x2048, .f32⟩
  | .hbm, ⟨41, _⟩ => ⟨S288x256x2048, .f32⟩
  | .hbm, ⟨42, _⟩ => ⟨S_, .f32⟩
  | .hbm, ⟨43, _⟩ => ⟨S288x256x2048, .f32⟩
  | .hbm, ⟨44, _⟩ => ⟨S288x256x2048, .f32⟩
  | .hbm, ⟨45, _⟩ => ⟨S_, .f32⟩
  | .hbm, ⟨46, _⟩ => ⟨S288x256x2048, .f32⟩
  | .hbm, ⟨47, _⟩ => ⟨S288x256x2048, .f32⟩
  | .hbm, ⟨48, _⟩ => ⟨S288x256x2048, .f32⟩
  | .hbm, ⟨49, _⟩ => ⟨S288x256x2048, .f32⟩
  | .hbm, ⟨50, _⟩ => ⟨S_, .f32⟩
  | .hbm, ⟨51, _⟩ => ⟨S288x256x2048, .f32⟩
  | .hbm, ⟨52, _⟩ => ⟨S288x256x2048, .f32⟩
  | .hbm, ⟨53, _⟩ => ⟨S_, .f32⟩
  | .hbm, ⟨54, _⟩ => ⟨S288x256x2048, .f32⟩
  | .hbm, ⟨55, _⟩ => ⟨S288x256x2048, .f32⟩
  | .hbm, ⟨56, _⟩ => ⟨S288x256x2048, .f32⟩
  | .hbm, ⟨57, _⟩ => ⟨S288x256x2048, .f32⟩
  | .hbm, ⟨58, _⟩ => ⟨S288, .i32⟩
  | .hbm, ⟨59, _⟩ => ⟨S288, .i32⟩
  | .hbm, ⟨60, _⟩ => ⟨S288, .i1⟩
  | .hbm, ⟨61, _⟩ => ⟨S288x1x1, .i1⟩
  | .hbm, ⟨62, _⟩ => ⟨S_, .f32⟩
  | .hbm, ⟨63, _⟩ => ⟨S_, .f32⟩
  | .hbm, ⟨64, _⟩ => ⟨S288x256x2048, .i1⟩
  | .hbm, ⟨65, _⟩ => ⟨S288x256x2048, .f32⟩
  | .hbm, ⟨66, _⟩ => ⟨S288x256x2048, .f32⟩
  | .hbm, ⟨67, _⟩ => ⟨S73728x2048, .f32⟩
  | .hbm, ⟨68, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Proof.Spec.lean ====
/-
  What both programs compute, written over plain functions of `Fin` indices with values in the extended reals: the
  scalar maps of the two branches (the error-function gelu, the layer normalisation of a row, the causal mixing of a
  chunk, one attention head) and the gated sum that joins them.
-/
module

public import Idealize.ShloMosaic.Lib.Pointwise

@[expose] public section

noncomputable section

open Idealize.ShloMosaic

namespace Cert.Spec

/-- The gelu by the error function, `x / 2 · (1 + erf (x / √2))`, at the two printed constants. -/
def gelu (x : EReal) : EReal :=
  Ideal.ofBits .f32 0x3F000000#32 * x * (1 + (FloatOps.erf (F := Ideal) (φ := .f32) (x * Ideal.ofBits .f32 0x3F3504F3#32) : EReal))

/-- The logistic function. -/
def sigmoid (x : EReal) : EReal := Ideal.div 1 (1 + Ideal.exp (0 - x))

/-- The mean of a row of 1024. -/
def mean (f : Fin 1024 → EReal) : EReal := Ideal.div (∑ j, f j) (Ideal.ofBits .f32 0x44800000#32)

/-- A row of 1024 with its mean taken off and divided by its standard deviation. -/
def normal (f : Fin 1024 → EReal) (j : Fin 1024) : EReal :=
  (f j - mean f) * Ideal.rsqrt (mean (fun i => (f i - mean f) * (f i - mean f)) + Ideal.ofBits .f32 0x3727C5AC#32)

/-- The layer normalisation of a row: `normal`, scaled and shifted. -/
def layerNorm (f g b : Fin 1024 → EReal) (j : Fin 1024) : EReal := normal f j * g j + b j

/-- A weight of row `t`, kept at the places up to `t` and nothing past it. -/
def causal (t s : Fin 128) (x : EReal) : EReal := if s ≤ t then x else 0

/-- Token `t` of a chunk of 128 mixed with the tokens up to it, by the weights of row `t`. -/
def mix (w v : Fin 128 → EReal) (t : Fin 128) : EReal := ∑ s : Fin 128, causal t s (w s) * v s

/-- The scaled score of a query against a memory row. -/
def score (q k : Fin 256 → EReal) : EReal := (∑ d, q d * k d) * Ideal.ofBits .f32 0x3D800000#32

/-- The greatest of 256 scores. -/
def top (s : Fin 256 → EReal) : EReal := Finset.fold max (Ideal.ofBits .f32 0xFF800000#32) s Finset.univ

/-- The softmax weight of memory row `x`. -/
def weight (s : Fin 256 → EReal) (x : Fin 256) : EReal :=
  Ideal.div (Ideal.exp (s x - top s)) (∑ y, Ideal.exp (s y - top s))

/-- One attention head: one coordinate of the weighted sum of the memory's values. -/
def attend (q : Fin 256 → EReal) (k : Fin 256 → Fin 256 → EReal) (v : Fin 256 → EReal) : EReal :=
  ∑ x, weight (fun y => score q (k y)) x * v x

/-- One element of the joined branches: row `r`, column `n`, from the projected columns, the gates' columns, the memory,
    and the layer's parameters. Columns 2048 to 4095 of the projection are the two halves of the mixing branch, columns
    4096 to 5119 its queries; a memory row holds its keys, then its values; batch `b` owns rows 2048·b to 2048·b + 2047 and
    memory rows 256·b to 256·b + 255. -/
def cell (proj : Fin 16384 → Fin 6144 → EReal) (gates : Fin 16384 → Fin 7168 → EReal) (kv : Fin 2048 → Fin 2048 → EReal)
    (bg : Fin 6144 → EReal) (lg lb : Fin 1024 → EReal) (ws : Fin 8 → Fin 128 → Fin 128 → EReal) (bs : Fin 8 → Fin 128 → EReal)
    (wo wx : Fin 1024 → Fin 2048 → EReal) (gy : Fin 16384 → Fin 2048 → EReal) (r : Fin 16384) (n : Fin 2048) : EReal :=
  gy r n
    + sigmoid (gates r ⟨2048 + n, by omega⟩ + bg ⟨2048 + n, by omega⟩)
      * (∑ j : Fin 1024, gelu (proj r ⟨2048 + j, by omega⟩)
          * (mix (ws ⟨j / 128, by omega⟩ ⟨r % 128, by omega⟩)
              (fun s => layerNorm (fun i => gelu (proj ⟨r / 128 * 128 + s, by omega⟩ ⟨3072 + i, by omega⟩)) lg lb j) ⟨r % 128, by omega⟩
            + bs ⟨j / 128, by omega⟩ ⟨r % 128, by omega⟩)
          * wo j n)
    + sigmoid (gates r ⟨4096 + n, by omega⟩ + bg ⟨4096 + n, by omega⟩)
      * ∑ j : Fin 1024, attend (fun d => proj r ⟨4096 + (j / 256 * 256 + d), by omega⟩)
          (fun y d => kv ⟨r / 2048 * 256 + y, by omega⟩ ⟨j / 256 * 256 + d, by omega⟩)
          (fun y => kv ⟨r / 2048 * 256 + y, by omega⟩ ⟨1024 + j, by omega⟩)
          * wx j n

end Cert.Spec

end
-- ==== Proof.Tile.lean ====
/-
  What one grid step writes: the payloads of the step's tile, read at an index as `Spec` of the step's window contents,
  and the step's two scratch arrays (the mixed half, the attention), each of them written piece by piece and read back whole.
-/
module
public import proofs.«01_k».proof.Proof.Gen.KernelIdeal.Value
public import Idealize.ShloMosaic.Lib.Pipeline.ValueKit
public import Idealize.ShloMosaic.Lib.Pointwise
public import proofs.«01_k».proof.Proof.Spec
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The 32-bit comparison of two coordinates below 128 is the comparison of the coordinates. -/
theorem select_causal (t s : Fin 128) (x : EReal) :
    (Scalar.select (IntOp.cmpi CmpIPredicate.sge (BitVec.ofNat 32 ↑t) (BitVec.ofNat 32 ↑s)) x (0 : EReal) : EReal) = Spec.causal t s x := by
  unfold Spec.causal
  word_cmp
  rfl

/-- The first half, after gelu. -/
theorem pay1 (x : FVec Ideal S512x1024 .bf16) (r : Fin 512) (j : Fin 1024) :
    k0_pay1 (F := Ideal) x (ix2 r j) = Spec.gelu (x (ix2 r j)) := by
  pointwise [k0_pay1]; rfl

/-- The second half, after gelu, centred and scaled by its row's variance. -/
theorem pay4 (x : FVec Ideal S512x1024 .bf16) (r : Fin 512) (j : Fin 1024) :
    k0_pay4 (F := Ideal) x (ix2 r j) = Spec.normal (fun i => Spec.gelu (x (ix2 r i))) j := by
  pointwise [k0_pay4]; rfl

/-- The second half's layer normalisation, with its two parameter rows. -/
theorem pay5 (g b : FVec Ideal S1x1024 .f32) (x : FVec Ideal S512x1024 .bf16) (r : Fin 512) (j : Fin 1024) :
    k0_pay5 (F := Ideal) (k0_pay2 g) (k0_pay3 b) (k0_pay4 x) (ix2 r j)
      = Spec.layerNorm (fun i => Spec.gelu (x (ix2 r i))) (fun i => g (ix2 0 i)) (fun i => b (ix2 0 i)) j := by
  pointwise [k0_pay5, k0_pay2, k0_pay3, pay4]; rfl

/-- The written tile: the first branch's tile plus the two gated products of the scratch arrays. -/
theorem pay62 (s a : FVec Ideal S512x1024 .bf16) (wo wx : FVec Ideal S1024x2048 .bf16) (g1 g2 gy : FVec Ideal S512x2048 .bf16) (b1 b2 : FVec Ideal S1x2048 .f32) (r : Fin 512) (n : Fin 2048) :
  k0_pay62 (F := Ideal) (k0_pay54 s wo g1 b1) a wx g2 b2 gy (ix2 r n)
    = gy (ix2 r n) + Spec.sigmoid (g1 (ix2 r n) + b1 (ix2 0 n)) * (∑ x, s (ix2 r x) * wo (ix2 x n))
      + Spec.sigmoid (g2 (ix2 r n) + b2 (ix2 0 n)) * ∑ x, a (ix2 r x) * wx (ix2 x n) := by
  pointwise [k0_pay62, k0_pay54]; rfl

/-- The first half times the causally mixed second half: rows are mixed within groups of 128, by the matrix of their column's
    group of 128 columns. -/
def mixed (u : FVec Ideal S512x1024 .f32) (v : FVec Ideal S512x1024 .bf16) (w : FVec Ideal S8x128x128 .f32) (bs : FVec Ideal S128x1024 .f32) :
    FVec Ideal S512x1024 .bf16 := fun y =>
  u y * (Spec.mix (fun s => w (ix3 ⟨(y 1 : ℕ) / 128, by idx_bounds y; omega⟩ ⟨(y 0 : ℕ) % 128, by omega⟩ s))
      (fun s => v (ix2 ⟨(y 0 : ℕ) / 128 * 128 + s, by idx_bounds y; omega⟩ (y 1))) ⟨(y 0 : ℕ) % 128, by omega⟩
    + bs (ix2 ⟨(y 0 : ℕ) % 128, by omega⟩ (y 1)))

/-- The attention of a tile's queries over one batch's memory, four heads of 256 columns. -/
def heads (q : FVec Ideal S512x1024 .bf16) (k v : FVec Ideal S256x1024 .bf16) : FVec Ideal S512x1024 .bf16 := fun y =>
  Spec.attend (fun d => q (ix2 (y 0) ⟨(y 1 : ℕ) / 256 * 256 + d, by idx_bounds y; omega⟩))
    (fun x d => k (ix2 x ⟨(y 1 : ℕ) / 256 * 256 + d, by idx_bounds y; omega⟩)) (fun x => v (ix2 x (y 1)))

/-- One head's payload is the attention of its queries. -/
theorem head58 (q : FVec Ideal S512x256 .bf16) (k v : FVec Ideal S256x256 .bf16) (r : Fin 512) (j : Fin 256) :
    k0_pay58 (F := Ideal) q k v (ix2 r j)
      = Spec.attend (fun d => q (ix2 r d)) (fun y d => k (ix2 y d)) (fun x => v (ix2 x j)) := by
  pointwise [k0_pay58]; rfl

/-- The first head, printed in three payloads, is the same function. -/
theorem head57 (q : FVec Ideal S512x256 .bf16) (k v : FVec Ideal S256x256 .bf16) :
    k0_pay57 (F := Ideal) (k0_pay55 q k) (k0_pay56 q k) v = k0_pay58 q k v := rfl

/-- The third head, printed whole, is the same function. -/
theorem head59 (q : FVec Ideal S512x256 .bf16) (k v : FVec Ideal S256x256 .bf16) :
    k0_pay59 (F := Ideal) q k v = k0_pay58 q k v := rfl

/-- The fourth head, printed in two payloads, is the same function. -/
theorem head61 (q : FVec Ideal S512x256 .bf16) (k v : FVec Ideal S256x256 .bf16) :
    k0_pay61 (F := Ideal) (k0_pay60 q k v) = k0_pay58 q k v := by
  unfold k0_pay61 k0_pay60 k0_pay58
  simp only [shapeCast_self]

/-- `mixed` at an index whose row's place in its group is given. -/
theorem mixed_at (u : FVec Ideal S512x1024 .f32) (v : FVec Ideal S512x1024 .bf16) (w : FVec Ideal S8x128x128 .f32) (bs : FVec Ideal S128x1024 .f32)
    (y : S512x1024.Idx) (r : Fin 128) (h : (y 0 : ℕ) % 128 = r) :
    mixed u v w bs y = u y * (Spec.mix (fun s => w (ix3 ⟨(y 1 : ℕ) / 128, by clear h; idx_bounds y; omega⟩ r s))
      (fun s => v (ix2 ⟨(y 0 : ℕ) / 128 * 128 + s, by clear h; idx_bounds y; omega⟩ (y 1))) r + bs (ix2 r (y 1))) := by
  obtain ⟨r, hr⟩ := r
  subst h
  rfl

variable (m : (ℓ : Loc nD τ sig) → Buf (Elt Ideal) ℓ)

set_option maxHeartbeats 4000000 in
/-- What step `t` writes: the last payload of the two whole scratch arrays, each given by its closed form. -/
theorem tile (c : Dev nD) (t : Fin cfg0.N) : (dats m 0 c).flushed 16 t =
   k0_pay62 (F := Ideal) (k0_pay54 (mixed (k0_pay1 (iblk m c 0 t)) (k0_pay5 (k0_pay2 (iblk m c 4 t)) (k0_pay3 (iblk m c 5 t)) (k0_pay4 (iblk m c 1 t)))
       (iblk m c 6 t) (iblk m c 7 t)) (iblk m c 8 t) (X0_2 m c t) (iblk m c 3 t))
     (heads (iblk m c 9 t) (iblk m c 10 t) (iblk m c 11 t)) (iblk m c 14 t) (X0_12 m c t) (iblk m c 13 t) (iblk m c 15 t) := by
  rw [flushed16_A]
  frame_out
  refine congrArg₂ (fun s a => k0_pay62 (F := Ideal) (k0_pay54 s (iblk m c 8 t) (X0_2 m c t) (iblk m c 3 t)) a (iblk m c 14 t) (X0_12 m c t) (iblk m c 13 t) (iblk m c 15 t)) ?_ ?_
  · generalize k0_pay1 (F := Ideal) (iblk m c 0 t) = u
    refine funext fun (y : S512x1024.Idx) => ?_
    rw [View.readCov_eq_canon']
    canon_tiles x h
    all_goals
      simp only [Rect.idx_unit_val, Matrix.cons_val_zero, Matrix.cons_val_one, zero_add] at h0 h1
      idx_vars x
      rw [mixed_at _ _ _ _ y x0 (by omega)]
      pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, Spec.mix, select_causal]
      try simp (disch := omega) only [dif_pos, dif_neg]
      refine Ideal.mul_congr ?_ (Ideal.add_congr (Fin.sum_fin_congr fun s => Ideal.mul_congr (congrArg _ ?_) ?_) ?_)
      all_goals blk_ext []
  · refine funext fun (y : S512x1024.Idx) => ?_
    rw [View.readCov_eq_canon']
    canon_tiles x h
    all_goals
      simp only [Rect.idx_unit_val, Matrix.cons_val_zero, Matrix.cons_val_one, zero_add] at h0 h1
      first | rw [head61] | rw [head59] | rw [head57] | skip
      idx_vars x
      rw [head58]
      pointwise [heads, Spec.attend, Spec.weight, Spec.top, Spec.score]
      blk_point []

end Cert.KernelIdeal.Value

end
-- ==== Proof.Windows.lean ====
/-
  The windows of the mixing and attention call, read at an index of the argument arrays: step `t` of 32 works on rows
  512·t to 512·t + 511 and on the memory of batch `t / 4`.
-/
module
public import proofs.«01_k».proof.Proof.Gen.KernelIdeal.Value
public import Idealize.ShloMosaic.Lib.Pipeline.ValueKit
public import Idealize.ShloMosaic.Lib.Pointwise
public import proofs.«01_k».proof.Proof.Spec
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

variable (m : (ℓ : Loc nD τ sig) → Buf (Elt Ideal) ℓ)

/-- The grid has 32 steps. -/
theorem lt32 (t : Fin cfg0.N) : (t : ℕ) < 32 := t.isLt

/-- The block window 0 holds at step `t`. -/
theorem at0 : ∀ t : Fin cfg0.N, (cfg0.win 0).index t 0 = (t : ℕ) ∧ (cfg0.win 0).index t 1 = 2 :=
  (by decide +kernel : ∀ t : Fin grid0.N, win0_0.index t 0 = (t : ℕ) ∧ win0_0.index t 1 = 2)

/-- The block window 1 holds at step `t`. -/
theorem at1 : ∀ t : Fin cfg0.N, (cfg0.win 1).index t 0 = (t : ℕ) ∧ (cfg0.win 1).index t 1 = 3 :=
  (by decide +kernel : ∀ t : Fin grid0.N, win0_1.index t 0 = (t : ℕ) ∧ win0_1.index t 1 = 3)

/-- The block window 2 holds at step `t`. -/
theorem at2 : ∀ t : Fin cfg0.N, (cfg0.win 2).index t 0 = (t : ℕ) ∧ (cfg0.win 2).index t 1 = 1 :=
  (by decide +kernel : ∀ t : Fin grid0.N, win0_2.index t 0 = (t : ℕ) ∧ win0_2.index t 1 = 1)

/-- The block window 3 holds at step `t`. -/
theorem at3 : ∀ t : Fin cfg0.N, (cfg0.win 3).index t 0 = 0 ∧ (cfg0.win 3).index t 1 = 1 :=
  (by decide +kernel : ∀ t : Fin grid0.N, win0_3.index t 0 = 0 ∧ win0_3.index t 1 = 1)

/-- The block window 4 holds at step `t`. -/
theorem at4 : ∀ t : Fin cfg0.N, (cfg0.win 4).index t 0 = 0 ∧ (cfg0.win 4).index t 1 = 0 :=
  (by decide +kernel : ∀ t : Fin grid0.N, win0_4.index t 0 = 0 ∧ win0_4.index t 1 = 0)

/-- The block window 5 holds at step `t`. -/
theorem at5 : ∀ t : Fin cfg0.N, (cfg0.win 5).index t 0 = 0 ∧ (cfg0.win 5).index t 1 = 0 :=
  (by decide +kernel : ∀ t : Fin grid0.N, win0_5.index t 0 = 0 ∧ win0_5.index t 1 = 0)

/-- The block window 7 holds at step `t`. -/
theorem at7 : ∀ t : Fin cfg0.N, (cfg0.win 7).index t 0 = 0 ∧ (cfg0.win 7).index t 1 = 0 :=
  (by decide +kernel : ∀ t : Fin grid0.N, win0_7.index t 0 = 0 ∧ win0_7.index t 1 = 0)

/-- The block window 8 holds at step `t`. -/
theorem at8 : ∀ t : Fin cfg0.N, (cfg0.win 8).index t 0 = 0 ∧ (cfg0.win 8).index t 1 = 0 :=
  (by decide +kernel : ∀ t : Fin grid0.N, win0_8.index t 0 = 0 ∧ win0_8.index t 1 = 0)

/-- The block window 9 holds at step `t`. -/
theorem at9 : ∀ t : Fin cfg0.N, (cfg0.win 9).index t 0 = (t : ℕ) ∧ (cfg0.win 9).index t 1 = 4 :=
  (by decide +kernel : ∀ t : Fin grid0.N, win0_9.index t 0 = (t : ℕ) ∧ win0_9.index t 1 = 4)

/-- The block window 10 holds at step `t`. -/
theorem at10 : ∀ t : Fin cfg0.N, (cfg0.win 10).index t 0 = (t : ℕ) / 4 ∧ (cfg0.win 10).index t 1 = 0 :=
  (by decide +kernel : ∀ t : Fin grid0.N, win0_10.index t 0 = (t : ℕ) / 4 ∧ win0_10.index t 1 = 0)

/-- The block window 11 holds at step `t`. -/
theorem at11 : ∀ t : Fin cfg0.N, (cfg0.win 11).index t 0 = (t : ℕ) / 4 ∧ (cfg0.win 11).index t 1 = 1 :=
  (by decide +kernel : ∀ t : Fin grid0.N, win0_11.index t 0 = (t : ℕ) / 4 ∧ win0_11.index t 1 = 1)

/-- The block window 12 holds at step `t`. -/
theorem at12 : ∀ t : Fin cfg0.N, (cfg0.win 12).index t 0 = (t : ℕ) ∧ (cfg0.win 12).index t 1 = 2 :=
  (by decide +kernel : ∀ t : Fin grid0.N, win0_12.index t 0 = (t : ℕ) ∧ win0_12.index t 1 = 2)

/-- The block window 13 holds at step `t`. -/
theorem at13 : ∀ t : Fin cfg0.N, (cfg0.win 13).index t 0 = 0 ∧ (cfg0.win 13).index t 1 = 2 :=
  (by decide +kernel : ∀ t : Fin grid0.N, win0_13.index t 0 = 0 ∧ win0_13.index t 1 = 2)

/-- The block window 14 holds at step `t`. -/
theorem at14 : ∀ t : Fin cfg0.N, (cfg0.win 14).index t 0 = 0 ∧ (cfg0.win 14).index t 1 = 0 :=
  (by decide +kernel : ∀ t : Fin grid0.N, win0_14.index t 0 = 0 ∧ win0_14.index t 1 = 0)

/-- The block window 15 holds at step `t`. -/
theorem at15 : ∀ t : Fin cfg0.N, (cfg0.win 15).index t 0 = (t : ℕ) ∧ (cfg0.win 15).index t 1 = 0 :=
  (by decide +kernel : ∀ t : Fin grid0.N, win0_15.index t 0 = (t : ℕ) ∧ win0_15.index t 1 = 0)

/-- The block window 16 holds at step `t`. -/
theorem at16 : ∀ t : Fin cfg0.N, (cfg0.win 16).index t 0 = (t : ℕ) ∧ (cfg0.win 16).index t 1 = 0 :=
  (by decide +kernel : ∀ t : Fin grid0.N, win0_16.index t 0 = (t : ℕ) ∧ win0_16.index t 1 = 0)

/-- The block window 6 holds at every step. -/
theorem at6 : ∀ t : Fin cfg0.N, (cfg0.win 6).index t 0 = 0 ∧ (cfg0.win 6).index t 1 = 0 ∧ (cfg0.win 6).index t 2 = 0 :=
  (by decide +kernel : ∀ t : Fin grid0.N, win0_6.index t 0 = 0 ∧ win0_6.index t 1 = 0 ∧ win0_6.index t 2 = 0)

/-- The first half's columns. -/
theorem read0 (c : Dev nD) (t : Fin cfg0.N) (r : Fin 512) (j : Fin 1024) : (iblk m c 0 t (ix2 r j) : EReal) = m ((c.tc : Thread nD τ).loc main_arg0) (ix2 ⟨512 * t + r, by have := lt32 t; omega⟩ ⟨2048 + j, by omega⟩) := by
  have ht := lt32 t
  blk_ext [iblk, V, (at0 t).1, (at0 t).2]

/-- The second half's columns. -/
theorem read1 (c : Dev nD) (t : Fin cfg0.N) (r : Fin 512) (j : Fin 1024) : (iblk m c 1 t (ix2 r j) : EReal) = m ((c.tc : Thread nD τ).loc main_arg0) (ix2 ⟨512 * t + r, by have := lt32 t; omega⟩ ⟨3072 + j, by omega⟩) := by
  have ht := lt32 t
  blk_ext [iblk, V, (at1 t).1, (at1 t).2]

/-- The queries' columns. -/
theorem read9 (c : Dev nD) (t : Fin cfg0.N) (r : Fin 512) (j : Fin 1024) : (iblk m c 9 t (ix2 r j) : EReal) = m ((c.tc : Thread nD τ).loc main_arg0) (ix2 ⟨512 * t + r, by have := lt32 t; omega⟩ ⟨4096 + j, by omega⟩) := by
  have ht := lt32 t
  blk_ext [iblk, V, (at9 t).1, (at9 t).2]

/-- The memory's keys. -/
theorem read10 (c : Dev nD) (t : Fin cfg0.N) (x : Fin 256) (j : Fin 1024) : (iblk m c 10 t (ix2 x j) : EReal) = m ((c.tc : Thread nD τ).loc main_arg2) (ix2 ⟨(t : ℕ) / 4 * 256 + x, by have := lt32 t; omega⟩ ⟨j, by omega⟩) := by
  have ht := lt32 t
  blk_ext [iblk, V, (at10 t).1, (at10 t).2]

/-- The memory's values. -/
theorem read11 (c : Dev nD) (t : Fin cfg0.N) (x : Fin 256) (j : Fin 1024) : (iblk m c 11 t (ix2 x j) : EReal) = m ((c.tc : Thread nD τ).loc main_arg2) (ix2 ⟨(t : ℕ) / 4 * 256 + x, by have := lt32 t; omega⟩ ⟨1024 + j, by omega⟩) := by
  have ht := lt32 t
  blk_ext [iblk, V, (at11 t).1, (at11 t).2]

/-- The first branch's tile. -/
theorem read15 (c : Dev nD) (t : Fin cfg0.N) (r : Fin 512) (n : Fin 2048) : (iblk m c 15 t (ix2 r n) : EReal) = m ((c.tc : Thread nD τ).loc main_arg10) (ix2 ⟨512 * t + r, by have := lt32 t; omega⟩ n) := by
  have ht := lt32 t
  blk_ext [iblk, V, (at15 t).1, (at15 t).2]

/-- The normalisation's scale. -/
theorem read4 (c : Dev nD) (t : Fin cfg0.N) (j : Fin 1024) : (iblk m c 4 t (ix2 0 j) : EReal) = m ((c.tc : Thread nD τ).loc main_arg4) (ix2 0 j) := by
  have ht := lt32 t
  blk_ext! [iblk, (at4 t).1, (at4 t).2]

/-- The normalisation's shift. -/
theorem read5 (c : Dev nD) (t : Fin cfg0.N) (j : Fin 1024) : (iblk m c 5 t (ix2 0 j) : EReal) = m ((c.tc : Thread nD τ).loc main_arg5) (ix2 0 j) := by
  have ht := lt32 t
  blk_ext! [iblk, (at5 t).1, (at5 t).2]

/-- The second gate's bias. -/
theorem read3 (c : Dev nD) (t : Fin cfg0.N) (n : Fin 2048) : (iblk m c 3 t (ix2 0 n) : EReal) = m ((c.tc : Thread nD τ).loc main_arg3) (ix2 0 ⟨2048 + n, by omega⟩) := by
  have ht := lt32 t
  blk_ext! [iblk, (at3 t).1, (at3 t).2]

/-- The third gate's bias. -/
theorem read13 (c : Dev nD) (t : Fin cfg0.N) (n : Fin 2048) : (iblk m c 13 t (ix2 0 n) : EReal) = m ((c.tc : Thread nD τ).loc main_arg3) (ix2 0 ⟨4096 + n, by omega⟩) := by
  have ht := lt32 t
  blk_ext! [iblk, (at13 t).1, (at13 t).2]

/-- The mixing branch's output matrix. -/
theorem read8 (c : Dev nD) (t : Fin cfg0.N) (j : Fin 1024) (n : Fin 2048) : (iblk m c 8 t (ix2 j n) : EReal) = m ((c.tc : Thread nD τ).loc main_arg8) (ix3 0 j n) := by
  have ht := lt32 t
  blk_ext! [iblk, (at8 t).1, (at8 t).2]

/-- The attention's output matrix. -/
theorem read14 (c : Dev nD) (t : Fin cfg0.N) (j : Fin 1024) (n : Fin 2048) : (iblk m c 14 t (ix2 j n) : EReal) = m ((c.tc : Thread nD τ).loc main_arg9) (ix3 0 j n) := by
  have ht := lt32 t
  blk_ext! [iblk, (at14 t).1, (at14 t).2]

/-- The mixing matrices. -/
theorem read6 (c : Dev nD) (t : Fin cfg0.N) (g : Fin 8) (x s : Fin 128) : (iblk m c 6 t (ix3 g x s) : EReal) = m ((c.tc : Thread nD τ).loc main_arg6) (ix4 0 g x s) := by
  have ht := lt32 t
  blk_ext! [iblk, (at6 t).1, (at6 t).2.1, (at6 t).2.2]

/-- The mixing bias: its transpose, every column repeated 128 times. -/
theorem read7 (c : Dev nD) (t : Fin cfg0.N) (x : Fin 128) (j : Fin 1024) : (iblk m c 7 t (ix2 x j) : EReal) = m ((c.tc : Thread nD τ).loc main_arg7) (ix3 0 ⟨j / 128, by omega⟩ x) := by
  have ht := lt32 t
  blk_ext! [iblk, (at7 t).1, (at7 t).2]

/-- The gate columns from 2048. -/
theorem read2 (c : Dev nD) (t : Fin cfg0.N) (r : Fin 512) (n : Fin 2048) : (X0_2 m c t (ix2 r n) : EReal) = m ((c.tc : Thread nD τ).loc main_arg1) (ix2 ⟨512 * t + r, by have := lt32 t; omega⟩ ⟨2048 + n, by omega⟩) := by
  have ht := lt32 t
  unfold X0_2 Pipeline.Window.fill
  rw [dif_pos (moved0_2 t _)]
  blk_ext [iblk, V, (at2 t).1, (at2 t).2]

/-- The gate columns from 4096. -/
theorem read12 (c : Dev nD) (t : Fin cfg0.N) (r : Fin 512) (n : Fin 2048) : (X0_12 m c t (ix2 r n) : EReal) = m ((c.tc : Thread nD τ).loc main_arg1) (ix2 ⟨512 * t + r, by have := lt32 t; omega⟩ ⟨4096 + n, by omega⟩) := by
  have ht := lt32 t
  unfold X0_12 Pipeline.Window.fill
  rw [dif_pos (moved0_12 t _)]
  blk_ext [iblk, V, (at12 t).1, (at12 t).2]

end Cert.KernelIdeal.Value

end
-- ==== Proof.Array.lean ====
/-
  What the mixing and attention call's output array holds after the run: `Spec.cell` of the arguments at every index.
-/
module
public import proofs.«01_k».proof.Proof.Gen.KernelIdeal.Value
public import Idealize.ShloMosaic.Lib.Pipeline.ValueKit
public import Idealize.ShloMosaic.Lib.Pointwise
public import proofs.«01_k».proof.Proof.Tile
public import proofs.«01_k».proof.Proof.Windows
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- Every element of the output array, from the launch's argument arrays. -/
def result (m : (ℓ : Loc nD τ sig) → Buf (Elt Ideal) ℓ) (c : Dev nD) (r : Fin 16384) (n : Fin 2048) : EReal :=
  Spec.cell (fun r j => m ((c.tc : Thread nD τ).loc main_arg0) (ix2 r j)) (fun r j => m ((c.tc : Thread nD τ).loc main_arg1) (ix2 r j))
    (fun r j => m ((c.tc : Thread nD τ).loc main_arg2) (ix2 r j)) (fun j => m ((c.tc : Thread nD τ).loc main_arg3) (ix2 0 j))
    (fun j => m ((c.tc : Thread nD τ).loc main_arg4) (ix2 0 j)) (fun j => m ((c.tc : Thread nD τ).loc main_arg5) (ix2 0 j))
    (fun g t s => m ((c.tc : Thread nD τ).loc main_arg6) (ix4 0 g t s)) (fun g t => m ((c.tc : Thread nD τ).loc main_arg7) (ix3 0 g t))
    (fun j n => m ((c.tc : Thread nD τ).loc main_arg8) (ix3 0 j n)) (fun j n => m ((c.tc : Thread nD τ).loc main_arg9) (ix3 0 j n))
    (fun r n => m ((c.tc : Thread nD τ).loc main_arg10) (ix2 r n)) r n

variable (m : (ℓ : Loc nD τ sig) → Buf (Elt Ideal) ℓ)

/-- One step's attention row, from the arguments. -/
theorem heads_read (c : Dev nD) (t : Fin cfg0.N) (r : Fin 512) (j : Fin 1024) :
    heads (iblk m c 9 t) (iblk m c 10 t) (iblk m c 11 t) (ix2 r j)
      = Spec.attend (fun d => m ((c.tc : Thread nD τ).loc main_arg0) (ix2 ⟨512 * t + r, by have := lt32 t; omega⟩ ⟨4096 + (j / 256 * 256 + d), by omega⟩))
          (fun y d => m ((c.tc : Thread nD τ).loc main_arg2) (ix2 ⟨(t : ℕ) / 4 * 256 + y, by have := lt32 t; omega⟩ ⟨j / 256 * 256 + d, by omega⟩))
          (fun y => m ((c.tc : Thread nD τ).loc main_arg2) (ix2 ⟨(t : ℕ) / 4 * 256 + y, by have := lt32 t; omega⟩ ⟨1024 + j, by omega⟩)) := by
  have hq := fun (j : Fin 1024) => read9 m c t r j
  have hk := fun x (j : Fin 1024) => read10 m c t x j
  have hv := fun x (j : Fin 1024) => read11 m c t x j
  unfold heads
  exact congr (congrArg₂ Spec.attend (funext fun d => hq _) (funext fun y => funext fun d => hk _ _)) (funext fun y => hv _ _)

/-- One step's mixed row, from the arguments. -/
theorem mixed_read (c : Dev nD) (t : Fin cfg0.N) (r : Fin 512) (j : Fin 1024) :
    mixed (k0_pay1 (iblk m c 0 t)) (k0_pay5 (k0_pay2 (iblk m c 4 t)) (k0_pay3 (iblk m c 5 t)) (k0_pay4 (iblk m c 1 t)))
       (iblk m c 6 t) (iblk m c 7 t) (ix2 r j)
      = Spec.gelu (m ((c.tc : Thread nD τ).loc main_arg0) (ix2 ⟨512 * t + r, by have := lt32 t; omega⟩ ⟨2048 + j, by omega⟩))
        * (Spec.mix (fun s => m ((c.tc : Thread nD τ).loc main_arg6) (ix4 0 ⟨j / 128, by omega⟩ ⟨(r : ℕ) % 128, by omega⟩ s))
            (fun s => Spec.layerNorm
              (fun i => Spec.gelu (m ((c.tc : Thread nD τ).loc main_arg0) (ix2 ⟨512 * t + ((r : ℕ) / 128 * 128 + s), by have := lt32 t; omega⟩ ⟨3072 + i, by omega⟩)))
              (fun i => m ((c.tc : Thread nD τ).loc main_arg4) (ix2 0 i)) (fun i => m ((c.tc : Thread nD τ).loc main_arg5) (ix2 0 i)) j)
            ⟨(r : ℕ) % 128, by omega⟩
          + m ((c.tc : Thread nD τ).loc main_arg7) (ix3 0 ⟨j / 128, by omega⟩ ⟨(r : ℕ) % 128, by omega⟩)) := by
  unfold mixed
  refine congrArg₂ (· * ·) ((pay1 _ r j).trans (congrArg Spec.gelu (read0 m c t r j)))
    (congrArg₂ (· + ·) (congrArg₂ (fun w v => Spec.mix w v _) (funext fun s => read6 m c t _ _ s) (funext fun s => ?_)) (read7 m c t _ j))
  refine (pay5 _ _ _ _ j).trans ?_
  exact congr (congr (congrArg₂ Spec.layerNorm (funext fun i => congrArg Spec.gelu (read1 m c t _ i)) (funext fun i => read4 m c t i))
    (funext fun i => read5 m c t i)) rfl

set_option maxHeartbeats 1000000 in
/-- The output array after the run. -/
theorem array (c : Dev nD) : (dats m 0 c).arrAt 16 cfg0.N = fun i : S16384x2048.Idx => result m c (i 0) (i 1) := by
  refine (dats m 0 c).arrAt_eq_of_emb 16 _ (fun t hf (y : S512x2048.Idx) => ?_) ((by decide +kernel : (cfg0.win 16).Covers).cover _ (Memref.isWhole_whole _))
  have ht := lt32 t
  change (dats m 0 c).flushed 16 t y = result m c (((cfg0.win 16).blk t).view.emb y 0) (((cfg0.win 16).blk t).view.emb y 1)
  have h0 : ((cfg0.win 16).blk t).view.emb y 0 = (⟨512 * t + (y 0 : ℕ), by idx_bounds y; omega⟩ : Fin 16384) := Fin.ext
    (show _ = 512 * (t : ℕ) + (y 0 : ℕ) by blk_simp [(at16 t).1]; omega)
  have h1 : ((cfg0.win 16).blk t).view.emb y 1 = (y 1 : Fin 2048) := Fin.ext (by blk_simp [(at16 t).2])
  rw [h0, h1, tile]
  idx_vars y
  rw [pay62]
  simp only [heads_read, mixed_read, read15, read8, read14, read2, read3, read12, read13]
  unfold result Spec.cell
  have e1 : ∀ s : ℕ, (512 * (t : ℕ) + y0) / 128 * 128 + s = 512 * t + ((y0 : ℕ) / 128 * 128 + s) := fun s => by omega
  have e2 : (512 * (t : ℕ) + y0) % 128 = (y0 : ℕ) % 128 := by omega
  have e3 : (512 * (t : ℕ) + y0) / 2048 = (t : ℕ) / 4 := by omega
  simp only [Matrix.cons_val_zero, Matrix.cons_val_one, e1, e2, e3]

end Cert.KernelIdeal.Value

end
-- ==== Proof.RefValue.lean ====
/-
  The reference's result, read at an index: its term is cut at the values the layer names (the gelu of the two halves,
  the normalised half, the causal mixing, the gates, the scores, the attention), and each is read as `Spec` of its
  operands.
-/
module

public import proofs.«01_k».proof.Proof.Spec
public import proofs.«01_k».proof.Proof.Gen.ReferenceIdeal.Run
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The gelu of the two halves of the second branch's columns. -/
def GEL (a0 : FVec Ideal S16384x6144 .bf16) : FVec Ideal S16384x2048 .f32 :=
  mulf (mulf (broadcastInDim S16384x2048 ![] bcast_S_S16384x2048 (constant S_ .f32 0x3F000000#32)) (extf .f32 (extractStridedSlice S16384x2048 ![0, 2048] a0 slices_S16384x6144_S16384x2048_0_2048) bitsLt_bf16_f32)) (addf (broadcastInDim S16384x2048 ![] bcast_S_S16384x2048 (constant S_ .f32 0x3F800000#32)) (Host.erf (mulf (extf .f32 (extractStridedSlice S16384x2048 ![0, 2048] a0 slices_S16384x6144_S16384x2048_0_2048) bitsLt_bf16_f32) (broadcastInDim S16384x2048 ![] bcast_S_S16384x2048 (constant S_ .f32 0x3F3504F3#32)))))

/-- The second half normalised along its row, scaled and shifted. -/
def VN (GEL : FVec Ideal S16384x2048 .f32) (a4 a5 : FVec Ideal S1x1024 .f32) : FVec Ideal S16384x1024 .f32 :=
  addf (mulf (mulf (subf (extractStridedSlice S16384x1024 ![0, 1024] GEL slices_S16384x2048_S16384x1024_0_1024) (broadcastInDim S16384x1024 ![0, 1] bcast_S16384x1_S16384x1024_0_1 (Host.divf (broadcastInDim S16384x1 ![0] bcast_S16384_S16384x1_0 (Host.reduceAdd (extractStridedSlice S16384x1024 ![0, 1024] GEL slices_S16384x2048_S16384x1024_0_1024) (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf (extractStridedSlice S16384x1024 ![0, 1024] GEL slices_S16384x2048_S16384x1024_0_1024) (broadcastInDim S16384x1024 ![0, 1] bcast_S16384x1_S16384x1024_0_1 (Host.divf (broadcastInDim S16384x1 ![0] bcast_S16384_S16384x1_0 (Host.reduceAdd (extractStridedSlice S16384x1024 ![0, 1024] GEL slices_S16384x2048_S16384x1024_0_1024) (constant S_ .f32 0x00000000#32) reducesTo_S16384x1024_S16384_d1 h_S_)) (broadcastInDim S16384x1 ![] bcast_S_S16384x1 (constant S_ .f32 0x44800000#32))))) (subf (extractStridedSlice S16384x1024 ![0, 1024] GEL slices_S16384x2048_S16384x1024_0_1024) (broadcastInDim S16384x1024 ![0, 1] bcast_S16384x1_S16384x1024_0_1 (Host.divf (broadcastInDim S16384x1 ![0] bcast_S16384_S16384x1_0 (Host.reduceAdd (extractStridedSlice S16384x1024 ![0, 1024] GEL slices_S16384x2048_S16384x1024_0_1024) (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 a4)) (broadcastInDim S16384x1024 ![0, 1] bcast_S1x1024_S16384x1024_0_1 a5)

/-- The causal mixing of each chunk of 128 rows, by the weights of the column's group, and its bias. -/
def SP (VN : FVec Ideal S16384x1024 .f32) (a6 : FVec Ideal S1x8x128x128 .f32) (a7 : FVec Ideal S1x8x128 .f32) : FVec Ideal S16384x1024 .f32 :=
  shapeCast _ (addf (transpose S8x16x128x8x128 [1, 2, 4, 0, 3] (Host.dotGeneral dot_S8x16x128x8x128_S8x128x128_S8x8x16x128x128_2_2_014_1_3_0 none (shapeCast _ VN shapeCasts_S16384x1024_S8x16x128x8x128) (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ a6 shapeCasts_S1x8x128x128_S8x128x128) (broadcastInDim S8x128x128 ![] bcast_S_S8x128x128 (id (constant S_ .f32 0x00000000#32))))) transposes_S8x8x16x128x128_S8x16x128x8x128_1_2_4_0_3) (broadcastInDim S8x16x128x8x128 ![0, 1, 2, 3, 4] bcast_S1x1x128x8x1_S8x16x128x8x128_0_1_2_3_4 (broadcastInDim S1x1x128x8x1 ![2, 3] bcast_S128x8_S1x1x128x8x1_2_3 (transpose S128x8 [1, 0] (shapeCast _ a7 shapeCasts_S1x8x128_S8x128) transposes_S8x128_S128x8_1_0)))) shapeCasts_S8x16x128x8x128_S16384x1024

/-- The three gates of a row. -/
def SIG (a1 : FVec Ideal S16384x7168 .bf16) (a3 : FVec Ideal S1x6144 .f32) : FVec Ideal S16384x3x2048 .f32 :=
  shapeCast _ (Host.divf (broadcastInDim S16384x6144 ![] bcast_S_S16384x6144 (constant S_ .f32 0x3F800000#32)) (addf (broadcastInDim S16384x6144 ![] bcast_S_S16384x6144 (constant S_ .f32 0x3F800000#32)) (Host.exp (Host.negf (addf (extf .f32 (extractStridedSlice S16384x6144 ![0, 0] a1 slices_S16384x7168_S16384x6144_0_0) bitsLt_bf16_f32) (broadcastInDim S16384x6144 ![0, 1] bcast_S1x6144_S16384x6144_0_1 a3)))))) shapeCasts_S16384x6144_S16384x3x2048

/-- The scaled scores of every query against its batch's memory, per head. -/
def SC (a0 : FVec Ideal S16384x6144 .bf16) (a2 : FVec Ideal S2048x2048 .bf16) : FVec Ideal S8x4x2048x256 .f32 :=
  mulf (Host.dotGeneral dot_S8x2048x4x256_S8x256x4x256_S8x4x2048x256_3_3_1_1_02_02 none (shapeCast _ (extf .f32 (extractStridedSlice S16384x1024 ![0, 4096] a0 slices_S16384x6144_S16384x1024_0_4096) bitsLt_bf16_f32) shapeCasts_S16384x1024_S8x2048x4x256) (shapeCast _ (extf .f32 (extractStridedSlice S2048x1024 ![0, 0] a2 slices_S2048x2048_S2048x1024_0_0) bitsLt_bf16_f32) shapeCasts_S2048x1024_S8x256x4x256)) (broadcastInDim S8x4x2048x256 ![] bcast_S_S8x4x2048x256 (constant S_ .f32 0x3D800000#32))

/-- The greatest score of each query. -/
def MX (SC : FVec Ideal S8x4x2048x256 .f32) : FVec Ideal S8x4x2048 .f32 :=
  Host.reduce FloatOps.maximumf SC (constant S_ .f32 0xFF800000#32) reducesTo_S8x4x2048x256_S8x4x2048_d3 h_S_

/-- The exponentials of the scores less their greatest. -/
def EX (SC : FVec Ideal S8x4x2048x256 .f32) (MX : FVec Ideal S8x4x2048 .f32) : FVec Ideal S8x4x2048x256 .f32 :=
  Host.exp (subf SC (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) MX))))

/-- The attention's rows, the heads side by side. -/
def ATT (EX : FVec Ideal S8x4x2048x256 .f32) (a2 : FVec Ideal S2048x2048 .bf16) : FVec Ideal S16384x1024 .f32 :=
  shapeCast _ (transpose S8x2048x4x256 [0, 3, 1, 2] (Host.dotGeneral dot_S8x256x4x256_S8x4x2048x256_S8x4x256x2048_1_3_3_2_02_01 none (shapeCast _ (extf .f32 (extractStridedSlice S2048x1024 ![0, 1024] a2 slices_S2048x2048_S2048x1024_0_1024) bitsLt_bf16_f32) shapeCasts_S2048x1024_S8x256x4x256) (Host.divf EX (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd EX (constant S_ .f32 0x00000000#32) reducesTo_S8x4x2048x256_S8x4x2048_d3 h_S_))))) transposes_S8x4x256x2048_S8x2048x4x256_0_3_1_2) shapeCasts_S8x2048x4x256_S16384x1024

/-- The gated sum of the branches. -/
def JOIN (GEL : FVec Ideal S16384x2048 .f32) (SP ATT : FVec Ideal S16384x1024 .f32) (SIG : FVec Ideal S16384x3x2048 .f32)
    (a8 a9 : FVec Ideal S1x1024x2048 .f32) (a10 : FVec Ideal S16384x2048 .bf16) : FVec Ideal S16384x2048 .bf16 :=
  truncf .bf16 (addf (addf (extf .f32 a10 bitsLt_bf16_f32) (mulf (shapeCast _ (extractStridedSlice S16384x1x2048 ![0, 1, 0] SIG slices_S16384x3x2048_S16384x1x2048_0_1_0) shapeCasts_S16384x1x2048_S16384x2048) (Host.dotGeneral dot_S16384x1024_S1024x2048_S16384x2048_1_0_0_1_n_n none (mulf (extractStridedSlice S16384x1024 ![0, 0] GEL slices_S16384x2048_S16384x1024_0_0) SP) (shapeCast _ a8 shapeCasts_S1x1024x2048_S1024x2048)))) (mulf (shapeCast _ (extractStridedSlice S16384x1x2048 ![0, 2, 0] SIG slices_S16384x3x2048_S16384x1x2048_0_2_0) shapeCasts_S16384x1x2048_S16384x2048) (Host.dotGeneral dot_S16384x1024_S1024x2048_S16384x2048_1_0_0_1_n_n none ATT (shapeCast _ a9 shapeCasts_S1x1024x2048_S1024x2048)))) bitsLt_bf16_f32

/-- The gelu's argument is the projection's column, 2048 columns along. -/
theorem GEL_at (a0 : FVec Ideal S16384x6144 .bf16) (r : Fin 16384) (j : Fin 2048) :
    GEL a0 (ix2 r j) = Spec.gelu (a0 (ix2 r ⟨2048 + j, by omega⟩)) := by
  pointwise [GEL]
  rfl

/-- The layer normalisation at an element, of the second half of a row. -/
theorem VN_at (x : FVec Ideal S16384x2048 .f32) (a4 a5 : FVec Ideal S1x1024 .f32) (r : Fin 16384) (j : Fin 1024) :
    VN x a4 a5 (ix2 r j)
      = Spec.layerNorm (fun i => x (ix2 r ⟨1024 + i, by omega⟩)) (fun i => a4 (ix2 0 i)) (fun i => a5 (ix2 0 i)) j := by
  pointwise [VN, Spec.layerNorm, Spec.normal, Spec.mean]

/-- The reference's mask, a bit chosen by the 32-bit comparison of the two places, keeps what `causal` keeps. -/
theorem select_causal (t s : Fin 128) (x : EReal) :
    (Scalar.select (Scalar.select (IntOp.cmpi CmpIPredicate.sge (IntOp.addi (BitVec.ofNat 32 ↑t) 0#32) (BitVec.ofNat 32 ↑s)) 1#1 0#1) x
      (0 : EReal) : EReal) = Spec.causal t s x := by
  unfold Spec.causal
  rw [show IntOp.addi (BitVec.ofNat 32 (t : ℕ)) 0#32 = BitVec.ofNat 32 (t : ℕ) from BitVec.add_zero _]
  word_cmp
  simp only [Fin.le_def]
  by_cases h : (s : ℕ) ≤ t <;> simp [h, Scalar.select]

/-- The causal mixing at an element: the rows of its chunk up to its own, and the bias. -/
theorem SP_at (x : FVec Ideal S16384x1024 .f32) (a6 : FVec Ideal S1x8x128x128 .f32) (a7 : FVec Ideal S1x8x128 .f32)
    (r : Fin 16384) (j : Fin 1024) :
    SP x a6 a7 (ix2 r j)
      = Spec.mix (fun s => a6 (ix4 0 ⟨j / 128, by omega⟩ ⟨r % 128, by omega⟩ s))
          (fun s => x (ix2 ⟨r / 128 * 128 + s, by omega⟩ j)) ⟨r % 128, by omega⟩ + a7 (ix3 0 ⟨j / 128, by omega⟩ ⟨r % 128, by omega⟩) := by
  pointwise [SP]
  refine congrArg (· + _) (Finset.sum_congr rfl fun s _ => ?_)
  rw [mul_comm]
  refine congrArg₂ (· * ·) ?_ (congrArg x ?_)
  · refine Eq.trans ?_ (select_causal ⟨r % 128, by omega⟩ s _)
    pointwise [id]
  · blk_ext []

/-- A branch's gate at an element. -/
theorem SIG_at (a1 : FVec Ideal S16384x7168 .bf16) (a3 : FVec Ideal S1x6144 .f32) (r : Fin 16384) (k : Fin 3) (n : Fin 2048) :
    SIG a1 a3 (ix3 r k n) = Spec.sigmoid (a1 (ix2 r ⟨k * 2048 + n, by omega⟩) + a3 (ix2 0 ⟨k * 2048 + n, by omega⟩)) := by
  pointwise [SIG, Spec.sigmoid]
  rw [zero_sub]

/-- An attention score at an element: a query against a memory key. -/
theorem SC_at (a0 : FVec Ideal S16384x6144 .bf16) (a2 : FVec Ideal S2048x2048 .bf16) (b : Fin 8) (h : Fin 4) (r : Fin 2048) (x : Fin 256) :
    SC a0 a2 (ix4 b h r x)
      = Spec.score (fun d => a0 (ix2 ⟨b * 2048 + r, by omega⟩ ⟨4096 + (h * 256 + d), by omega⟩))
          (fun d => a2 (ix2 ⟨b * 256 + x, by omega⟩ ⟨h * 256 + d, by omega⟩)) := by
  pointwise [SC, Spec.score]

/-- A maximum over the last axis of a rank-four array, read at an index. -/
theorem hostMax_last {n0 n1 n2 n3 : ℕ} {u : Shape} (v : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) v init h hu (ix3 a b c)
      = Finset.fold max (init (Shape.Idx.first hu)) (fun k => v (ix4 a b c k)) Finset.univ := by
  pointwise

/-- The largest score of a query. -/
theorem MX_at (s : FVec Ideal S8x4x2048x256 .f32) (b : Fin 8) (h : Fin 4) (r : Fin 2048) :
    MX s (ix3 b h r) = Spec.top fun y => s (ix4 b h r y) :=
  hostMax_last s _ _ _ b h r

/-- The exponential of a score, less the largest. -/
theorem EX_at (s : FVec Ideal S8x4x2048x256 .f32) (x : FVec Ideal S8x4x2048 .f32) (b : Fin 8) (h : Fin 4) (r : Fin 2048) (y : Fin 256) :
    EX s x (ix4 b h r y) = Ideal.exp (s (ix4 b h r y) - max (Ideal.ofBits .f32 0xFF800000#32) (x (ix3 b h r))) := by
  pointwise [EX]

/-- The attention at an element: the memory's values, weighted. -/
theorem ATT_at (e : FVec Ideal S8x4x2048x256 .f32) (a2 : FVec Ideal S2048x2048 .bf16) (r : Fin 16384) (j : Fin 1024) :
    ATT e a2 (ix2 r j)
      = ∑ x : Fin 256, Ideal.div (e (ix4 ⟨r / 2048, by omega⟩ ⟨j / 256, by omega⟩ ⟨r % 2048, by omega⟩ x))
          (∑ y : Fin 256, e (ix4 ⟨r / 2048, by omega⟩ ⟨j / 256, by omega⟩ ⟨r % 2048, by omega⟩ y))
        * a2 (ix2 ⟨r / 2048 * 256 + x, by omega⟩ ⟨1024 + j, by omega⟩) := by
  pointwise [ATT]
  exact Finset.sum_congr rfl fun x _ => mul_comm _ _

/-- The gated sum of the branches at an element. -/
theorem JOIN_at (g : FVec Ideal S16384x2048 .f32) (s a : FVec Ideal S16384x1024 .f32) (k : FVec Ideal S16384x3x2048 .f32)
    (a8 a9 : FVec Ideal S1x1024x2048 .f32) (a10 : FVec Ideal S16384x2048 .bf16) (r : Fin 16384) (n : Fin 2048) :
    JOIN g s a k a8 a9 a10 (ix2 r n)
      = a10 (ix2 r n) + k (ix3 r 1 n) * (∑ j : Fin 1024, g (ix2 r ⟨j, by omega⟩) * s (ix2 r j) * a8 (ix3 0 j n))
        + k (ix3 r 2 n) * ∑ j : Fin 1024, a (ix2 r j) * a9 (ix3 0 j n) := by
  pointwise [JOIN]

/-- The running maximum's start, minus infinity, does not exceed the maximum. -/
theorem max_top (s : Fin 256 → EReal) : max (Ideal.ofBits .f32 0xFF800000#32) (Spec.top s) = Spec.top s :=
  max_eq_right ((Finset.le_fold_max _).2 (Or.inl le_rfl))

/-- One attention row, from the projected queries and the memory. -/
theorem heads_at (a0 : FVec Ideal S16384x6144 .bf16) (a2 : FVec Ideal S2048x2048 .bf16) (r : Fin 16384) (j : Fin 1024) :
    ATT (EX (SC a0 a2) (MX (SC a0 a2))) a2 (ix2 r j)
      = Spec.attend (fun d => a0 (ix2 r ⟨4096 + (j / 256 * 256 + d), by omega⟩))
          (fun y d => a2 (ix2 ⟨r / 2048 * 256 + y, by omega⟩ ⟨j / 256 * 256 + d, by omega⟩))
          (fun y => a2 (ix2 ⟨r / 2048 * 256 + y, by omega⟩ ⟨1024 + j, by omega⟩)) := by
  have hr : (⟨(r : ℕ) / 2048 * 2048 + r % 2048, by omega⟩ : Fin 16384) = r := Fin.ext (by show (r : ℕ) / 2048 * 2048 + r % 2048 = (r : ℕ); omega)
  rw [ATT_at]
  simp only [EX_at, MX_at, max_top, SC_at, hr]
  rfl

/-- The reference's result over its argument arrays. -/
def RES (a0 : FVec Ideal S16384x6144 .bf16) (a1 : FVec Ideal S16384x7168 .bf16) (a2 : FVec Ideal S2048x2048 .bf16)
    (a3 : FVec Ideal S1x6144 .f32) (a4 a5 : FVec Ideal S1x1024 .f32) (a6 : FVec Ideal S1x8x128x128 .f32) (a7 : FVec Ideal S1x8x128 .f32)
    (a8 a9 : FVec Ideal S1x1024x2048 .f32) (a10 : FVec Ideal S16384x2048 .bf16) : FVec Ideal S16384x2048 .bf16 :=
  JOIN (GEL a0) (SP (VN (GEL a0) a4 a5) a6 a7) (ATT (EX (SC a0 a2) (MX (SC a0 a2))) a2) (SIG a1 a3) a8 a9 a10

/-- Every element of the reference's result is `Spec.cell` of the arguments. -/
theorem RES_at (a0 : FVec Ideal S16384x6144 .bf16) (a1 : FVec Ideal S16384x7168 .bf16) (a2 : FVec Ideal S2048x2048 .bf16)
    (a3 : FVec Ideal S1x6144 .f32) (a4 a5 : FVec Ideal S1x1024 .f32) (a6 : FVec Ideal S1x8x128x128 .f32) (a7 : FVec Ideal S1x8x128 .f32)
    (a8 a9 : FVec Ideal S1x1024x2048 .f32) (a10 : FVec Ideal S16384x2048 .bf16) (r : Fin 16384) (n : Fin 2048) :
    RES a0 a1 a2 a3 a4 a5 a6 a7 a8 a9 a10 (ix2 r n)
      = Spec.cell (fun r j => a0 (ix2 r j)) (fun r j => a1 (ix2 r j)) (fun r j => a2 (ix2 r j)) (fun j => a3 (ix2 0 j))
          (fun j => a4 (ix2 0 j)) (fun j => a5 (ix2 0 j)) (fun g t s => a6 (ix4 0 g t s)) (fun g t => a7 (ix3 0 g t))
          (fun j n => a8 (ix3 0 j n)) (fun j n => a9 (ix3 0 j n)) (fun r n => a10 (ix2 r n)) r n := by
  unfold RES
  rw [JOIN_at]
  simp only [GEL_at, SP_at, VN_at, heads_at, SIG_at]
  unfold Spec.cell
  refine congrArg₂ (· + ·) (congrArg₂ (· + ·) rfl (congrArg₂ (· * ·) rfl (Finset.sum_congr rfl fun j _ => ?_))) rfl
  refine congrArg₂ (· * ·) (congrArg₂ (· * ·) rfl (congrArg₂ (· + ·) (congrArg (fun v => Spec.mix _ v _) (funext fun s =>
    congrArg (fun f => Spec.layerNorm f _ _ j) (funext fun i => congrArg Spec.gelu (congrArg a0 ?_)))) rfl)) rfl
  blk_ext []

/-- The run's result term is `RES` of the launch's argument arrays. -/
theorem res_eq (m : (ℓ : Loc nD τ sig) → Buf (Elt Ideal) ℓ) (c : Dev nD) :
    res_main_v99 m c = (let A := fun (b : Ref sig .tc) => m ((c.tc : Thread nD τ).loc b)
      RES (A main_arg0) (A main_arg1) (A main_arg2) (A main_arg3) (A main_arg4) (A main_arg5) (A main_arg6) (A main_arg7)
        (A main_arg8) (A main_arg9) (A main_arg10)) := rfl

end Cert.ReferenceIdeal.Value

end
-- ==== Proof.RowSpec.lean ====
/-
  The normalised projection of a row: what both programs of the input projection compute at an element, over plain functions.
-/
module

public import Idealize.ShloMosaic.Lib.Pipeline.ValueKit
public import Idealize.ShloMosaic.Lib.Pointwise

@[expose] public section

noncomputable section

open Idealize.ShloMosaic

namespace Cert.Spec

/-- A row of 2048 divided by its root mean square (with the layer's epsilon), times a scale per column. -/
def rms (x g : Fin 2048 → EReal) (k : Fin 2048) : EReal :=
  x k * Ideal.rsqrt (Ideal.div (∑ i, x i * x i) (Ideal.ofBits .f32 0x45000000#32) + Ideal.ofBits .f32 0x3727C5AC#32) * g k

/-- The product of a normalised row with one column of a matrix. -/
def project (x g w : Fin 2048 → EReal) : EReal := ∑ k, rms x g k * w k

end Cert.Spec

end
-- ==== Proof.Project.lean ====
/-
  The input projection's call: what a step stores, and what its scratch holds.
-/
module
public import proofs.«01_k».proof.Proof.Gen.Kernel2Ideal.Value
public import Idealize.ShloMosaic.Lib.Pipeline.ValueKit
public import Idealize.ShloMosaic.Lib.Pointwise
public import proofs.«01_k».proof.Proof.RowSpec
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen

/-- The payload the first step of a row block stores: its rows normalised. -/
theorem pay1_at (x : FVec Ideal S1024x2048 .f32) (g : FVec Ideal S1x2048 .f32) (r : Fin 1024) (k : Fin 2048) :
    k0_pay1 (F := Ideal) x g (ix2 r k) = Spec.rms (fun i => x (ix2 r i)) (fun i => g (ix2 0 i)) k := by
  pointwise [k0_pay1, Spec.rms]

/-- The payload every step stores, to both outputs: a product of matrices. -/
theorem pay2_at (s : FVec Ideal S1024x2048 .bf16) (w : FVec Ideal S2048x1024 .bf16) (r n : Fin 1024) :
    k0_pay2 (F := Ideal) s w (ix2 r n) = ∑ k, s (ix2 r k) * w (ix2 k n) := by
  pointwise [k0_pay2]

variable (m : (ℓ : Loc nD τ sig) → Buf (Elt Ideal) ℓ)

/-- The grid has 16 row blocks by 11 column tiles. -/
theorem lt176 (t : Fin cfg0.N) : (t : ℕ) < 176 := lt_of_lt_of_eq t.isLt N_0

/-- The row block step `t` works on, normalised. -/
def rows (c : Dev nD) (t : Fin cfg0.N) : FVec Ideal S1024x2048 .bf16 := fun y =>
  Spec.rms (fun i => m ((c.tc : Thread nD τ).loc main_arg0) (ix2 ⟨1024 * (t / 11) + (y 0 : ℕ), by have := lt176 t; idx_bounds y; omega⟩ i))
    (fun i => m ((c.tc : Thread nD τ).loc main_arg1) (ix2 0 i)) (y 1)

/-- The block of rows held at step `t`. -/
theorem at0 : ∀ t : Fin cfg0.N, (cfg0.win 0).index t 0 = (t : ℕ) / 11 ∧ (cfg0.win 0).index t 1 = 0 :=
  (by decide +kernel : ∀ t : Fin grid0.N, win0_0.index t 0 = (t : ℕ) / 11 ∧ win0_0.index t 1 = 0)

/-- The scale's one block. -/
theorem at1 : ∀ t : Fin cfg0.N, (cfg0.win 1).index t 0 = 0 ∧ (cfg0.win 1).index t 1 = 0 :=
  (by decide +kernel : ∀ t : Fin grid0.N, win0_1.index t 0 = 0 ∧ win0_1.index t 1 = 0)

/-- The column tile of the matrix held at step `t`. -/
theorem at2 : ∀ t : Fin cfg0.N, (cfg0.win 2).index t 0 = 0 ∧ (cfg0.win 2).index t 1 = (t : ℕ) % 11 :=
  (by decide +kernel : ∀ t : Fin grid0.N, win0_2.index t 0 = 0 ∧ win0_2.index t 1 = (t : ℕ) % 11)

/-- The first array's block written at step `t`: the step's own tile among the first five, then a sixth for all later ones. -/
theorem at3 : ∀ t : Fin cfg0.N, (cfg0.win 3).index t 0 = (t : ℕ) / 11 ∧ (cfg0.win 3).index t 1 = min ((t : ℕ) % 11) 5 :=
  (by decide +kernel : ∀ t : Fin grid0.N, win0_3.index t 0 = (t : ℕ) / 11 ∧ win0_3.index t 1 = min ((t : ℕ) % 11) 5)

/-- The second array's block written at step `t`: a seventh for the first five steps, then the step's own tile from the first. -/
theorem at4 : ∀ t : Fin cfg0.N, (cfg0.win 4).index t 0 = (t : ℕ) / 11 ∧ (cfg0.win 4).index t 1 = if 5 ≤ (t : ℕ) % 11 then (t : ℕ) % 11 - 5 else 6 :=
  (by decide +kernel : ∀ t : Fin grid0.N, win0_4.index t 0 = (t : ℕ) / 11 ∧ win0_4.index t 1 = if 5 ≤ (t : ℕ) % 11 then (t : ℕ) % 11 - 5 else 6)

/-- The first array's blocks are written back once each: a block of the first five after its step, the sixth after the last. -/
theorem flush3 : ∀ t : Fin cfg0.N, (cfg0.win 3).flush t = true → (t : ℕ) % 11 < 5 ∨ (t : ℕ) % 11 = 10 :=
  (by decide +kernel : ∀ t : Fin grid0.N, win0_3.flush t = true → (t : ℕ) % 11 < 5 ∨ (t : ℕ) % 11 = 10)

/-- The second array's blocks likewise: the seventh after the fifth step, the others after their steps. -/
theorem flush4 : ∀ t : Fin cfg0.N, (cfg0.win 4).flush t = true → 4 ≤ (t : ℕ) % 11 :=
  (by decide +kernel : ∀ t : Fin grid0.N, win0_4.flush t = true → 4 ≤ (t : ℕ) % 11)

/-- The rows read. -/
theorem read0 (c : Dev nD) (t : Fin cfg0.N) (r : Fin 1024) (k : Fin 2048) :
    (iblk m c 0 t (ix2 r k) : EReal) = m ((c.tc : Thread nD τ).loc main_arg0) (ix2 ⟨1024 * (t / 11) + r, by have := lt176 t; omega⟩ k) := by
  have ht := lt176 t
  blk_ext [iblk, V, (at0 t).1, (at0 t).2]

/-- The scale read. -/
theorem read1 (c : Dev nD) (t : Fin cfg0.N) (k : Fin 2048) :
    (iblk m c 1 t (ix2 0 k) : EReal) = m ((c.tc : Thread nD τ).loc main_arg1) (ix2 0 k) := by
  blk_ext! [iblk, (at1 t).1, (at1 t).2]

/-- The matrix read. -/
theorem read2 (c : Dev nD) (t : Fin cfg0.N) (k : Fin 2048) (n : Fin 1024) :
    (iblk m c 2 t (ix2 k n) : EReal) = m ((c.tc : Thread nD τ).loc main_arg2) (ix3 0 k ⟨t % 11 * 1024 + n, by omega⟩) := by
  blk_ext! [iblk, (at2 t).1, (at2 t).2]

/-- The first step of a row block stores the block normalised. -/
theorem first (c : Dev nD) (t : Fin cfg0.N) : k0_pay1 (F := Ideal) (iblk m c 0 t) (iblk m c 1 t) = rows m c t := by
  refine funext fun (y : S1024x2048.Idx) => ?_
  idx_vars y
  refine (pay1_at _ _ y0 y1).trans ?_
  exact congrFun (congrArg₂ Spec.rms (funext fun i => read0 m c t y0 i) (funext fun i => read1 m c t i)) y1

/-- After every step the scratch holds the step's row block, normalised: stored by the block's first step, kept by the others. -/
theorem scratch (c : Dev nD) : ∀ (n : ℕ) (h : n < cfg0.N), (outsAt0 m c n h).2.2 = rows m c ⟨n, h⟩ := by
  intro n
  induction n with
  | zero =>
    intro h
    rw [outsAt0_A m c ⟨0, h⟩ rfl]
    dsimp only
    frame_out
    exact first m c _
  | succ n ih =>
    intro h
    by_cases h0 : (n + 1) % 11 = 0
    · rw [outsAt0_A m c ⟨n + 1, h⟩ h0]
      dsimp only
      frame_out
      exact first m c _
    · rw [outsAt0_B m c ⟨n + 1, h⟩ h0]
      have e : (n + 1) / 11 = n / 11 := by omega
      dsimp only [sout0_B_0]
      have hn : ∀ k (hk : k < cfg0.N), k = n → (outsAt0 m c k hk).2.2 = rows m c ⟨n, by omega⟩ := fun k hk e => by subst e; exact ih hk
      refine (hn _ _ rfl).trans ?_
      unfold rows
      dsimp only
      simp only [e]

/-- What step `t` leaves in the first array's block. -/
theorem tile3 (c : Dev nD) (t : Fin cfg0.N) : (dats m 0 c).flushed 3 t = k0_pay2 (F := Ideal) (rows m c t) (iblk m c 2 t) := by
  by_cases h0 : (t : ℕ) % 11 = 0
  · rw [flushed3_A m c t h0]
    frame_out
    rw [first]
    rfl
  · have hs := scratch m c t.val t.isLt
    rw [outsAt0_B m c t h0] at hs
    dsimp only [sout0_B_0] at hs
    rw [flushed3_B m c t h0]
    frame_out
    rw [hs]
    exact congrArg (fun s => k0_pay2 (F := Ideal) s (iblk m c 2 t)) ((Memref.isWhole_whole cc0_scratch0).read_unread _)

/-- What step `t` leaves in the second array's block. -/
theorem tile4 (c : Dev nD) (t : Fin cfg0.N) : (dats m 0 c).flushed 4 t = k0_pay2 (F := Ideal) (rows m c t) (iblk m c 2 t) := by
  by_cases h0 : (t : ℕ) % 11 = 0
  · rw [flushed4_A m c t h0]
    frame_out
    rw [first]
    rfl
  · have hs := scratch m c t.val t.isLt
    rw [outsAt0_B m c t h0] at hs
    dsimp only [sout0_B_0] at hs
    rw [flushed4_B m c t h0]
    frame_out
    rw [hs]
    exact congrArg (fun s => k0_pay2 (F := Ideal) s (iblk m c 2 t)) ((Memref.isWhole_whole cc0_scratch0).read_unread _)

/-- An element a step stores: the product of its normalised row with its column of the matrix. -/
theorem stored (c : Dev nD) (t : Fin cfg0.N) (r n : Fin 1024) :
    k0_pay2 (F := Ideal) (rows m c t) (iblk m c 2 t) (ix2 r n)
      = Spec.project (fun i => m ((c.tc : Thread nD τ).loc main_arg0) (ix2 ⟨1024 * (t / 11) + r, by have := lt176 t; omega⟩ i))
          (fun i => m ((c.tc : Thread nD τ).loc main_arg1) (ix2 0 i))
          (fun k => m ((c.tc : Thread nD τ).loc main_arg2) (ix3 0 k ⟨t % 11 * 1024 + n, by omega⟩)) := by
  rw [pay2_at]
  exact Finset.sum_congr rfl fun k _ => congrArg₂ (· * ·) rfl (read2 m c t k n)

/-- Element `(r, j)` of the whole product. -/
def product (c : Dev nD) (r : Fin 16384) (j : Fin 11264) : EReal :=
  Spec.project (fun i => m ((c.tc : Thread nD τ).loc main_arg0) (ix2 r i)) (fun i => m ((c.tc : Thread nD τ).loc main_arg1) (ix2 0 i))
    (fun k => m ((c.tc : Thread nD τ).loc main_arg2) (ix3 0 k j))

/-- Equal rows and columns of the product. -/
theorem product_congr (c : Dev nD) {r r' : Fin 16384} {j j' : Fin 11264} (hr : (r : ℕ) = r') (hj : (j : ℕ) = j') : product m c r j = product m c r' j' := by
  rw [Fin.ext hr, Fin.ext hj]

/-- The first array after the run: the product's first 5120 columns, then its last tile of 1024. -/
theorem array3 (c : Dev nD) : (dats m 0 c).arrAt 3 cfg0.N = fun i : S16384x6144.Idx =>
    product m c (i 0) ⟨if (i 1 : ℕ) < 5120 then (i 1 : ℕ) else (i 1 : ℕ) + 5120, by idx_bounds i; split <;> omega⟩ := by
  refine (dats m 0 c).arrAt_eq_of_emb 3 _ (fun t hf (y : S1024x1024.Idx) => ?_) ((by decide +kernel : (cfg0.win 3).Covers).cover _ (Memref.isWhole_whole _))
  have ht := lt176 t
  have hq := flush3 t hf
  idx_vars y
  have h0 : (((cfg0.win 3).blk t).view.emb (ix2 y0 y1) 0 : ℕ) = 1024 * (t / 11) + y0 := by blk_simp [(at3 t).1]; omega
  have h1 : (((cfg0.win 3).blk t).view.emb (ix2 y0 y1) 1 : ℕ) = min ((t : ℕ) % 11) 5 * 1024 + y1 := by blk_simp [(at3 t).2]
  refine (congrFun (tile3 m c t) (ix2 y0 y1)).trans ?_
  have hc : ∀ q : ℕ, q = min ((t : ℕ) % 11) 5 * 1024 + y1 → (t : ℕ) % 11 * 1024 + y1 = if q < 5120 then q else q + 5120 := fun q h => by split <;> omega
  exact (stored m c t y0 y1).trans (product_congr m c h0.symm (hc _ h1))

/-- The second array after the run: the product's columns from 5120, then its fifth tile of 1024. -/
theorem array4 (c : Dev nD) : (dats m 0 c).arrAt 4 cfg0.N = fun i : S16384x7168.Idx =>
    product m c (i 0) ⟨if (i 1 : ℕ) < 6144 then (i 1 : ℕ) + 5120 else (i 1 : ℕ) - 2048, by idx_bounds i; split <;> omega⟩ := by
  refine (dats m 0 c).arrAt_eq_of_emb 4 _ (fun t hf (y : S1024x1024.Idx) => ?_) ((by decide +kernel : (cfg0.win 4).Covers).cover _ (Memref.isWhole_whole _))
  have ht := lt176 t
  have hq := flush4 t hf
  idx_vars y
  have h0 : (((cfg0.win 4).blk t).view.emb (ix2 y0 y1) 0 : ℕ) = 1024 * (t / 11) + y0 := by blk_simp [(at4 t).1]; omega
  have h1 : (((cfg0.win 4).blk t).view.emb (ix2 y0 y1) 1 : ℕ) = (if 5 ≤ (t : ℕ) % 11 then (t : ℕ) % 11 - 5 else 6) * 1024 + y1 := by blk_simp [(at4 t).2]
  refine (congrFun (tile4 m c t) (ix2 y0 y1)).trans ?_
  have hc : ∀ q : ℕ, q = (if 5 ≤ (t : ℕ) % 11 then (t : ℕ) % 11 - 5 else 6) * 1024 + y1 →
      (t : ℕ) % 11 * 1024 + y1 = if q < 6144 then q + 5120 else q - 2048 := fun q h => by split at h <;> split <;> omega
  exact (stored m c t y0 y1).trans (product_congr m c h0.symm (hc _ h1))

end Cert.Kernel2Ideal.Value

end
-- ==== Proof.RefValue2.lean ====
/-
  The reference of the input projection, read at an index, and the columns the claim speaks of.
-/
module

public import proofs.«01_k».proof.Proof.RowSpec
public import proofs.«01_k».proof.Proof.Gen.Reference2Ideal.Run
public import proofs.«01_k».proof.Proof.Gen.On_read_columns
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference2Ideal.Value

open Cert.Reference2Ideal Cert.Reference2Ideal.Gen

/-- The rows normalised and scaled. -/
def NORM (x : FVec Ideal S16384x2048 .f32) (g : FVec Ideal S1x2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 g)

/-- The normalised rows' product with the matrix. -/
def PROD (n : FVec Ideal S16384x2048 .f32) (w : FVec Ideal S1x2048x11264 .f32) : FVec Ideal S16384x11264 .bf16 :=
  truncf .bf16 (Host.dotGeneral dot_S16384x2048_S2048x11264_S16384x11264_1_0_0_1_n_n none n (shapeCast _ w shapeCasts_S1x2048x11264_S2048x11264)) bitsLt_bf16_f32

/-- The first result: the product's first 5120 columns, then 1024 of padding. -/
def FIRST (y : FVec Ideal S16384x11264 .bf16) : FVec Ideal S16384x6144 .bf16 :=
  pad S16384x6144 ![0, 0] ![0, 1024] ![0, 0] (extractStridedSlice S16384x5120 ![0, 0] y slices_S16384x11264_S16384x5120_0_0) (sitofp .bf16 (constantI S_ 32 0#32)) pads_S16384x5120_S16384x6144_000_010240 h_S_

/-- The second result: the product's other 6144 columns, then 1024 of padding. -/
def SECOND (y : FVec Ideal S16384x11264 .bf16) : FVec Ideal S16384x7168 .bf16 :=
  pad S16384x7168 ![0, 0] ![0, 1024] ![0, 0] (extractStridedSlice S16384x6144 ![0, 5120] y slices_S16384x11264_S16384x6144_0_5120) (sitofp .bf16 (constantI S_ 32 0#32)) pads_S16384x6144_S16384x7168_000_010240 h_S_

/-- The normalised input at an element. -/
theorem NORM_at (x : FVec Ideal S16384x2048 .f32) (g : FVec Ideal S1x2048 .f32) (r : Fin 16384) (k : Fin 2048) :
    NORM x g (ix2 r k) = Spec.rms (fun i => x (ix2 r i)) (fun i => g (ix2 0 i)) k := by
  pointwise [NORM, Spec.rms]

/-- The product with the input matrix at an element. -/
theorem PROD_at (n : FVec Ideal S16384x2048 .f32) (w : FVec Ideal S1x2048x11264 .f32) (r : Fin 16384) (j : Fin 11264) :
    PROD n w (ix2 r j) = ∑ k : Fin 2048, n (ix2 r k) * w (ix3 0 k j) := by
  pointwise [PROD]

/-- The product at an element, from the arguments. -/
theorem product_at (x : FVec Ideal S16384x2048 .f32) (g : FVec Ideal S1x2048 .f32) (w : FVec Ideal S1x2048x11264 .f32) (r : Fin 16384) (j : Fin 11264) :
    PROD (NORM x g) w (ix2 r j) = Spec.project (fun i => x (ix2 r i)) (fun i => g (ix2 0 i)) (fun k => w (ix3 0 k j)) :=
  (PROD_at _ _ r j).trans (Finset.sum_congr rfl fun k _ => congrArg (· * _) (NORM_at x g r k))

/-- Below column 5120 the first array is the product. -/
theorem FIRST_at (y : FVec Ideal S16384x11264 .bf16) (r : Fin 16384) (j : Fin 6144) (h : (j : ℕ) < 5120) : FIRST y (ix2 r j) = y (ix2 r ⟨j, by omega⟩) := by
  pointwise [FIRST]
  exact dif_pos h

/-- Below column 6144 the second array is the product, 5120 columns along. -/
theorem SECOND_at (y : FVec Ideal S16384x11264 .bf16) (r : Fin 16384) (j : Fin 7168) (h : (j : ℕ) < 6144) : SECOND y (ix2 r j) = y (ix2 r ⟨5120 + j, by omega⟩) := by
  pointwise [SECOND]
  exact dif_pos h

/-- The mask's first array keeps the columns below 5120 alone. -/
theorem mask_first (x : FVec Ideal On_read_columns.S16384x2048 .f32) (g : FVec Ideal On_read_columns.S1x2048 .f32) (w : FVec Ideal On_read_columns.S1x2048x11264 .f32)
    (r : Fin 16384) (j : Fin 6144) (h : (On_read_columns.fn x g w).1 (ix2 r j) = 1#1) : (j : ℕ) < 5120 := by
  pointwise [On_read_columns.fn] at h
  word_cmp at h

/-- The mask's second array keeps the columns below 6144 alone. -/
theorem mask_second (x : FVec Ideal On_read_columns.S16384x2048 .f32) (g : FVec Ideal On_read_columns.S1x2048 .f32) (w : FVec Ideal On_read_columns.S1x2048x11264 .f32)
    (r : Fin 16384) (j : Fin 7168) (h : (On_read_columns.fn x g w).2 (ix2 r j) = 1#1) : (j : ℕ) < 6144 := by
  pointwise [On_read_columns.fn] at h
  word_cmp at h

end Cert.Reference2Ideal.Value

end
-- ==== Proof.Down.Setup.lean ====
/- The call expert_down as the run meets it: its tables read off the launch memory, its operands as the memrefs the body is
   handed, the invariant of the launch conjunct by conjunct. -/
module

public import proofs.«01_k».proof.Proof.Gen.Kernel3Ideal.Launch
public import proofs.«01_k».proof.Proof.Gen.Kernel3Ideal.Skeleton
public import proofs.«01_k».proof.Proof.Gen.Kernel3Ideal.Loops
public import Idealize.ShloMosaic.Lib.Pipeline.FrameBody
public import Idealize.ShloMosaic.Lib.SparseCore.Scatter
public import Idealize.ShloMosaic.Lib.Ring
public import Idealize.ShloMosaic.Lib.Tactic
public import Idealize.ShloMosaic.Lib.WordCmp

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- The program is the region alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The four tables' contents at the launch (the one device's). -/
def tbl : pre0.Contents (Elt F) := fun j => V m (0 : Dev nD) (pre0.ref j)

/-- Every device holds those tables. -/
theorem V_pre (c : Dev nD) (j : Fin 4) : V m c (pre0.ref j) = tbl m j := by
  obtain rfl : c = 0 := Subsingleton.elim _ _
  rfl

/-- The tables name blocks inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables and the other operands as the body is handed them: whole buffers. -/
abbrev beM : Memref sig .tc .smem S288 .i32 := Memref.whole main_arg0
abbrev nxM : Memref sig .tc .smem S288 .i32 := Memref.whole main_arg1
abbrev nuM : Memref sig .tc .smem S1 .i32 := Memref.whole main_arg2
abbrev feM : Memref sig .tc .smem S1 .i32 := Memref.whole main_arg3
abbrev wM : Memref sig .tc .hbm S32x2048x2048 .f32 := Memref.whole main_arg6
abbrev stgM : Memref sig .tc .vmem S2048x2048 .f32 := Memref.whole cc0_scratch0
abbrev wbM : Memref sig .tc .vmem S2048x2048 .bf16 := Memref.whole cc0_scratch1

/-- A memref's buffer on core `c`, held whole; and a table's, of which the pipeline keeps the other half. -/
abbrev BufOf (c : Dev nD) {sp : Space} {S : Shape} {e : EltTy} (M : Memref sig .tc sp S e) : Type := Buf (Elt F) (M.view.loc (c : Thread nD τ))
abbrev pts (c : Dev nD) {sp : Space} {S : Shape} {e : EltTy} (M : Memref sig .tc sp S e) (f : BufOf (F := F) c M) : sProp 𝕄 :=
  M.view.loc (c : Thread nD τ) ↦{fullShare} f
abbrev tpts (c : Dev nD) {S : Shape} {e : EltTy} (M : Memref sig .tc .smem S e) (f : BufOf (F := F) c M) : sProp 𝕄 :=
  M.view.loc (c : Thread nD τ) ↦{fullShare.right} f

/-- The tables' halves, table by table. -/
theorem PhiT_eq (c : Dev nD) : (Pipeline.ΦT pre0 (tbl m) c : sProp 𝕄)
    = iprop(tpts c beM (tbl m 0) ∗ tpts c nxM (tbl m 1) ∗ tpts c nuM (tbl m 2) ∗ tpts c feM (tbl m 3)) := by
  unfold Pipeline.ΦT Pipeline.prefHeld
  rw [BI.bigSep_eq_bigSepL_of_eq [(0 : Fin 4), 1, 2, 3] (by decide) (by decide)]
  rfl

/-- The body's own completion cell. -/
abbrev osem : Fin 1 → SemLoc sig := fun j => (![SemLoc.dma 6] : Fin 1 → SemLoc sig) j
/-- The body's completion cells are distinct and none of them is a window's. -/
theorem ownSemFacts : Pipeline.OwnSemFacts spec0 osem := by decide
/-- The body's completion cells at zero, one by one. -/
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 6) 0 := by
  rw [Pipeline.ownSems0_eq_of_list c osem [0] (by decide) (by decide)]; rfl

/-- The weights, the one array the body reads itself. -/
def H : Finset (Ref sig .tc) := {main_arg6}
/-- The weights are an array that no window and no table uses. -/
theorem H_sub : H ⊆ Pipeline.restRefsP sig pre0 spec0 := by decide
/-- Holding the arrays of `H` is holding the weights. -/
theorem wPts_eq (c : Dev nD) :
    (bigSep H (fun b => ((c : Thread nD τ).loc b) ↦{fullShare} V m c b) : sProp 𝕄) = pts c wM (V m c main_arg6) := by
  rw [BI.bigSep_eq_bigSepL_of_eq [main_arg6] (by decide) (by decide)]; rfl

/-- What the launch hands the body besides the windows and the tables: the two scratch buffers at anything, the generator's
    register, the cell at zero, the weights. -/
theorem PhiD_eq (c : Dev nD) :
    (Pipeline.ΦD osem spec0 H (V m) c : sProp 𝕄)
      = iprop(((∃ f, pts c stgM f) ∗ (∃ f, pts c wbM f)) ∗ (∃ r, prngReg c r)
          ∗ semVal ((c : Thread nD τ), SemLoc.dma 6) 0 ∗ pts c wM (V m c main_arg6)) := by
  rw [Pipeline.ΦD_eq, scopedRest0_eq, ownSems_eq, wPts_eq]

end Cert.Kernel3Ideal.Down

end
-- ==== Proof.Down.Loop.lean ====
/- The body's loop over sixteen strips of a staged weight matrix: each strip is cast and kept in the second buffer. -/
module

public import proofs.«01_k».proof.Proof.Down.Setup

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Strip `k` of the matrix `X`, cast: what one trip keeps. -/
def strip (X : Vec F S2048x2048 .f32) (k : Fin k0_t1_loop.trips) : View.Piece (Elt F) S2048x2048 .bf16 :=
  ⟨Rect.unit (s := S2048x2048) (k0_off6 k) S128x2048.size (k0_off6_inb k),
    k0_pay1 (View.readAt (Elt F) stgM.view (Rect.unit (s := S2048x2048) (k0_off6 k) S128x2048.size (k0_off6_inb k)).toLoadRect X)⟩

/-- The strips the trips before `k` keep, last first. -/
def strips (X : Vec F S2048x2048 .f32) : ℕ → List (View.Piece (Elt F) S2048x2048 .bf16)
  | 0 => []
  | k + 1 => if h : k < k0_t1_loop.trips then strip X ⟨k, h⟩ :: strips X k else strips X k

/-- One more trip keeps one more strip. -/
theorem strips_succ (X : Vec F S2048x2048 .f32) (k : Fin k0_t1_loop.trips) : strips X (k.val + 1) = strip X k :: strips X k.val := by
  rw [strips.eq_2]; exact dif_pos k.isLt

variable (c : Dev nD) (𝒱 : Variants) (bd : Option 𝒱.V) (i : grid0.Coords)
  (arg6 : Memref sig .tc .vmem S256x2048 .bf16) (harg6 : arg6.IsWhole) (arg7 : Memref sig .tc .vmem S1x1x2048 .f32) (harg7 : arg7.IsWhole)
  (arg9 : Memref sig .tc .vmem S256x2048 .f32) (harg9 : arg9.IsWhole)

/-- One trip: strip `k` of the staged matrix is cast into the second buffer. -/
theorem trip (X : Vec F S2048x2048 .f32) (k : Fin k0_t1_loop.trips) (E : Set ℕ) (f : BufOf (F := F) c wbM) :
    iprop((stgM.view.loc (c : Thread nD τ) ↦{fullShare} (X : BufOf (F := F) c stgM)) ∗ (wbM.view.loc (c : Thread nD τ) ↦{fullShare} f) : sProp 𝕄)
      ⊢ wp frame (wpE (defs₀ (F := F)) 𝒱 (c : Thread nD τ) bd) E
          (k0_t1_body (F := F) i beM (Memref.isWhole_whole _) nxM (Memref.isWhole_whole _) nuM (Memref.isWhole_whole _) feM (Memref.isWhole_whole _)
            arg6 harg6 arg7 harg7 wM (Memref.isWhole_whole _) arg9 harg9 stgM (Memref.isWhole_whole _) wbM (Memref.isWhole_whole _) cc0_scratch2 k PUnit.unit)
          (fun _ => iprop((stgM.view.loc (c : Thread nD τ) ↦{fullShare} (X : BufOf (F := F) c stgM))
            ∗ (wbM.view.loc (c : Thread nD τ) ↦{fullShare} wbM.view.writes (Elt F) f [strip X k]))) := by
  have hk : k.val < 16 := Nat.lt_of_lt_of_le k.isLt k0_t1_abs.2.1
  unfold k0_t1_body
  iintro ⟨H10, H11⟩
  sl_exec
  sl_step
  isplitl [H10]; · iexact H10
  iexact H11

set_option warn.classDefReducibility false in
/-- The loop by its invariant: before trip `k` the staged matrix is as it was and the second buffer has the strips of the
    trips before. -/
@[sl_loop] def loopInv (E : Set ℕ) (X : BufOf (F := F) c stgM) (G : BufOf (F := F) c wbM) :
    LoopInvTy_k0_t1 (F := F) Unit ℕ (Pipeline.UD sig nD τ) ℕ 𝒱 c bd E i beM (Memref.isWhole_whole _) nxM (Memref.isWhole_whole _) nuM (Memref.isWhole_whole _) feM (Memref.isWhole_whole _)
            arg6 harg6 arg7 harg7 wM (Memref.isWhole_whole _) arg9 harg9 stgM (Memref.isWhole_whole _) wbM (Memref.isWhole_whole _) cc0_scratch2 where
  inv k _ := iprop((stgM.view.loc (c : Thread nD τ) ↦{fullShare} X)
    ∗ (∃ f, (wbM.view.loc (c : Thread nD τ) ↦{fullShare} f) ∗ ⌜f = wbM.view.writes (Elt F) G (strips X k)⌝))
  step k acc := by
    iintro ⟨H10, ⟨%f, H11, %hf⟩⟩
    iapply (wp_wand_r Idealize.ShloMosaic.frame (wpE (defs₀ (F := F)) 𝒱 (c : Thread nD τ) bd) E)
    isplitl [H10 H11]
    · iapply (trip c 𝒱 bd i arg6 harg6 arg7 harg7 arg9 harg9 X k E f)
      isplitl [H10]; · iexact H10
      iexact H11
    · iintro %_ ⟨H10, H11⟩
      isplitl [H10]; · iexact H10
      rw [strips_succ]
      iexists _; isplitl [H11]; · iexact H11
      ipureintro; rw [hf, ← View.writes_append, List.singleton_append]

end Cert.Kernel3Ideal.Down

end
-- ==== Proof.Down.Values.lean ====
/- What the body's moves leave: an expert's weights staged, the staged weights cast, a move that carries the weights back. -/
module

public import proofs.«01_k».proof.Proof.Down.Loop
public import Idealize.ShloMosaic.Lib.VecWindow
public import Idealize.ShloMosaic.Lib.Pipeline.Value

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One expert's weights as the memref a move reads. -/
abbrev wsl (off : Fin 3 → ℕ) (h : ∀ a, off a + S1x2048x2048.size a ≤ S32x2048x2048.size a) : Memref sig .tc .hbm S2048x2048 .f32 :=
  (wM.slice (Rect.unit (s := S32x2048x2048) off S1x2048x2048.size h) (fun _ => rfl)).squeeze S2048x2048 squeezes_S1x2048x2048_S2048x2048

/-- An expert's part of the weights lies inside the array. -/
theorem wsl_inb (e : Fin 32) (a : Fin 3) : (![e.val, 0, 0] : Fin 3 → ℕ) a + S1x2048x2048.size a ≤ S32x2048x2048.size a := by
  have := e.isLt
  match a with
  | 0 => show e.val + 1 ≤ 32; omega
  | 1 => exact Nat.le_refl 2048
  | 2 => exact Nat.le_refl 2048

/-- The weights of expert `e`. -/
def wOf (c : Dev nD) (w : BufOf (F := F) c wM) (e : Fin 32) : Vec F S2048x2048 .f32 := (wsl ![e.val, 0, 0] (wsl_inb e)).view.read (Elt F) w

/-- A matrix cast as the body casts it. -/
def castB (X : Vec F S2048x2048 .f32) : Vec F S2048x2048 .bf16 := truncf .bf16 X bitsLt_bf16_f32

/-- The slice at the offsets of expert `e` reads that expert's weights. -/
theorem read_wsl (c : Dev nD) (w : BufOf (F := F) c wM) (e : Fin 32) (off : Fin 3 → ℕ) (h) (ho : off = ![e.val, 0, 0]) :
    (wsl off h).view.read (Elt F) w = wOf c w e := by
  subst ho; rfl

/-- The casting loop makes 16 trips. -/
theorem trips_eq : k0_t1_loop.trips = 16 := by decide +kernel
/-- Trip `k` of the casting loop works at row 128k. -/
theorem off6_eq : ∀ k : Fin k0_t1_loop.trips, k0_off6 k = ![128 * k.val, 0] := by decide +kernel

/-- Every row of the matrix is in one of the sixteen strips. -/
theorem strips_cover (X : Vec F S2048x2048 .f32) (y : S2048x2048.Idx) : ∀ n : ℕ, n ≤ k0_t1_loop.trips → (y 0).val < 128 * n →
    ∃ p ∈ strips X n, y ∈ p.1.set
  | 0, _, h => absurd h (by omega)
  | n + 1, hn, h => by
    rw [strips.eq_2, dif_pos (show n < k0_t1_loop.trips from hn)]
    by_cases hy : (y 0).val < 128 * n
    · obtain ⟨p, hp, hy⟩ := strips_cover X y n (by omega) hy
      exact ⟨p, List.mem_cons_of_mem _ hp, hy⟩
    · refine ⟨_, List.mem_cons_self, ?_⟩
      refine (Rect.mem_set_unit (inb := k0_off6_inb ⟨n, hn⟩)).2 fun a => ?_
      have ho := congrFun (off6_eq ⟨n, hn⟩) a
      match a with
      | 0 => rw [ho]; exact ⟨by show 128 * n ≤ _; omega, by show _ < 128 * n + 128; omega⟩
      | 1 => rw [ho]; exact ⟨Nat.zero_le _, by show (y 1).val < 0 + 2048; have h1 : (y 1).val < 2048 := (y 1).isLt; omega⟩

/-- What a trip stores is the cast of what it loads. -/
theorem pay1_eq (v : Vec F S128x2048 .f32) : k0_pay1 v = truncf .bf16 v bitsLt_bf16_f32 := by
  unfold k0_pay1
  exact shapeCast_self _ _

/-- A strip agrees with the cast of the whole matrix. -/
theorem strips_agree (X : Vec F S2048x2048 .f32) : ∀ n : ℕ, ∀ p ∈ strips X n, ∀ x : p.1.shape.Idx, p.2 x = castB X (p.1.emb x)
  | 0, p, hp, _ => absurd hp List.not_mem_nil
  | n + 1, p, hp, x => by
    rw [strips.eq_2] at hp
    split at hp
    · rcases List.mem_cons.mp hp with rfl | hp
      · show k0_pay1 _ x = _
        rw [pay1_eq]; rfl
      · exact strips_agree X n p hp x
    · exact strips_agree X n p hp x

/-- Strips that reach every row leave the cast of the staged matrix. -/
theorem writes_strips (X : Vec F S2048x2048 .f32) (G : Vec F S2048x2048 .bf16) (n : ℕ) (hn : n = k0_t1_loop.trips) :
    wbM.view.writes (Elt F) G (strips X n) = castB X := by
  refine (View.read_whole cc0_scratch1 _).symm.trans (funext fun y => ?_)
  have hy : (y 0).val < 128 * n := by rw [hn, trips_eq]; exact (y 0).isLt
  exact View.read_writes_apply_of_pieces (v := wbM.view) (f := G) (castB X) (strips X n) (strips_agree X n) y
    (strips_cover X y n (Nat.le_of_eq hn) hy)

/-- The second buffer loaded after the loop: the cast. -/
theorem readCov_strips (X : Vec F S2048x2048 .f32) (n : ℕ) (hn : n = k0_t1_loop.trips) :
    wbM.view.readCov (strips X n) (Rect.unit (s := S2048x2048) ![0, 0] S2048x2048.size inb_S2048x2048_S2048x2048_0_0).toLoadRect = castB X := by
  unfold View.readCov
  exact (View.readAt_full _ _ _).trans (writes_strips X _ n hn)

/-- A move of expert `e`'s weights under way, the rest of the weights with it: its end gives the staged weights and the whole
    array back. -/
def mov (c : Dev nD) (w : BufOf (F := F) c wM) (e : Fin 32) : sProp 𝕄 :=
  Transfers.Flight (countersEmb (U := Pipeline.UD sig nD τ)) (c : Thread nD τ) (SemLoc.dma 6) (default : Unit) 524288
    iprop(pts c stgM (wOf c w e) ∗ pts c wM w)

/-- Nothing under way. -/
def atRest (c : Dev nD) (w : BufOf (F := F) c wM) : sProp 𝕄 :=
  iprop((∃ f, pts c stgM f) ∗ semVal ((c : Thread nD τ), SemLoc.dma 6) 0 ∗ pts c wM w)

/-- The state of the one move between two points: none, or that of an expert's weights. -/
def stage (c : Dev nD) (w : BufOf (F := F) c wM) : Option (Fin 32) → sProp 𝕄
  | none => atRest c w
  | some e => mov c w e

/-- A slice of the weights and the rest of them, put back together. -/
theorem rejoin (c : Dev nD) (w : BufOf (F := F) c wM) (S : Finset (Idx (wM.view.loc (c : Thread nD τ)))) (P : sProp 𝕄) :
    iprop((wM.view.loc (c : Thread nD τ) ↦[Finset.univ \ S]{fullShare} w) ∗ P ∗ (wM.view.loc (c : Thread nD τ) ↦[S]{fullShare} w))
      ⊢ iprop(P ∗ pts c wM w) := by
  iintro ⟨Hw, Hst, HS⟩
  isplitl [Hst]; · iexact Hst
  iapply ((pointsTo_split_subset (Finset.subset_univ S)).2)
  isplitl [HS]; · iexact HS
  iexact Hw

/-- A move begun on a slice, with what was left of the array beside it. -/
theorem mov_intro (c : Dev nD) (w : BufOf (F := F) c wM) (e : Fin 32) (S : Finset (Idx (wM.view.loc (c : Thread nD τ))))
    (st : BufOf (F := F) c stgM) :
    iprop(Transfers.Flight (countersEmb (U := Pipeline.UD sig nD τ)) (c : Thread nD τ) (SemLoc.dma 6) (default : Unit) 524288
        iprop((stgM.view.loc (c : Thread nD τ) ↦{fullShare} st) ∗ (wM.view.loc (c : Thread nD τ) ↦[S]{fullShare} w))
      ∗ (wM.view.loc (c : Thread nD τ) ↦[Finset.univ \ S]{fullShare} w) ∗ ⌜st = wOf c w e⌝) ⊢ (stage c w (some e) : sProp 𝕄) := by
  show _ ⊢ mov c w e
  unfold mov
  iintro ⟨HF, HS, %hst⟩
  subst hst
  icombine HF HS as HF
  iapply ((sep_comm.1.trans (Transfers.Flight_frame _ _)).trans (Transfers.Flight_mono _ _ (rejoin c w S _))) $$ HF

/-- Nothing under way, what the staging buffer holds forgotten. -/
theorem rest_intro (c : Dev nD) (w : BufOf (F := F) c wM) (st : BufOf (F := F) c stgM) :
    iprop((stgM.view.loc (c : Thread nD τ) ↦{fullShare} st) ∗ semVal ((c : Thread nD τ), SemLoc.dma 6) 0 ∗ (wM.view.loc (c : Thread nD τ) ↦{fullShare} w))
      ⊢ (stage c w none : sProp 𝕄) := by
  show _ ⊢ atRest c w
  unfold atRest
  iintro ⟨Hst, HF, Hw⟩
  isplitl [Hst]; · iexists st; iexact Hst
  isplitl [HF]; · iexact HF
  iexact Hw

end Cert.Kernel3Ideal.Down

end
-- ==== Proof.Down.Body.lean ====
/- One run of the body, case by case. -/
module

public import proofs.«01_k».proof.Proof.Down.Values

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg6 : Memref sig .tc .vmem S256x2048 .bf16) (harg6 : arg6.IsWhole) (arg7 : Memref sig .tc .vmem S1x1x2048 .f32) (harg7 : arg7.IsWhole)
  (arg9 : Memref sig .tc .vmem S256x2048 .f32) (harg9 : arg9.IsWhole)

/-- The body at point `i` on the blocks it is handed. -/
abbrev body : Prog (TpuEff nD τ sig (Elt F) Λ₀ .tc) PUnit :=
  cc0_expert_down i beM (Memref.isWhole_whole _) nxM (Memref.isWhole_whole _) nuM (Memref.isWhole_whole _) feM (Memref.isWhole_whole _)
            arg6 harg6 arg7 harg7 wM (Memref.isWhole_whole _) arg9 harg9 stgM (Memref.isWhole_whole _) wbM (Memref.isWhole_whole _) cc0_scratch2

variable (be : BufOf (F := F) c beM) (nx : BufOf (F := F) c nxM) (nu : BufOf (F := F) c nuM) (fe : BufOf (F := F) c feM)
  (x : Vec F S256x2048 .bf16) (b : Vec F S1x1x2048 .f32)

/-- The words the body reads at point `i`: the number of used blocks, the block's expert and its predecessor's, the next
    run's expert, the first expert. -/
abbrev nuW : BitVec 32 := View.readAt (Elt F) nuM.view (Rect.unit (s := S1) ![0] S1.size inb_S1_S1_0).toLoadRect nu (Shape.Idx.first (lt_of_lt_of_eq Nat.one_pos numel1_S1.symm))
abbrev beW : BitVec 32 := View.readAt (Elt F) beM.view (Rect.unit (s := S288) (k0_off2 i) S1.size (k0_off2_inb i)).toLoadRect be (Shape.Idx.first (lt_of_lt_of_eq Nat.one_pos numel1_S1.symm))
abbrev prW : BitVec 32 := View.readAt (Elt F) beM.view (Rect.unit (s := S288) (k0_off3 i) S1.size (k0_off3_inb i)).toLoadRect be (Shape.Idx.first (lt_of_lt_of_eq Nat.one_pos numel1_S1.symm))
abbrev nxW : BitVec 32 := View.readAt (Elt F) nxM.view (Rect.unit (s := S288) (k0_off7 i) S1.size (k0_off7_inb i)).toLoadRect nx (Shape.Idx.first (lt_of_lt_of_eq Nat.one_pos numel1_S1.symm))
abbrev feW : BitVec 32 := View.readAt (Elt F) feM.view (Rect.unit (s := S1) ![0] S1.size inb_S1_S1_0).toLoadRect fe (Shape.Idx.first (lt_of_lt_of_eq Nat.one_pos numel1_S1.symm))

abbrev Tabs : sProp 𝕄 := iprop(tpts c beM be ∗ tpts c nxM nx ∗ tpts c nuM nu ∗ tpts c feM fe)

/-- The five operands of the block handed to the body, as the run leaves them; `z` is what the output block holds. -/
abbrev Blocks (z : Vec F S256x2048 .f32) : sProp 𝕄 :=
  iprop(Tabs c be nx nu fe ∗ owns (c : Thread nD τ) arg6 fullShare x ∗ owns (c : Thread nD τ) arg7 fullShare b ∗ owns (c : Thread nD τ) arg9 fullShare z)

/-- The same before the run: the output block at anything. -/
abbrev Before : sProp 𝕄 :=
  iprop(Tabs c be nx nu fe ∗ owns (c : Thread nD τ) arg6 fullShare x ∗ owns (c : Thread nD τ) arg7 fullShare b ∗ (∃ d, owns (c : Thread nD τ) arg9 fullShare d))

/-- The tables and the blocks, held piece by piece, are `Blocks`. -/
theorem blocks_intro (z : Vec F S256x2048 .f32) {f6 f7 f9} (h6 : arg6.view.read (Elt F) f6 = x) (h7 : arg7.view.read (Elt F) f7 = b) :
    iprop(tpts c beM be ∗ tpts c nxM nx ∗ tpts c nuM nu ∗ tpts c feM fe ∗ (arg6.view.loc (c : Thread nD τ) ↦[arg6.view.set]{fullShare} f6)
      ∗ (arg7.view.loc (c : Thread nD τ) ↦[arg7.view.set]{fullShare} f7) ∗ (arg9.view.loc (c : Thread nD τ) ↦[arg9.view.set]{fullShare} f9)
      ∗ ⌜arg9.view.read (Elt F) f9 = z⌝)
      ⊢ Blocks c arg6 arg7 arg9 be nx nu fe x b z := by
  unfold Blocks Tabs owns
  iintro ⟨HT0, HT1, HT2, HT3, H6, H7, H9, %h9⟩
  isplitl [HT0 HT1 HT2 HT3]
  · isplitl [HT0]; · iexact HT0
    isplitl [HT1]; · iexact HT1
    isplitl [HT2]; · iexact HT2
    iexact HT3
  isplitl [H6]
  · iexists f6; isplitr; · ipureintro; exact h6
    iexact H6
  isplitl [H7]
  · iexists f7; isplitr; · ipureintro; exact h7
    iexact H7
  iexists f9; isplitr; · ipureintro; exact h9
  iexact H9

/-- A block past the used ones: the output is zeros. -/
theorem run_idle (h1 : ¬ k0_cond1 i (nuW c nu) = 1#1) (h5 : k0_cond5 i (nuW c nu) = 1#1) (W : Waits sig Unit) (K : PUnit → sProp 𝕄) :
    iprop(Before c arg6 arg7 arg9 be nx nu fe x b ∗ owes (c : Thread nD τ) 0 W
       ∗ (iprop(Blocks c arg6 arg7 arg9 be nx nu fe x b k0_pay3 ∗ ∃ W', owes (c : Thread nD τ) 0 W') -∗ K ⟨⟩))
     ⊢ wp frame (wpE (defs₀ (F := F)) Variants.none (c : Thread nD τ) none) Set.univ (body (F := F) i arg6 harg6 arg7 harg7 arg9 harg9) K := by
  unfold body
  simp only [cc0_expert_down_eq_skeleton]; unfold cc0_expert_down_skel
  unfold Before owns
  iintro ⟨⟨⟨HT0, HT1, HT2, HT3⟩, ⟨%f6, %hf6, H6⟩, ⟨%f7, %hf7, H7⟩, ⟨%d9, %f9, -, H9⟩⟩, HW, Hk⟩
  sl_exec
  sl_step
  iapply Hk
  isplitr [HW]
  · iapply (blocks_intro c arg6 arg7 arg9 be nx nu fe x b _ hf6 hf7)
    iframe
    ipureintro; exact View.read_writes_full _ _ _ _ _
  iexists _; iexact HW

/-- A used block of the same expert as the one before: the cast weights are there. -/
theorem run_same (h1 : k0_cond1 i (nuW c nu) = 1#1) (hc1 : k0_chk1 i (nuW c nu) (beW c i be) (prW c i be))
    (h2 : ¬ k0_cond2 i (beW c i be) (prW c i be) = 1#1) (h5 : ¬ k0_cond5 i (nuW c nu) = 1#1)
    (wb : BufOf (F := F) c wbM) (W : Waits sig Unit) (K : PUnit → sProp 𝕄) :
    iprop(Before c arg6 arg7 arg9 be nx nu fe x b ∗ pts c wbM wb ∗ owes (c : Thread nD τ) 0 W
       ∗ (iprop(Blocks c arg6 arg7 arg9 be nx nu fe x b (k0_pay2 x wb b) ∗ pts c wbM wb ∗ ∃ W', owes (c : Thread nD τ) 0 W') -∗ K ⟨⟩))
     ⊢ wp frame (wpE (defs₀ (F := F)) Variants.none (c : Thread nD τ) none) Set.univ (body (F := F) i arg6 harg6 arg7 harg7 arg9 harg9) K := by
  unfold body
  simp only [cc0_expert_down_eq_skeleton]; unfold cc0_expert_down_skel
  unfold Before owns
  iintro ⟨⟨⟨HT0, HT1, HT2, HT3⟩, ⟨%f6, %hf6, H6⟩, ⟨%f7, %hf7, H7⟩, ⟨%d9, %f9, -, H9⟩⟩, Hwb, HW, Hk⟩
  sl_exec
  sl_step
  iapply Hk
  isplitr [HW Hwb]
  · iapply (blocks_intro c arg6 arg7 arg9 be nx nu fe x b _ hf6 hf7)
    iframe
    ipureintro
    refine (View.read_writes_full _ _ _ _ _).trans ?_
    rw [View.readAt_full, View.readAt_full, View.readAt_full, hf6, hf7]; rfl
  isplitl [Hwb]; · iexact Hwb
  iexists _; iexact HW

/-- The end of a run that changed the weights: what the second buffer and the output block hold. -/
theorem change_end (w : BufOf (F := F) c wM) (e : Fin 32) (o : Option (Fin 32)) {f6 f7 f9} (h6 : arg6.view.read (Elt F) f6 = x)
    (h7 : arg7.view.read (Elt F) f7 = b) (X : Vec F S2048x2048 .f32) (n : ℕ) (hn : n = k0_t1_loop.trips)
    (wb : BufOf (F := F) c wbM) (v20 : Vec F S2048x2048 .bf16) (W : Waits sig Unit) :
    iprop((tpts c beM be ∗ tpts c nxM nx ∗ tpts c nuM nu ∗ tpts c feM fe ∗ (arg6.view.loc (c : Thread nD τ) ↦[arg6.view.set]{fullShare} f6)
      ∗ (arg7.view.loc (c : Thread nD τ) ↦[arg7.view.set]{fullShare} f7) ∗ (arg9.view.loc (c : Thread nD τ) ↦[arg9.view.set]{fullShare}
          arg9.view.writes (Elt F) f9 [⟨Rect.unit ![0, 0] S256x2048.size inb_S256x2048_S256x2048_0_0,
          k0_pay2
            (View.readAt (Elt F) arg6.view (Rect.unit ![0, 0] S256x2048.size inb_S256x2048_S256x2048_0_0).toLoadRect f6)
            v20
            (View.readAt (Elt F) arg7.view
              (Rect.unit ![0, 0, 0] S1x1x2048.size inb_S1x1x2048_S1x1x2048_0_0_0).toLoadRect f7)⟩]))
      ∗ (wbM.view.loc (c : Thread nD τ) ↦{fullShare} wbM.view.writes (Elt F) wb (strips X n)) ∗ owes (c : Thread nD τ) 0 W ∗ stage c w o
      ∗ ⌜X = wOf c w e⌝ ∗ ⌜v20 = castB X⌝)
    ⊢ iprop(Blocks c arg6 arg7 arg9 be nx nu fe x b (k0_pay2 x (castB (wOf c w e)) b) ∗ pts c wbM (castB (wOf c w e))
            ∗ stage c w o ∗ ∃ W', owes (c : Thread nD τ) 0 W') := by
  iintro ⟨⟨HT0, HT1, HT2, HT3, H6, H7, H9⟩, Hwb, HW, Hs, %hX, %hv⟩
  subst hX hv
  isplitl [HT0 HT1 HT2 HT3 H6 H7 H9]
  · iapply (blocks_intro c arg6 arg7 arg9 be nx nu fe x b _ h6 h7)
    iframe
    ipureintro
    refine (View.read_writes_full _ _ _ _ _).trans ?_
    rw [View.readAt_full, View.readAt_full, h6, h7]
  isplitl [Hwb]
  · rw [writes_strips _ _ _ hn]; iexact Hwb
  isplitl [Hs]; · iexact Hs
  iexists W; iexact HW

/-- A used block of another expert than the one before, the first included. Its weights are on their way (`some e`) or, at the
    first block, start now; the next expert's start when there is one (`o`). -/
theorem run_change (w : BufOf (F := F) c wM) (e : Fin 32) (s o : Option (Fin 32))
    (h1 : k0_cond1 i (nuW c nu) = 1#1) (hc1 : k0_chk1 i (nuW c nu) (beW c i be) (prW c i be))
    (h2 : k0_cond2 i (beW c i be) (prW c i be) = 1#1) (h5 : ¬ k0_cond5 i (nuW c nu) = 1#1)
    (hoff4 : k0_off4 i (beW c i be) = ![e.val, 0, 0])
    (hs : (k0_cond3 i = 1#1 ∧ s = none) ∨ (¬ k0_cond3 i = 1#1 ∧ s = some e))
    (hc2 : k0_chk2 i (nuW c nu) (beW c i be) (prW c i be) (nxW c i nx))
    (hc3 : k0_chk3 i (nuW c nu) (beW c i be) (prW c i be) (nxW c i nx) (nxW c i nx) (feW c fe))
    (ho : (¬ k0_cond4 i (nxW c i nx) = 1#1 ∧ o = none)
      ∨ (k0_cond4 i (nxW c i nx) = 1#1 ∧ ∃ e', o = some e' ∧ k0_off8 i (nxW c i nx) (nxW c i nx) (feW c fe) = ![e'.val, 0, 0]))
    (W : Waits sig Unit) (K : PUnit → sProp 𝕄) :
    iprop(Before c arg6 arg7 arg9 be nx nu fe x b ∗ (∃ wb, pts c wbM wb) ∗ stage c w s ∗ owes (c : Thread nD τ) 0 W
       ∗ (iprop(Blocks c arg6 arg7 arg9 be nx nu fe x b (k0_pay2 x (castB (wOf c w e)) b) ∗ pts c wbM (castB (wOf c w e))
            ∗ stage c w o ∗ ∃ W', owes (c : Thread nD τ) 0 W') -∗ K ⟨⟩))
     ⊢ wp frame (wpE (defs₀ (F := F)) Variants.none (c : Thread nD τ) none) Set.univ (body (F := F) i arg6 harg6 arg7 harg7 arg9 harg9) K := by
  unfold body
  simp only [cc0_expert_down_eq_skeleton]; unfold cc0_expert_down_skel
  unfold Before owns
  rcases hs with ⟨h3, rfl⟩ | ⟨h3, rfl⟩ <;> rcases ho with ⟨h4, rfl⟩ | ⟨h4, e', rfl, hoff8⟩
  · rw [show stage c w none = atRest c w from rfl]; unfold atRest
    iintro ⟨⟨⟨HT0, HT1, HT2, HT3⟩, ⟨%f6, %hf6, H6⟩, ⟨%f7, %hf7, H7⟩, ⟨%d9, %f9, -, H9⟩⟩, ⟨%wb, Hwb⟩, ⟨⟨%st, Hst⟩, HF, Hw⟩, HW, Hk⟩
    sl_exec
    sl_step
    iapply Hk
    iapply (change_end c arg6 arg7 arg9 be nx nu fe x b w e none hf6 hf7 _ _ rfl _ _ _)
    isplitl [HT0 HT1 HT2 HT3 H6 H7 H9]; · iframe
    isplitl [Hwb]; · iexact Hwb
    isplitl [HW]; · iexact HW
    isplitl [Hst HF Hw]
    · iapply (rest_intro c w _)
      iframe
      iexact HF
    isplitr
    · ipureintro; exact (View.write_whole_univ _ _ _).trans (read_wsl c w e _ _ hoff4)
    · ipureintro; unfold run_change.sl.v20; exact readCov_strips _ _ rfl
  · rw [show stage c w none = atRest c w from rfl]; unfold atRest
    iintro ⟨⟨⟨HT0, HT1, HT2, HT3⟩, ⟨%f6, %hf6, H6⟩, ⟨%f7, %hf7, H7⟩, ⟨%d9, %f9, -, H9⟩⟩, ⟨%wb, Hwb⟩, ⟨⟨%st, Hst⟩, HF, Hw⟩, HW, Hk⟩
    sl_exec
    sl_step
    iapply Hk
    iapply (change_end c arg6 arg7 arg9 be nx nu fe x b w e (some e') hf6 hf7 _ _ rfl _ _ _)
    isplitl [HT0 HT1 HT2 HT3 H6 H7 H9]; · iframe
    isplitl [Hwb]; · iexact Hwb
    isplitl [HW]; · iexact HW
    isplitl [HF Hw]
    · iapply (mov_intro c w e' _ _)
      isplitl [HF]; · iexact HF
      isplitl [Hw]; · iexact Hw
      ipureintro
      exact (View.write_whole_univ _ _ _).trans (read_wsl c w e' _ _ hoff8)
    isplitr
    · ipureintro; exact (View.write_whole_univ _ _ _).trans (read_wsl c w e _ _ hoff4)
    · ipureintro; unfold run_change.sl.v20_1; exact readCov_strips _ _ rfl
  · rw [show stage c w (some e) = mov c w e from rfl]; unfold mov
    iintro ⟨⟨⟨HT0, HT1, HT2, HT3⟩, ⟨%f6, %hf6, H6⟩, ⟨%f7, %hf7, H7⟩, ⟨%d9, %f9, -, H9⟩⟩, ⟨%wb, Hwb⟩, HF, HW, Hk⟩
    sl_exec
    sl_step
    iapply Hk
    iapply (change_end c arg6 arg7 arg9 be nx nu fe x b w e none hf6 hf7 _ _ rfl _ _ _)
    isplitl [HT0 HT1 HT2 HT3 H6 H7 H9]; · iframe
    isplitl [Hwb]; · iexact Hwb
    isplitl [HW]; · iexact HW
    isplitl [HF_dst HF HF_src]
    · iapply (rest_intro c w _)
      iframe
      iexact HF
    isplitr
    · ipureintro; exact rfl
    · ipureintro; unfold run_change.sl.v20_2; exact readCov_strips _ _ rfl
  · rw [show stage c w (some e) = mov c w e from rfl]; unfold mov
    iintro ⟨⟨⟨HT0, HT1, HT2, HT3⟩, ⟨%f6, %hf6, H6⟩, ⟨%f7, %hf7, H7⟩, ⟨%d9, %f9, -, H9⟩⟩, ⟨%wb, Hwb⟩, HF, HW, Hk⟩
    sl_exec
    sl_step
    iapply Hk
    iapply (change_end c arg6 arg7 arg9 be nx nu fe x b w e (some e') hf6 hf7 _ _ rfl _ _ _)
    isplitl [HT0 HT1 HT2 HT3 H6 H7 H9]; · iframe
    isplitl [Hwb]; · iexact Hwb
    isplitl [HW]; · iexact HW
    isplitl [HF HF_src]
    · iapply (mov_intro c w e' _ _)
      isplitl [HF]; · iexact HF
      isplitl [HF_src]; · iexact HF_src
      ipureintro
      exact (View.write_whole_univ _ _ _).trans (read_wsl c w e' _ _ hoff8)
    isplitr
    · ipureintro; exact rfl
    · ipureintro; unfold run_change.sl.v20_3; exact readCov_strips _ _ rfl

end Cert.Kernel3Ideal.Down

end
-- ==== Proof.Down.Tables.lean ====
/- The tables of expert_down in words: what makes them good, the conditions and offsets the body computes from them, and
   that the blocks they name lie inside their arrays. -/
module

public import proofs.«01_k».proof.Proof.Down.Body
public import Idealize.ShloMosaic.Lib.ValueIdxCore

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.ValueIdx

variable {F : FTy → Type} [FloatOps F]

/-- Good tables: every block's expert is one of the 32, some block and no more than 288 are used, and over the used blocks
    the second table names the expert of the next run, the same throughout a run, and no expert past the last run. -/
structure Good (be nx : Fin 288 → BitVec 32) (nu : BitVec 32) : Prop where
  be_lt : ∀ k, (be k).toNat < 32
  nu_pos : 1 ≤ nu.toNat
  nu_le : nu.toNat ≤ 288
  next : ∀ k k' : Fin 288, k'.val = k.val + 1 → k'.val < nu.toNat → (be k' = be k ∧ nx k' = nx k) ∨ (be k' ≠ be k ∧ nx k = be k')
  last : ∀ k : Fin 288, k.val + 1 = nu.toNat → 32 ≤ (nx k).toInt

/-- On the used blocks the second table names an expert, or says there is none. -/
theorem Good.next_cases {be nx : Fin 288 → BitVec 32} {nu : BitVec 32} (G : Good be nx nu) (k : Fin 288) (hk : k.val < nu.toNat) :
    32 ≤ (nx k).toInt ∨ (nx k).toNat < 32 := by
  obtain ⟨d, hd⟩ : ∃ d, k.val + 1 + d = nu.toNat := ⟨nu.toNat - (k.val + 1), by omega⟩
  induction d generalizing k with
  | zero => exact .inl (G.last k hd)
  | succ d ih =>
    have hle := G.nu_le
    have hn := G.next k ⟨k.val + 1, by omega⟩ rfl (show k.val + 1 < nu.toNat by omega)
    rcases hn with ⟨-, h⟩ | ⟨-, h⟩
    · rw [← h]
      exact ih _ (show k.val + 1 < nu.toNat by omega) (show k.val + 1 + 1 + d = nu.toNat by omega)
    · rw [h]; exact .inr (G.be_lt _)

/-- A word below 32 is below 32 as a signed number, and a word from 32 on as a signed number is not below 32. -/
theorem not_lt_of_ge {x : BitVec 32} (h : 32 ≤ x.toInt) : ¬ x.toNat < 32 := by
  intro h'
  rw [BitVec.toInt_eq_toNat_of_lt (by omega)] at h
  omega

/-- The expert a block's word names, and the expert of the next run where there is one. -/
def expert (x : BitVec 32) : Fin 32 := ⟨x.toNat % 32, Nat.mod_lt _ (by decide)⟩
def nextExpert (x : BitVec 32) : Option (Fin 32) := if x.toNat < 32 then some (expert x) else none

/-- A word below 32 is the number of its expert. -/
theorem expert_val {x : BitVec 32} (h : x.toNat < 32) : (expert x).val = x.toNat := Nat.mod_eq_of_lt h

section conditions
variable (i : grid0.Coords)

/-- A bit widened and tested against zero is the bit. -/
theorem bit_test (b : BitVec 1) : Scalar.cmpi .ne (Scalar.extui b : BitVec 32) 0#32 = b := by
  revert b; decide

/-- The second coordinate of a grid point names one of the 288 blocks. -/
theorem coord_lt : (i 1).val < 288 := (i 1).isLt
/-- The first coordinate of a grid point is zero. -/
theorem coord_zero : (i 0).val = 0 := Nat.lt_one_iff.mp (i 0).isLt

/-- The block is used. -/
theorem cond1_iff {nu : BitVec 32} (h : nu.toNat ≤ 288) : k0_cond1 i nu = 1#1 ↔ (i 1).val < nu.toNat := by
  have hi := coord_lt i
  unfold k0_cond1
  dsimp only
  rw [bit_test]
  refine Iff.trans (b := IntOp.cmpi .slt (BitVec.ofNat 32 (i 1).val) nu = 1#1) Iff.rfl ?_
  rw [WordCmp.cmpi_slt_of_lt (by rw [WordCmp.toNat_ofNat_of_lt (by omega)]; omega) (by omega), WordCmp.ofBool_decide_eq_one_iff,
    WordCmp.toNat_ofNat_of_lt (by omega)]

/-- The block is past the used ones. -/
theorem cond5_iff {nu : BitVec 32} (h : nu.toNat ≤ 288) : k0_cond5 i nu = 1#1 ↔ nu.toNat ≤ (i 1).val := by
  have hi := coord_lt i
  unfold k0_cond5
  dsimp only
  rw [bit_test]
  refine Iff.trans (b := IntOp.cmpi .sge (BitVec.ofNat 32 (i 1).val) nu = 1#1) Iff.rfl ?_
  rw [WordCmp.cmpi_sge_of_lt (by rw [WordCmp.toNat_ofNat_of_lt (by omega)]; omega) (by omega), WordCmp.ofBool_decide_eq_one_iff,
    WordCmp.toNat_ofNat_of_lt (by omega)]

/-- The block's run begins. -/
theorem cond2_iff (x y : BitVec 32) : k0_cond2 i x y = 1#1 ↔ ((i 1).val = 0 ∨ x ≠ y) := by
  have hi := coord_lt i
  unfold k0_cond2
  dsimp only
  rw [bit_test]
  refine Iff.trans (b := IntOp.ori (IntOp.cmpi .eq (BitVec.ofNat 32 (i 1).val) (BitVec.ofNat 32 0)) (IntOp.cmpi .ne x y) = 1#1) Iff.rfl ?_
  rw [WordCmp.cmpi_eq_ofNat (by omega) (by omega), WordCmp.cmpi_ne_eq, WordCmp.ori_ofBool]
  by_cases h0 : (i 1).val = 0 <;> by_cases hx : x = y <;> simp [h0, hx]

/-- The first block of all. -/
theorem cond3_iff : k0_cond3 i = 1#1 ↔ (i 1).val = 0 := by
  have hi := coord_lt i
  unfold k0_cond3
  dsimp only
  rw [bit_test]
  refine Iff.trans (b := IntOp.andi (IntOp.cmpi .eq (BitVec.ofNat 32 (i 1).val) (BitVec.ofNat 32 0))
    (IntOp.cmpi .eq (BitVec.ofNat 32 (i 0).val) (BitVec.ofNat 32 0)) = 1#1) Iff.rfl ?_
  rw [WordCmp.cmpi_eq_ofNat (by omega) (by omega), coord_zero i, WordCmp.cmpi_eq_ofNat (by omega) (by omega), WordCmp.andi_ofBool]
  by_cases h0 : (i 1).val = 0 <;> simp [h0]

/-- Where the second table names an expert, the body starts the copy of that expert's weights. -/
theorem slt_32 {x : BitVec 32} (h : x.toNat < 32) : Scalar.cmpi .slt x 32#32 = 1#1 := by
  refine Eq.trans (b := IntOp.cmpi .slt x 32#32) rfl ?_
  rw [WordCmp.cmpi_slt_of_lt (by omega) (by decide), WordCmp.ofBool_decide_eq_one_iff]
  exact h

/-- A word of 32 or more does not test below 32. -/
theorem not_slt_32 {x : BitVec 32} (h : 32 ≤ x.toInt) : Scalar.cmpi .slt x 32#32 = 0#1 := by
  refine Eq.trans (b := IntOp.cmpi .slt x 32#32) rfl ?_
  rw [WordCmp.cmpi_slt_eq]
  have : ¬ x.toInt < (32#32 : BitVec 32).toInt := by
    rw [show (32#32 : BitVec 32).toInt = 32 from by decide]; omega
  rw [decide_eq_false this]; rfl

/-- The body starts a copy when the table names a next expert. -/
theorem cond4_of_lt {x : BitVec 32} (h : x.toNat < 32) : k0_cond4 i x = 1#1 := by
  unfold k0_cond4
  dsimp only
  rw [bit_test, slt_32 h, coord_zero i]
  decide

/-- The body starts none when the table names none. -/
theorem cond4_of_ge {x : BitVec 32} (h : 32 ≤ x.toInt) : ¬ k0_cond4 i x = 1#1 := by
  unfold k0_cond4
  dsimp only
  rw [bit_test, not_slt_32 h, coord_zero i]
  decide

/-- A copy of expert `x`'s matrix begins at that expert. -/
theorem off4_eq (x : BitVec 32) : k0_off4 i x = ![x.toNat, 0, 0] := by
  unfold k0_off4
  dsimp only
  rw [coord_zero i]
  rfl

/-- A copy of the next expert's matrix begins at that expert. -/
theorem off8_eq {x : BitVec 32} (h : x.toNat < 32) (y : BitVec 32) : k0_off8 i x x y = ![x.toNat, 0, 0] := by
  unfold k0_off8
  dsimp only
  rw [slt_32 h, coord_zero i]
  rfl

/-- An expert's weights lie inside the weight array. -/
theorem expert_inb {n : ℕ} (h : n < 32) (a : Fin 3) : (![n, 0, 0] : Fin 3 → ℕ) a + S1x2048x2048.size a ≤ S32x2048x2048.size a := by
  match a with
  | 0 => exact h
  | 1 => exact Nat.le_of_eq rfl
  | 2 => exact Nat.le_of_eq rfl

/-- The copy that a run waits for lies inside the matrices. -/
theorem chk1_of {x : BitVec 32} (h : x.toNat < 32) (nu y : BitVec 32) : k0_chk1 i nu x y :=
  ⟨fun _ _ _ a => by rw [off4_eq]; exact expert_inb h a, fun _ _ a => (by rw [off4_eq]; exact expert_inb h a : k0_off4 i x a + _ ≤ _)⟩

/-- The column where the next copy begins is a multiple of the tile's width. -/
theorem chk2_of {z : BitVec 32} (hz : 32 ≤ z.toInt ∨ z.toNat < 32) (nu x y : BitVec 32) : k0_chk2 i nu x y z := fun _ _ h4 => by
  rcases hz with h | h
  · exact absurd h4 (cond4_of_ge i h)
  · unfold k0_mult4
    dsimp only
    rw [slt_32 h, coord_zero i]
    decide

/-- The next copy lies inside the weights. -/
theorem chk3_of {z : BitVec 32} (hz : 32 ≤ z.toInt ∨ z.toNat < 32) (nu x y w : BitVec 32) : k0_chk3 i nu x y z z w := fun _ _ h4 a => by
  rcases hz with h | h
  · exact absurd h4 (cond4_of_ge i h)
  · rw [off8_eq i h]; exact expert_inb h a

end conditions

section reads
variable (i : grid0.Coords) (c : Dev nD)

/-- A one-word read of a table of 288 words is the word at the read's offset. -/
theorem read288 (f : S288.Idx → BitVec 32) (off : Fin 1 → ℕ) (inb : ∀ a, off a + S1.size a ≤ S288.size a) (k : Fin 288) (h : off = ![k.val])
    (j : (Rect.unit (s := S288) off S1.size inb).shape.Idx) : f ((Rect.unit (s := S288) off S1.size inb).emb j) = f (ix1 k) := by
  subst h
  congr 1
  funext a
  apply Fin.ext
  match a with
  | 0 =>
    have hj : (j 0).val < 1 := (j 0).isLt
    show k.val + 1 * (j 0).val = k.val
    omega

/-- A read of a one-word table is its word. -/
theorem read1 (f : S1.Idx → BitVec 32) (j j' : S1.Idx) : f j = f j' := by
  congr 1
  funext a
  match a with
  | 0 => exact Subsingleton.elim (α := Fin 1) _ _

/-- A word of a table that the grid's second coordinate reads. -/
theorem off_coord : (![(Scalar.indexCast (BitVec.ofNat 32 (i 1).val) : Index).toNat] : Fin 1 → ℕ) = ![(i 1).val] := by
  have hi := coord_lt i
  congr 1
  exact WordCmp.toNat_ofNat_of_lt (by omega)

/-- The word read of the experts' table is the block's entry. -/
theorem beW_eq (be : BufOf (F := F) c beM) : beW c i be = (be : S288.Idx → BitVec 32) (ix1 ⟨(i 1).val, coord_lt i⟩) :=
  Eq.trans rfl (read288 be (k0_off2 i) (k0_off2_inb i) ⟨(i 1).val, coord_lt i⟩ (off_coord i) _)

/-- The word read of the next experts' table is the block's entry. -/
theorem nxW_eq (nx : BufOf (F := F) c nxM) : nxW c i nx = (nx : S288.Idx → BitVec 32) (ix1 ⟨(i 1).val, coord_lt i⟩) :=
  Eq.trans rfl (read288 nx (k0_off7 i) (k0_off7_inb i) ⟨(i 1).val, coord_lt i⟩ (off_coord i) _)

/-- The word read of the third table is the number of used blocks. -/
theorem nuW_eq (nu : BufOf (F := F) c nuM) : nuW c nu = (nu : S1.Idx → BitVec 32) (ix1 0) :=
  Eq.trans rfl (read1 nu _ _)

/-- The word before the block's own. -/
theorem prW_eq (be : BufOf (F := F) c beM) (h : (i 1).val ≠ 0) :
    prW c i be = (be : S288.Idx → BitVec 32) (ix1 ⟨(i 1).val - 1, lt_of_le_of_lt (Nat.sub_le _ _) (coord_lt i)⟩) := by
  refine Eq.trans rfl (read288 be (k0_off3 i) (k0_off3_inb i) ⟨(i 1).val - 1, lt_of_le_of_lt (Nat.sub_le _ _) (coord_lt i)⟩ ?_ _)
  have hi := coord_lt i
  unfold k0_off3
  dsimp only
  congr 1
  generalize (i 1).val = n at h hi ⊢
  have key : ∀ n : Fin 288, n.val ≠ 0 →
      (Scalar.indexCast (Scalar.maxsi (Scalar.subi (BitVec.ofNat 32 n.val) 1#32) 0#32) : Index).toNat = n.val - 1 := by
    decide +kernel
  exact key ⟨n, hi⟩ h

end reads

section launch
variable (m : (ℓ : Loc nD τ sig) → Buf (Elt F) ℓ)

/-- The launch's tables in words. -/
def beT (k : Fin 288) : BitVec 32 := (tbl m 0 : S288.Idx → BitVec 32) (ix1 k)
def nxT (k : Fin 288) : BitVec 32 := (tbl m 1 : S288.Idx → BitVec 32) (ix1 k)
def nuT : BitVec 32 := (tbl m 2 : S1.Idx → BitVec 32) (ix1 0)

/-- The launch's tables are good. -/
abbrev GoodT : Prop := Good (beT m) (nxT m) (nuT m)

/-- The map of the hidden blocks: the block itself as long as it is used, afterwards the last used one. -/
theorem map0_eq (G : GoodT m) (i : grid0.Coords) :
    cc0_transform_0 inb_S1_S1_0 numel1_S1 (tbl m) i = ![min (i 1).val ((nuT m).toNat - 1), 0] := by
  have hi := coord_lt i
  have h1 := G.nu_pos
  have h2 := G.nu_le
  have hw : ((tbl m).at 2 (Rect.unit (s := S1) ![0] S1.size inb_S1_S1_0) numel1_S1 : BitVec 32) = nuT m := read1 (tbl m 2) _ _
  unfold cc0_transform_0
  dsimp only
  rw [hw]
  congr 1
  have hs : (Scalar.subi (nuT m) 1#32 : BitVec 32) = BitVec.ofNat 32 ((nuT m).toNat - 1) := by
    apply BitVec.eq_of_toNat_eq
    show (nuT m - 1#32).toNat = _
    rw [BitVec.toNat_sub, BitVec.toNat_ofNat]
    simp only [BitVec.toNat_ofNat]
    omega
  rw [hs]
  generalize hn : (nuT m).toNat - 1 = n
  have hn' : n < 288 := by omega
  generalize (i 1).val = k at hi ⊢
  show (Scalar.minsi (BitVec.ofNat 32 k) (BitVec.ofNat 32 n) : BitVec 32).toNat = min k n
  unfold Scalar.minsi IntOp.minsi
  have ek : (BitVec.ofNat 32 k).toInt = (k : ℤ) := WordCmp.toInt_ofNat_of_lt (by omega)
  have en : (BitVec.ofNat 32 n).toInt = (n : ℤ) := WordCmp.toInt_ofNat_of_lt (by omega)
  simp only [BitVec.slt, ek, en, Int.ofNat_lt, decide_eq_true_eq]
  split
  · rw [WordCmp.toNat_ofNat_of_lt (by omega)]; omega
  · rw [WordCmp.toNat_ofNat_of_lt (by omega)]; omega

/-- The map of the biases: the block's expert. -/
theorem map1_eq (i : grid0.Coords) :
    cc0_transform_1 k0_off1_inb numel1_S1 (tbl m) i = ![(beT m ⟨(i 1).val, coord_lt i⟩).toNat, 0, 0] := by
  have hw : ((tbl m).at 0 (Rect.unit (s := S288) (k0_off1 i) S1.size (k0_off1_inb i)) numel1_S1 : BitVec 32) = beT m ⟨(i 1).val, coord_lt i⟩ :=
    read288 (tbl m 0) (k0_off1 i) (k0_off1_inb i) ⟨(i 1).val, coord_lt i⟩ (off_coord i) _
  have h0 := coord_zero i
  refine Eq.trans (b := ![((tbl m).at 0 (Rect.unit (s := S288) (k0_off1 i) S1.size (k0_off1_inb i)) numel1_S1 : BitVec 32).toNat, 0,
    (BitVec.ofNat 32 (i 0).val).toNat]) rfl ?_
  rw [hw, h0]
  rfl

/-- Good tables name blocks inside their arrays. -/
theorem ok_of_good (G : GoodT m) : Ok m := by
  have h1 := G.nu_pos
  have h2 := G.nu_le
  refine ⟨fun i => ?_, fun i => ?_⟩
  · rw [map0_eq m G i]
    have hi := coord_lt i
    refine ⟨fun a => ?_, .inr ?_⟩
    · match a with
      | 0 =>
        show (min (i 1).val ((nuT m).toNat - 1) + 1) * 256 ≤ 73728
        omega
      | 1 => exact Nat.le_of_eq rfl
    · refine .inl (.inr ⟨by decide, rfl, .inl ⟨?_, ?_⟩⟩)
      · show 2 ∣ min (i 1).val ((nuT m).toNat - 1) * 256
        exact Dvd.dvd.mul_left (by decide) _
      · show 2 ∣ 256
        decide
  · rw [map1_eq m i]
    refine ⟨fun a => ?_, .inl rfl⟩
    match a with
    | 0 =>
      have := G.be_lt ⟨(i 1).val, coord_lt i⟩
      show ((beT m ⟨(i 1).val, coord_lt i⟩).toNat + 1) * 1 ≤ 32
      omega
    | 1 => exact Nat.le_of_eq rfl
    | 2 => exact Nat.le_of_eq rfl

/-- Every point stores the output block. -/
theorem not_idle (G : GoodT m) (i : grid0.Coords) : idle0 (tbl m) 2 i = false := by
  have h2 := G.nu_le
  have hw : ((tbl m).atD 2 ![0] : BitVec 32) = nuT m := by
    unfold Pipeline.Prefetch.Contents.atD
    rw [dif_pos (fun a => match a with | ⟨0, _⟩ => Nat.le_of_eq rfl)]
    exact read1 (tbl m 2) _ _
  show (!(k0_cond1 i ((tbl m).atD 2 ![0]) == 1#1) && !(k0_cond5 i ((tbl m).atD 2 ![0]) == 1#1)) = false
  rw [hw]
  by_cases h : (i 1).val < (nuT m).toNat
  · rw [(cond1_iff i h2).2 h]; rfl
  · rw [(cond5_iff i h2).2 (by omega)]; simp

end launch

end Cert.Kernel3Ideal.Down

end
-- ==== Proof.Down.Step.lean ====
/- One point of expert_down, whatever its case: the cast weights and the move under way before and after it, and the block
   it leaves. -/
module

public import proofs.«01_k».proof.Proof.Down.Tables

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (c : Dev nD)

/-- The weights at the launch. -/
abbrev W0 : BufOf (F := F) c wM := V m c main_arg6

/-- The weights of block `k`'s expert, cast. -/
def wAt (k : Fin 288) : Vec F S2048x2048 .bf16 := castB (wOf c (W0 m c) (expert (beT m k)))

/-- What the body carries from a point to the next: after the used block `k`, its cast weights and the move of the next run's. -/
def carry (k : Fin 288) : sProp 𝕄 := iprop(pts c wbM (wAt m c k) ∗ stage c (W0 m c) (nextExpert (nxT m k)))

/-- The last used block among the first `n + 1`. -/
def lastUsed (n : ℕ) : Fin 288 := ⟨min n ((nuT m).toNat - 1) % 288, Nat.mod_lt _ (by decide)⟩

/-- What the body carries after its first `n` points: before the first, anything and no move. -/
def St : ℕ → sProp 𝕄
  | 0 => iprop((∃ wb, pts c wbM wb) ∗ stage c (W0 m c) none)
  | n + 1 => carry m c (lastUsed m n)

/-- The block the body leaves at point `i`. -/
def outAt (i : grid0.Coords) (x : Vec F S256x2048 .bf16) (b : Vec F S1x1x2048 .f32) : Vec F S256x2048 .f32 :=
  if (i 1).val < (nuT m).toNat then k0_pay2 x (wAt m c ⟨(i 1).val, coord_lt i⟩) b else k0_pay3

variable (i : grid0.Coords)
  (arg6 : Memref sig .tc .vmem S256x2048 .bf16) (harg6 : arg6.IsWhole) (arg7 : Memref sig .tc .vmem S1x1x2048 .f32) (harg7 : arg7.IsWhole)
  (arg9 : Memref sig .tc .vmem S256x2048 .f32) (harg9 : arg9.IsWhole)
  (x : Vec F S256x2048 .bf16) (b : Vec F S1x1x2048 .f32)

/-- A used block is the last used one among those up to it. -/
theorem lastUsed_used {n : ℕ} (hn : n < 288) (h : n < (nuT m).toNat) : lastUsed m n = ⟨n, hn⟩ := by
  apply Fin.ext
  show min n ((nuT m).toNat - 1) % 288 = n
  rw [Nat.min_eq_left (by omega), Nat.mod_eq_of_lt hn]

/-- The move after a used block, in the two forms the run takes it. -/
theorem next_forms (G : GoodT m) (k : Fin 288) (hk : k.val < (nuT m).toNat) (z : BitVec 32) (hz : z = nxT m k) (fw : BitVec 32) :
    (¬ k0_cond4 i z = 1#1 ∧ nextExpert (nxT m k) = none)
      ∨ (k0_cond4 i z = 1#1 ∧ ∃ e', nextExpert (nxT m k) = some e' ∧ k0_off8 i z z fw = ![e'.val, 0, 0]) := by
  subst hz
  rcases G.next_cases k hk with h | h
  · exact .inl ⟨cond4_of_ge i h, if_neg (not_lt_of_ge h)⟩
  · exact .inr ⟨cond4_of_lt i h, expert (nxT m k), if_pos h, by rw [off8_eq i h, expert_val h]⟩

/-- A point that begins a run of blocks. -/
theorem step_change (G : GoodT m) (hu : (i 1).val < (nuT m).toNat) (s : Option (Fin 32))
    (h2 : k0_cond2 i (beW c i (tbl m 0)) (prW c i (tbl m 0)) = 1#1)
    (hs : (k0_cond3 i = 1#1 ∧ s = none) ∨ (¬ k0_cond3 i = 1#1 ∧ s = some (expert (beT m ⟨(i 1).val, coord_lt i⟩))))
    (W : Waits sig Unit) (K : PUnit → sProp 𝕄) :
    iprop(Before c arg6 arg7 arg9 (tbl m 0) (tbl m 1) (tbl m 2) (tbl m 3) x b ∗ ((∃ wb, pts c wbM wb) ∗ stage c (W0 m c) s) ∗ owes (c : Thread nD τ) 0 W
       ∗ (iprop(Blocks c arg6 arg7 arg9 (tbl m 0) (tbl m 1) (tbl m 2) (tbl m 3) x b (outAt m c i x b) ∗ St m c ((i 1).val + 1)
            ∗ ∃ W', owes (c : Thread nD τ) 0 W') -∗ K ⟨⟩))
     ⊢ wp frame (wpE (defs₀ (F := F)) Variants.none (c : Thread nD τ) none) Set.univ (body (F := F) i arg6 harg6 arg7 harg7 arg9 harg9) K := by
  have hbe : beW c i (tbl m 0) = beT m ⟨(i 1).val, coord_lt i⟩ := beW_eq i c _
  have hnx : nxW c i (tbl m 1) = nxT m ⟨(i 1).val, coord_lt i⟩ := nxW_eq i c _
  have hnu : nuW c (tbl m 2) = nuT m := nuW_eq c _
  have hlt : (beW c i (tbl m 0)).toNat < 32 := hbe ▸ G.be_lt _
  have hz : 32 ≤ (nxW c i (tbl m 1)).toInt ∨ (nxW c i (tbl m 1)).toNat < 32 := hnx ▸ G.next_cases _ hu
  have ho : outAt m c i x b = k0_pay2 x (castB (wOf c (W0 m c) (expert (beT m ⟨(i 1).val, coord_lt i⟩)))) b := if_pos hu
  have hS : St m c ((i 1).val + 1) = iprop(pts c wbM (castB (wOf c (W0 m c) (expert (beT m ⟨(i 1).val, coord_lt i⟩))))
      ∗ stage c (W0 m c) (nextExpert (nxT m ⟨(i 1).val, coord_lt i⟩))) := by
    show carry m c (lastUsed m (i 1).val) = _
    rw [lastUsed_used m (coord_lt i) hu]
    rfl
  rw [ho, hS]
  iintro ⟨HB, ⟨Hwb, Hst⟩, HW, Hk⟩
  iapply (run_change c i arg6 harg6 arg7 harg7 arg9 harg9 (tbl m 0) (tbl m 1) (tbl m 2) (tbl m 3) x b (W0 m c)
    (expert (beT m ⟨(i 1).val, coord_lt i⟩)) s (nextExpert (nxT m ⟨(i 1).val, coord_lt i⟩))
    (by rw [hnu]; exact (cond1_iff i G.nu_le).2 hu) (chk1_of i hlt _ _) h2 (by rw [hnu, cond5_iff i G.nu_le]; omega)
    (by rw [off4_eq, hbe, expert_val (G.be_lt _)]) hs (chk2_of i hz _ _ _) (chk3_of i hz _ _ _ _)
    (next_forms m i G _ hu _ hnx _) W K)
  isplitl [HB]; · iexact HB
  isplitl [Hwb]; · iexact Hwb
  isplitl [Hst]; · iexact Hst
  isplitl [HW]; · iexact HW
  iintro ⟨HB, Hwb, Hst, HW⟩
  iapply Hk
  isplitl [HB]; · iexact HB
  isplitl [Hwb Hst]
  · isplitl [Hwb]; · iexact Hwb
    iexact Hst
  iexact HW

/-- Any point. -/
theorem step (G : GoodT m) (W : Waits sig Unit) (K : PUnit → sProp 𝕄) :
    iprop(Before c arg6 arg7 arg9 (tbl m 0) (tbl m 1) (tbl m 2) (tbl m 3) x b ∗ St m c (i 1).val ∗ owes (c : Thread nD τ) 0 W
       ∗ (iprop(Blocks c arg6 arg7 arg9 (tbl m 0) (tbl m 1) (tbl m 2) (tbl m 3) x b (outAt m c i x b) ∗ St m c ((i 1).val + 1)
            ∗ ∃ W', owes (c : Thread nD τ) 0 W') -∗ K ⟨⟩))
     ⊢ wp frame (wpE (defs₀ (F := F)) Variants.none (c : Thread nD τ) none) Set.univ (body (F := F) i arg6 harg6 arg7 harg7 arg9 harg9) K := by
  have hbe : beW c i (tbl m 0) = beT m ⟨(i 1).val, coord_lt i⟩ := beW_eq i c _
  have hnu : nuW c (tbl m 2) = nuT m := nuW_eq c _
  have hi := coord_lt i
  have hp := G.nu_pos
  by_cases hu : (i 1).val < (nuT m).toNat
  · rcases Nat.eq_zero_or_pos (i 1).val with h0 | h0
    · have hS : St m c (i 1).val = iprop((∃ wb, pts c wbM wb) ∗ stage c (W0 m c) none) := by rw [h0]; rfl
      rw [hS]
      exact step_change m c i arg6 harg6 arg7 harg7 arg9 harg9 x b G hu none ((cond2_iff i _ _).2 (.inl h0)) (.inl ⟨(cond3_iff i).2 h0, rfl⟩) W K
    · obtain ⟨n, hn⟩ : ∃ n, (i 1).val = n + 1 := ⟨(i 1).val - 1, by omega⟩
      have hpr : prW c i (tbl m 0) = beT m ⟨n, by omega⟩ := (prW_eq i c _ (by omega)).trans (by
        show beT m ⟨(i 1).val - 1, _⟩ = _
        congr 1
        exact Fin.ext (by show (i 1).val - 1 = n; omega))
      have hS : St m c (i 1).val = carry m c ⟨n, by omega⟩ := by
        rw [hn]
        show carry m c (lastUsed m n) = _
        rw [lastUsed_used m (show n < 288 by omega) (by omega)]
      have hS' : St m c ((i 1).val + 1) = carry m c ⟨(i 1).val, hi⟩ := by
        show carry m c (lastUsed m (i 1).val) = _
        rw [lastUsed_used m hi hu]
      rcases G.next ⟨n, by omega⟩ ⟨(i 1).val, hi⟩ hn hu with ⟨he, hx⟩ | ⟨he, hx⟩
      · have hw : wAt m c ⟨(i 1).val, hi⟩ = wAt m c ⟨n, by omega⟩ := by unfold wAt; rw [he]
        have hc : carry m c ⟨(i 1).val, hi⟩ = carry m c ⟨n, by omega⟩ := by unfold carry; rw [hw, hx]
        have ho : outAt m c i x b = k0_pay2 x (wAt m c ⟨n, by omega⟩) b := (if_pos hu).trans (by rw [hw])
        have h2 : ¬ k0_cond2 i (beW c i (tbl m 0)) (prW c i (tbl m 0)) = 1#1 := by
          rw [cond2_iff, hbe, hpr, he]
          rintro (h | h)
          · omega
          · exact h rfl
        rw [hS', hc, hS, ho]
        unfold carry
        iintro ⟨HB, ⟨Hwb, Hst⟩, HW, Hk⟩
        iapply (run_same c i arg6 harg6 arg7 harg7 arg9 harg9 (tbl m 0) (tbl m 1) (tbl m 2) (tbl m 3) x b
          (by rw [hnu]; exact (cond1_iff i G.nu_le).2 hu) (chk1_of i (hbe ▸ G.be_lt _) _ _) h2 (by rw [hnu, cond5_iff i G.nu_le]; omega)
          (wAt m c ⟨n, by omega⟩) W K)
        isplitl [HB]; · iexact HB
        isplitl [Hwb]; · iexact Hwb
        isplitl [HW]; · iexact HW
        iintro ⟨HB, Hwb, HW⟩
        iapply Hk
        isplitl [HB]; · iexact HB
        isplitl [Hwb Hst]
        · isplitl [Hwb]; · iexact Hwb
          iexact Hst
        iexact HW
      · have h2 : k0_cond2 i (beW c i (tbl m 0)) (prW c i (tbl m 0)) = 1#1 := by
          rw [cond2_iff, hbe, hpr]
          exact .inr he
        have h3 : ¬ k0_cond3 i = 1#1 := by rw [cond3_iff]; omega
        have hs : nextExpert (nxT m ⟨n, by omega⟩) = some (expert (beT m ⟨(i 1).val, hi⟩)) := by
          rw [hx]; exact if_pos (G.be_lt _)
        rw [hS]
        unfold carry
        rw [hs]
        refine BIBase.Entails.trans ?_ (step_change m c i arg6 harg6 arg7 harg7 arg9 harg9 x b G hu _ h2 (.inr ⟨h3, rfl⟩) W K)
        iintro ⟨HB, ⟨Hwb, Hst⟩, HW, Hk⟩
        isplitl [HB]; · iexact HB
        isplitl [Hwb Hst]
        · isplitl [Hwb]; · iexists _; iexact Hwb
          iexact Hst
        isplitl [HW]; · iexact HW
        iexact Hk
  · have ho : outAt m c i x b = k0_pay3 := if_neg hu
    obtain ⟨n, hn⟩ : ∃ n, (i 1).val = n + 1 := ⟨(i 1).val - 1, by omega⟩
    have hS : St m c ((i 1).val + 1) = St m c (i 1).val := by
      rw [hn]
      show carry m c (lastUsed m (n + 1)) = carry m c (lastUsed m n)
      congr 1
      apply Fin.ext
      show min (n + 1) ((nuT m).toNat - 1) % 288 = min n ((nuT m).toNat - 1) % 288
      rw [Nat.min_eq_right (by omega), Nat.min_eq_right (by omega)]
    rw [hS, ho]
    iintro ⟨HB, Hst, HW, Hk⟩
    iapply (run_idle c i arg6 harg6 arg7 harg7 arg9 harg9 (tbl m 0) (tbl m 1) (tbl m 2) (tbl m 3) x b
      (by rw [hnu, cond1_iff i G.nu_le]; exact hu) (by rw [hnu]; exact (cond5_iff i G.nu_le).2 (by omega)) W K)
    isplitl [HB]; · iexact HB
    isplitl [HW]; · iexact HW
    iintro ⟨HB, HW⟩
    iapply Hk
    isplitl [HB]; · iexact HB
    isplitl [Hst]; · iexact Hst
    iexact HW

end Cert.Kernel3Ideal.Down

end
-- ==== Proof.Down.Run.lean ====
/- The run of expert_down: the proof data of its pipeline, the body's obligation at every point, the launch, and that the
   arguments come back. -/
module

public import proofs.«01_k».proof.Proof.Down.Step
public import Idealize.ShloMosaic.Lib.Claim

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Point `t` is at second coordinate `t`. -/
theorem coord_val : ∀ t : Fin grid0.N, (grid0.coords t 1).val = t.val := by decide +kernel

/-- The output block is written back at every point. -/
theorem flush2 (a : (pcfg0 (F := F)).Adm) : ∀ t : Fin (cfg0 a).N, ((cfg0 a).win 2).flush t = true :=
  (fun t => (Pipeline.Window.flushOf_reads cc0_transform_3 reads0_2 hreads0_2 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- Window `w`'s block at point `t`, of its array at the launch. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The buffers the body is handed at point `t`. -/
abbrev st0 (hO : Ok m) (t : Fin (cfgM m hO).N) := spec0_0.stage ((cfgM m hO).slots t 0)
abbrev st1 (hO : Ok m) (t : Fin (cfgM m hO).N) := spec0_1.stage ((cfgM m hO).slots t 1)
abbrev st2 (hO : Ok m) (t : Fin (cfgM m hO).N) := spec0_2.stage ((cfgM m hO).slots t 2)

/-- The body at point `t`, as the pipeline calls it. -/
abbrev bodyAt (hO : Ok m) (t : Fin (cfgM m hO).N) : Prog (TpuEff nD τ sig (Elt F) Λ₀ .tc) PUnit :=
  body (F := F) (grid0.coords t) (st0 m hO t) (hstage0_0 (((cfgM m hO).slots t 0).cast nbuf0_0)) (st1 m hO t)
    (hstage0_1 (((cfgM m hO).slots t 1).cast nbuf0_1)) (st2 m hO t) (hstage0_2 (((cfgM m hO).slots t 2).cast nbuf0_2))

/-- What holds before point `n`: the generator's register, the carried state, the tables. -/
def Inv (c : Dev nD) (n : ℕ) : sProp 𝕄 := iprop((∃ r, prngReg c r) ∗ St m c n ∗ Pipeline.ΦT pre0 (tbl m) c)

/-- The proof data: the arrays as launched, each input's block left in place, the output block as the body leaves it. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m c (grid0.coords t) (iblk m hO c 0 t) (iblk m hO c 1 t)
  Φ t := Inv m c t.val
  q _ := fullShare
  owed _ := 0

/-- The arrays in the proof data are the launched ones. -/
theorem A_eq (hO : Ok m) (c : Dev nD) (w : Fin (cfgM m hO).W) : (dats m hO 0 c).A w = V m c (Pipeline.arrRef spec0 w) := by
  dsimp only [dats]
/-- The body leaves the rows' block in place. -/
theorem after0 (hO : Ok m) (c : Dev nD) (t : Fin (cfgM m hO).N) : (dats m hO 0 c).after 0 t = iblk m hO c 0 t := by dsimp only [dats]; try rfl
/-- The body leaves the bias's block in place. -/
theorem after1 (hO : Ok m) (c : Dev nD) (t : Fin (cfgM m hO).N) : (dats m hO 0 c).after 1 t = iblk m hO c 1 t := by dsimp only [dats]; try rfl
/-- The body leaves the output block at `outAt`. -/
theorem after2 (hO : Ok m) (c : Dev nD) (t : Fin (cfgM m hO).N) :
    (dats m hO 0 c).after 2 t = outAt m c (grid0.coords t) (iblk m hO c 0 t) (iblk m hO c 1 t) := by dsimp only [dats]; try rfl

/-- An input's buffer holds its block at every point, copied there or not. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
/-- The bias's buffer holds its block at every point. -/
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)

/-- The invariant at a point's start and end. -/
theorem Phi_start (hO : Ok m) (c : Dev nD) (t : Fin (cfgM m hO).N) : (dats m hO 0 c).Φ t.castSucc = Inv m c t.val := by
  dsimp only [dats]; exact Pipeline.Dat.Φ_castSucc (fun n _ => Inv m c n) t
/-- The invariant at a point's end. -/
theorem Phi_end (hO : Ok m) (c : Dev nD) (t : Fin (cfgM m hO).N) : (dats m hO 0 c).Φ t.succ = Inv m c (t.val + 1) := by
  dsimp only [dats]; rfl

/-- What the body is handed at point `t`, and what it gives back. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t))

/-- The body meets its obligation at point `t`. -/
theorem sound_body (G : GoodT m) (c : Dev nD) (t : Fin (cfgM m (ok_of_good m G)).N) :
    bodyPre m (ok_of_good m G) c t ⊢ wp frame (wpE (defs₀ (F := F)) Variants.none (c : Thread nD τ) none) Set.univ (bodyAt m (ok_of_good m G) t)
      (fun _ => bodyPost m (ok_of_good m G) c t) := by
  generalize ok_of_good m G = hO at t ⊢
  unfold bodyPre bodyPost bodyAt
  simp only [before0, before1]
  rw [after0, after1, after2, Phi_start, Phi_end]
  unfold Dat.owesAt Pipeline.owesWithin
  rw [show (dats m hO 0 c).owed t.castSucc = 0 from rfl, show (dats m hO 0 c).owed t.succ = 0 from rfl]
  unfold Inv
  rw [PhiT_eq]
  have hk : (grid0.coords t 1).val = t.val := coord_val t
  iintro ⟨⟨Hg, Hst, HT⟩, ⟨%W, -, HW⟩, ⟨%d0, H0⟩, ⟨%d1, H1⟩, ⟨%d2, H2⟩⟩
  iapply (step m c (grid0.coords t) _ _ _ _ _ _ (iblk m hO c 0 t) (iblk m hO c 1 t) G W _)
  isplitl [HT H0 H1 H2]
  · isplitl [HT]; · iexact HT
    isplitl [H0]; · iexact H0
    isplitl [H1]; · iexact H1
    iexists _; iexact H2
  isplitl [Hst]; · rw [hk]; iexact Hst
  isplitl [HW]; · iexact HW
  rw [hk]
  iintro ⟨⟨HT, H0, H1, H2⟩, Hst, ⟨%W', HW'⟩⟩
  isplitl [Hg Hst HT]
  · isplitl [Hg]; · iexact Hg
    isplitl [Hst]; · iexact Hst
    iexact HT
  isplitl [HW']
  · iexists W'; isplitr; · ipureintro; exact fun _ _ => Or.inl trivial
    iexact HW'
  isplitl [H0]; · iexact H0
  isplitl [H1]; · iexact H1
  iexact H2

/-- The row of the body table at point `t` is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- No point leaves the output block alone. -/
theorem idle2 (G : GoodT m) (hO : Ok m) (t : Fin (cfgM m hO).N) : (cfgM m hO).idle 2 ((cfgM m hO).grid.coords t) = false :=
  not_idle m G (grid0.coords t)

/-- So the block the body leaves is what the window is left with. -/
theorem leaves2 (G : GoodT m) (hO : Ok m) (c : Dev nD) (t : Fin (cfgM m hO).N) :
    owns (c : Thread nD τ) (st2 m hO t) fullShare ((dats m hO 0 c).after 2 t) ⊢ (dats m hO 0 c).leavesExact 2 t := by
  unfold Dat.leavesExact
  rw [idle2 m G hO t]
  exact .rfl

/-- The body's obligation at every point. -/
theorem body_obligation (G : GoodT m) (c : Dev nD) :
    BodyObligation (dats (F := F) m (ok_of_good m G) 0 c) (defs₀ (F := F)) Variants.none () Set.univ := fun t => by
  rw [bigSep_W0, bigSep_W0, defs₀_row m (ok_of_good m G)]
  exact triple_restated (sound_body m G c t) rfl .rfl fun _ =>
    sep_mono .rfl (sep_mono .rfl (sep_mono .rfl (sep_mono .rfl (leaves2 m G (ok_of_good m G) c t))))

/-- The launch hands over the invariant, -/
theorem inv_start (c : Dev nD) : iprop(Pipeline.ΦD osem spec0 H (V m) c ∗ Pipeline.ΦT pre0 (tbl m) c) ⊢ (Inv m c 0 : sProp 𝕄) := by
  rw [PhiD_eq]
  unfold Inv St
  show _ ⊢ iprop(_ ∗ (_ ∗ atRest c (W0 m c)) ∗ _)
  unfold atRest
  iintro ⟨⟨⟨Hs, Hw⟩, Hg, HF, HW⟩, HT⟩
  isplitl [Hg]; · iexact Hg
  isplitl [Hs Hw HF HW]
  · isplitl [Hw]; · iexact Hw
    isplitl [Hs]; · iexact Hs
    isplitl [HF]; · iexact HF
    iexact HW
  iexact HT

/-- and takes it back at the end: after the last used block nothing is under way. -/
theorem inv_end (G : GoodT m) (c : Dev nD) : (Inv m c 288 : sProp 𝕄) ⊢ Pipeline.ΦD osem spec0 H (V m) c := by
  have h1 := G.nu_pos
  have h2 := G.nu_le
  rw [PhiD_eq]
  unfold Inv
  show iprop(_ ∗ carry m c (lastUsed m 287) ∗ _) ⊢ _
  unfold carry
  have hl : nextExpert (nxT m (lastUsed m 287)) = none := by
    refine if_neg (not_lt_of_ge (G.last _ ?_))
    show min 287 ((nuT m).toNat - 1) % 288 + 1 = _
    rw [Nat.min_eq_right (by omega), Nat.mod_eq_of_lt (by omega)]
    omega
  rw [hl]
  show iprop(_ ∗ (_ ∗ atRest c (W0 m c)) ∗ _) ⊢ _
  unfold atRest
  iintro ⟨Hg, ⟨Hw, Hs, HF, HW⟩, -⟩
  isplitl [Hs Hw]
  · isplitl [Hs]; · iexact Hs
    iexists _; iexact Hw
  isplitl [Hg]; · iexact Hg
  isplitl [HF]; · iexact HF
  iexact HW

-- the launch theorem's implicit arguments are found by unifying its conclusion with this one, plain definitions unfolded
set_option backward.isDefEq.respectTransparency.types false in
/-- The launch on good tables: the output array as the points leave it, the other arrays as they were, every counter at zero. -/
theorem run (G : GoodT m) : θ_run defs (onTc (τ := τ) (main (F := F))) (s₀ m ρ)
    (fun r => Pipeline.FramePost (Pipeline.pin pcfgs fun _ => adm m (ok_of_good m G)) (dats m (ok_of_good m G)) 0 (V m) r ∧ r.2.sem = fun _ => 0) :=
  Pipeline.θ_run_frameP_dma (Q' := _) pcfgs (fun _ => adm m (ok_of_good m G)) (dats m (ok_of_good m G)) (0 : Fin 1) launch0 osem defs₀ Variants.none ownSemFacts H H_sub m ρ main
    (hbody := fun c => (body_obligation m G c).loose) (hshare := fun c => (dats m (ok_of_good m G) 0 c).share_full fun _ => rfl)
    (howed := fun _ _ => rfl) (V := V m) (hmain := hmain m Variants.none) (hA := A_eq m (ok_of_good m G)) (hpf := V_pre m)
    (hin := inv_start m) (hout := inv_end m G)

/-- From that: the output array as the points leave it, and the arguments as they were. -/
theorem run_blocks (G : GoodT m) : θ_run defs (onTc (τ := τ) (main (F := F))) ⟨m, fun _ => 0, ρ⟩ (fun r => ∀ c : Dev nD,
      r.2.mem ((c.tc : Thread nD τ).loc main_v0) = (dats m (ok_of_good m G) 0 c).arrAt 2 (cfgM m (ok_of_good m G)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 2,
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans (((dats m (ok_of_good m G) 0 c).arrAt_in 0 rfl _).trans (A_eq m _ c 0)),
      ((h.1 c).1 1).trans (((dats m (ok_of_good m G) 0 c).arrAt_in 1 rfl _).trans (A_eq m _ c 1)),
      (h.1 c).2 main_arg6 (by decide : main_arg6 ∈ Pipeline.restRefs sig spec0)⟩) (run m ρ G)

/-- On good tables the call gives its arguments back and every counter at zero. -/
theorem frame_good (G : GoodT m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (run_blocks m ρ G)) ((θ_run defs _ _).mono (fun _ h => h.2) (run m ρ G))

end Cert.Kernel3Ideal.Down

end
-- ==== Proof.Down.Bits.lean ====
/-
  The down-projection before idealizing. Nothing of it was rewritten, so its text is the idealized call's text and what was
  proved there for every float type holds of it.
-/
module

public import proofs.«01_k».proof.Proof.Down.Run
public import proofs.«01_k».proof.Proof.Gen.Kernel3

@[expose] public section

set_option maxRecDepth 16384

noncomputable section

namespace Cert.Kernel3.Down

open Idealize.ShloMosaic Idealize.ShloMosaic.TcCoe Idealize.SL.Sem

variable {F : FTy → Type} [FloatOps F]

/-- Both programs run the same body. -/
theorem body_eq : Cert.Kernel3.cc0_expert_down (F := F) = Cert.Kernel3Ideal.cc0_expert_down (F := F) := rfl

/-- Both programs have the same host function. -/
theorem main_eq : Cert.Kernel3.main (F := F) = Cert.Kernel3Ideal.main (F := F) := rfl

/-- Both programs give the label of the call the same body. -/
theorem bodies_eq : Cert.Kernel3.defs₀ (F := F) = Cert.Kernel3Ideal.defs₀ (F := F) := by
  unfold Cert.Kernel3.defs₀ Cert.Kernel3Ideal.defs₀
  rw [body_eq]
  refine congrArg Defs.onTc (funext fun l => funext fun x => ?_)
  match l with
  | 0 => rfl

/-- Both programs have the same bodies, the launch's own included. -/
theorem defs_eq : Cert.Kernel3.defs (F := F) = Cert.Kernel3Ideal.defs (F := F) := by
  unfold Cert.Kernel3.defs Cert.Kernel3Ideal.defs
  rw [bodies_eq]
  rfl

end Cert.Kernel3.Down

end
-- ==== Proof.Down.Pre.lean ====
/- What the precondition says of the tables, word by word. -/
module

public import proofs.«01_k».proof.Proof.Gen.Pre_expert_tables
public import proofs.«01_k».proof.Proof.Down.Tables

@[expose] public section

set_option maxRecDepth 16384

noncomputable section

namespace Cert.Kernel3Ideal.Down

open Idealize.ShloMosaic Idealize.ShloMosaic.ValueIdx
open Cert.Pre_expert_tables

variable {F : FTy → Type} [FloatOps F]

/-- A disjunction of bits is one when either is. -/
theorem or_one {a b : BitVec 1} : IntOp.ori a b = 1#1 ↔ a = 1#1 ∨ b = 1#1 := by revert a b; decide
/-- A conjunction of bits is one when both are. -/
theorem and_one {a b : BitVec 1} : IntOp.andi a b = 1#1 ↔ a = 1#1 ∧ b = 1#1 := by revert a b; decide

/-- Elements `k` and `k + 1` of a table, as the two slices of 287 words read them. -/
theorem slice_at (a : IVec S288 32) (d : ℕ) (h : S288.Slices ![d] S287) (k : Fin 287) (k' : Fin 288) (hk : k'.val = k.val + d) :
    extractStridedSlice S287 ![d] a h (ix1 k) = a (ix1 k') := by
  show a _ = a _
  congr 1
  funext x
  apply Fin.ext
  match x with
  | 0 =>
    show d + k.val = k'.val
    omega

/-- The first half of the precondition at block `k`. -/
theorem first_at (a0 a1 : IVec S288 32) (a2 a3 : IVec S1 32) (a4 : FVec F S73728x2048 .bf16) (a5 : FVec F S32x1x2048 .f32)
    (a6 : FVec F S32x2048x2048 .f32) (h : ∀ k, (fn (F := F) a0 a1 a2 a3 a4 a5 a6).1 k = 1#1) (k : Fin 288) :
    (0 ≤ (a0 (ix1 k)).toInt ∧ (a0 (ix1 k)).toInt < 32) ∧ 1 ≤ (a2 (ix1 0)).toInt ∧ (a2 (ix1 0)).toInt ≤ 288
      ∧ (BitVec.ofNat 32 k.val + 1#32 ≠ a2 (ix1 0) ∨ 32 ≤ (a1 (ix1 k)).toInt) := by
  obtain ⟨j, j', j'', e⟩ : ∃ j j' j'', IntOp.andi (IntOp.andi (IntOp.andi (IntOp.andi (IntOp.cmpi .sge (a0 (ix1 k)) 0#32) (IntOp.cmpi .slt (a0 (ix1 k)) 32#32))
      (IntOp.cmpi .sge (a2 j) 1#32)) (IntOp.cmpi .sle (a2 j') 288#32))
      (IntOp.ori (IntOp.cmpi .ne (BitVec.ofNat 32 k.val + 1#32) (a2 j'')) (IntOp.cmpi .sge (a1 (ix1 k)) 32#32)) = 1#1 := ⟨_, _, _, h (ix1 k)⟩
  rw [read1 a2 j (ix1 0), read1 a2 j' (ix1 0), read1 a2 j'' (ix1 0)] at e
  rw [and_one, and_one, and_one, and_one, or_one, WordCmp.cmpi_sge_eq, WordCmp.cmpi_slt_eq, WordCmp.cmpi_sge_eq, WordCmp.cmpi_sle_eq,
    WordCmp.cmpi_ne_eq, WordCmp.cmpi_sge_eq] at e
  simp only [WordCmp.ofBool_decide_eq_one_iff] at e
  exact ⟨e.1.1.1, e.1.1.2, e.1.2, e.2⟩

/-- The second half at blocks `k` and `k + 1`. -/
theorem second_at (a0 a1 : IVec S288 32) (a2 a3 : IVec S1 32) (a4 : FVec F S73728x2048 .bf16) (a5 : FVec F S32x1x2048 .f32)
    (a6 : FVec F S32x2048x2048 .f32) (h : ∀ k, (fn (F := F) a0 a1 a2 a3 a4 a5 a6).2 k = 1#1) (k k' : Fin 288) (hk : k'.val = k.val + 1) :
    (a2 (ix1 0)).toInt ≤ (BitVec.ofNat 32 k'.val).toInt
      ∨ (a0 (ix1 k') = a0 (ix1 k) ∧ a1 (ix1 k') = a1 (ix1 k)) ∨ (a0 (ix1 k') ≠ a0 (ix1 k) ∧ a1 (ix1 k) = a0 (ix1 k')) := by
  have hl : k.val < 287 := by omega
  obtain ⟨j, e⟩ : ∃ j, IntOp.ori (IntOp.cmpi .sge (extractStridedSlice S287 ![1] (iotaInDim S288 32 0) Facts.slices_S288_S287_1 (ix1 ⟨k.val, hl⟩)) (a2 j))
      (if IntOp.cmpi .eq (extractStridedSlice S287 ![1] a0 Facts.slices_S288_S287_1 (ix1 ⟨k.val, hl⟩)) (extractStridedSlice S287 ![0] a0 Facts.slices_S288_S287_0 (ix1 ⟨k.val, hl⟩)) = 1#1
        then IntOp.cmpi .eq (extractStridedSlice S287 ![1] a1 Facts.slices_S288_S287_1 (ix1 ⟨k.val, hl⟩)) (extractStridedSlice S287 ![0] a1 Facts.slices_S288_S287_0 (ix1 ⟨k.val, hl⟩))
        else IntOp.cmpi .eq (extractStridedSlice S287 ![0] a1 Facts.slices_S288_S287_0 (ix1 ⟨k.val, hl⟩)) (extractStridedSlice S287 ![1] a0 Facts.slices_S288_S287_1 (ix1 ⟨k.val, hl⟩))) = 1#1 :=
    ⟨_, h (ix1 ⟨k.val, hl⟩)⟩
  rw [read1 a2 j (ix1 0)] at e
  simp only [slice_at _ 1 _ ⟨k.val, hl⟩ k' hk, slice_at _ 0 _ ⟨k.val, hl⟩ k rfl, or_one, WordCmp.cmpi_sge_eq, WordCmp.cmpi_eq_eq,
    WordCmp.ofBool_decide_eq_one_iff] at e
  rcases e with e | e
  · exact .inl e
  · right
    split at e
    · exact .inl ⟨by assumption, (WordCmp.ofBool_decide_eq_one_iff _).1 e⟩
    · exact .inr ⟨by assumption, (WordCmp.ofBool_decide_eq_one_iff _).1 e⟩

/-- The precondition holds of good tables only. -/
theorem good_of_pre (a0 a1 : IVec S288 32) (a2 a3 : IVec S1 32) (a4 : FVec F S73728x2048 .bf16) (a5 : FVec F S32x1x2048 .f32)
    (a6 : FVec F S32x2048x2048 .f32) (h1 : ∀ k, (fn (F := F) a0 a1 a2 a3 a4 a5 a6).1 k = 1#1) (h2 : ∀ k, (fn (F := F) a0 a1 a2 a3 a4 a5 a6).2 k = 1#1) :
    Good (fun k => a0 (ix1 k)) (fun k => a1 (ix1 k)) (a2 (ix1 0)) := by
  have f := first_at a0 a1 a2 a3 a4 a5 a6 h1
  have hn : (a2 (ix1 0)).toInt = ((a2 (ix1 0)).toNat : ℤ) := WordCmp.toInt_eq_toNat_of_lt_half ((WordCmp.toInt_nonneg_iff_lt_half _).1 (by have := (f 0).2.1; omega))
  have hb : ∀ k : Fin 288, (a0 (ix1 k)).toNat < 32 := fun k => by
    obtain ⟨⟨h0, h32⟩, -⟩ := f k
    rw [WordCmp.toInt_eq_toNat_of_lt_half ((WordCmp.toInt_nonneg_iff_lt_half _).1 h0)] at h32
    omega
  refine ⟨hb, by have := (f 0).2.1; omega, by have := (f 0).2.2.1; omega, fun k k' hk hu => ?_, fun k hk => ?_⟩
  · rcases second_at a0 a1 a2 a3 a4 a5 a6 h2 k k' hk with h | h
    · rw [hn, WordCmp.toInt_ofNat_of_lt (by omega)] at h
      omega
    · exact h
  · refine ((f k).2.2.2).resolve_left (fun h => h ?_)
    apply BitVec.eq_of_toNat_eq
    rw [BitVec.toNat_add, BitVec.toNat_ofNat, ← hk]
    have : (1#32 : BitVec 32).toNat = 1 := rfl
    omega

end Cert.Kernel3Ideal.Down

end
-- ==== Proof.Down.Spec.lean ====
/-
  What the down-projection computes, element by element.
-/
module

public import Idealize.ShloMosaic.Lib.Pointwise

@[expose] public section

noncomputable section

namespace Cert.Spec

/-- The expert a word of the table names. -/
abbrev expertOf (x : BitVec 32) : Fin 32 := ⟨x.toNat % 32, Nat.mod_lt _ (by decide)⟩

/-- Element `n` of row `r` of the experts' outputs. Rows come in blocks of 256. A used block is multiplied by the matrix of
    its expert, and the expert's bias is added; an unused block is zero. -/
def down (be : Fin 288 → BitVec 32) (nu : BitVec 32) (h : Fin 73728 → Fin 2048 → EReal) (b : Fin 32 → Fin 2048 → EReal)
    (w : Fin 32 → Fin 2048 → Fin 2048 → EReal) (r : Fin 73728) (n : Fin 2048) : EReal :=
  if r.val / 256 < nu.toNat then
    (∑ k, h r k * w (expertOf (be ⟨r.val / 256, by omega⟩)) k n) + b (expertOf (be ⟨r.val / 256, by omega⟩)) n
  else 0

/-- The same at row `r` of block `t`. -/
theorem down_block (be : Fin 288 → BitVec 32) (nu : BitVec 32) (h : Fin 73728 → Fin 2048 → EReal) (b : Fin 32 → Fin 2048 → EReal)
    (w : Fin 32 → Fin 2048 → Fin 2048 → EReal) (t : Fin 288) (r : Fin 256) (R : Fin 73728) (hR : R.val = 256 * t.val + r.val) (n n' : Fin 2048) (hn : n' = n) :
    down be nu h b w R n' = if t.val < nu.toNat then (∑ k, h ⟨256 * t.val + r.val, by omega⟩ k * w (expertOf (be t)) k n) + b (expertOf (be t)) n else 0 := by
  subst hn
  have q : R.val / 256 = t.val := by omega
  have e : (⟨R.val / 256, by omega⟩ : Fin 288) = t := Fin.ext q
  have f : R = ⟨256 * t.val + r.val, by omega⟩ := Fin.ext hR
  unfold down
  rw [e, q, ← f]

end Cert.Spec

end
-- ==== Proof.Down.Value.lean ====
/-
  The array the down-projection leaves: element by element what the specification says.
-/
module

public import proofs.«01_k».proof.Proof.Down.Run
public import proofs.«01_k».proof.Proof.Down.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Down

open Cert.Kernel3Ideal Cert.Kernel3Ideal.Gen

/-- What a used block stores: its rows' products with the matrix, and the bias. -/
theorem pay2_at (x : FVec Ideal S256x2048 .bf16) (w : FVec Ideal S2048x2048 .bf16) (b : FVec Ideal S1x1x2048 .f32) (r : Fin 256) (n : Fin 2048) :
    k0_pay2 (F := Ideal) x w b (ix2 r n) = (∑ k, x (ix2 r k) * w (ix2 k n)) + b (ix3 0 0 n) := by
  pointwise [k0_pay2]

/-- What an unused block stores. -/
theorem pay3_at (r : Fin 256) (n : Fin 2048) : k0_pay3 (F := Ideal) (ix2 r n) = 0 := by
  pointwise [k0_pay3]

variable (m : (ℓ : Loc nD τ sig) → Buf (Elt Ideal) ℓ)

/-- The matrix of an expert, cast, at an element. -/
theorem weight_at (c : Dev nD) (e : Fin 32) (k n : Fin 2048) :
    (castB (wOf c (W0 m c) e) (ix2 k n) : EReal) = m ((c.tc : Thread nD τ).loc main_arg6) (ix3 e k n) := by
  refine Eq.trans (b := wOf c (W0 m c) e (ix2 k n)) (by pointwise [castB]) ?_
  have h : S2048x2048.numel = S1x2048x2048.numel := by decide
  have q : Shape.reshapeEquiv h (ix2 k n) = (ix3 (0 : Fin 1) k n : S1x2048x2048.Idx) :=
    Shape.reshapeEquiv_eq_of_rowMajor h (by
      rw [Shape.rowMajor_val_three, Shape.rowMajor_val_two]
      show ((0 : ℕ) * 2048 + k.val) * 2048 + n.val = k.val * 2048 + n.val
      omega)
  show W0 m c ((Rect.unit (s := S32x2048x2048) ![e.val, 0, 0] S1x2048x2048.size (wsl_inb e)).idx (Shape.reshapeEquiv h (ix2 k n))) = _
  rw [q]
  refine congrArg (W0 m c) (funext fun (a : Fin 3) => ?_)
  match a with
  | 0 => exact Fin.ext (by show e.val + 1 * 0 = e.val; omega)
  | 1 => exact Fin.ext (by show 0 + 1 * k.val = k.val; omega)
  | 2 => exact Fin.ext (by show 0 + 1 * n.val = n.val; omega)

/-- The grid has 288 points. -/
theorem points : grid0.N = 288 := by decide

/-- A grid point as a number. -/
theorem point_lt (hO : Ok m) (t : Fin (cfgM m hO).N) : t.val < 288 := lt_of_lt_of_eq t.isLt points

/-- The hidden block held at point `t`. -/
theorem index0 (G : GoodT m) (t : Fin (cfgM m (ok_of_good m G)).N) :
    ((cfgM m (ok_of_good m G)).win 0).index t = ![min t.val ((nuT m).toNat - 1), 0] := by
  have h := map0_eq m G (grid0.coords t)
  rw [coord_val t] at h
  exact h

/-- The bias held at point `t`. -/
theorem index1 (hO : Ok m) (t : Fin (cfgM m hO).N) :
    ((cfgM m hO).win 1).index t = ![(beT m ⟨t.val, point_lt m hO t⟩).toNat, 0, 0] := by
  have h := map1_eq m (grid0.coords t)
  have e : (⟨(grid0.coords t 1).val, coord_lt (grid0.coords t)⟩ : Fin 288) = ⟨t.val, point_lt m hO t⟩ := Fin.ext (coord_val t)
  rw [e] at h
  exact h

/-- The block written at point `t`. -/
theorem index2 (hO : Ok m) (t : Fin (cfgM m hO).N) : ((cfgM m hO).win 2).index t = ![t.val, 0] := by
  show cc0_transform_3 (grid0.coords t) = _
  unfold cc0_transform_3
  dsimp only
  rw [coord_val t, coord_zero (grid0.coords t)]
  have := point_lt m hO t
  rw [BitVec.toNat_ofNat, Nat.mod_eq_of_lt (by omega)]
  rfl

/-- The blocks written cover the array. -/
theorem covers (hO : Ok m) : ((cfgM m hO).win 2).Covers := by
  refine ⟨(by decide : ∀ a : Fin 2, 0 < (![256, 2048] : Fin 2 → ℕ) a), fun (β : (a : Fin 2) → Fin (((cfgM m hO).win 2).nblk a)) => ?_⟩
  have hβ : (β 0).val < 288 := lt_of_lt_of_eq (β 0).isLt (by decide : (73728 + 256 - 1) / 256 = 288)
  have hβ' : (β 1).val < 1 := lt_of_lt_of_eq (β 1).isLt (by decide : (2048 + 2048 - 1) / 2048 = 1)
  refine ⟨⟨(β 0).val, by show _ < grid0.N; rw [points]; exact hβ⟩, flush2 _ _, fun (a : Fin 2) => ⟨?_, .inl rfl⟩⟩
  rw [index2]
  match a with
  | 0 => rfl
  | 1 => show 0 = (β 1).val; omega

/-- The hidden rows held at the point of a used block. -/
theorem hidden_at (G : GoodT m) (c : Dev nD) (t : Fin (cfgM m (ok_of_good m G)).N) (hu : t.val < (nuT m).toNat) (r : Fin 256) (k : Fin 2048) :
    (iblk m (ok_of_good m G) c 0 t (ix2 r k) : EReal)
      = m ((c.tc : Thread nD τ).loc main_arg4) (ix2 ⟨256 * t.val + r.val, by have := point_lt m _ t; omega⟩ k) := by
  have e0 : ((cfgM m (ok_of_good m G)).win 0).index t = ![t.val, 0] := by rw [index0 m G, Nat.min_eq_left (by omega)]
  blk_ext [iblk, V, e0]

/-- The bias held at a point. -/
theorem bias_at (G : GoodT m) (c : Dev nD) (t : Fin (cfgM m (ok_of_good m G)).N) (n : Fin 2048) :
    (iblk m (ok_of_good m G) c 1 t (ix3 0 0 n) : EReal)
      = m ((c.tc : Thread nD τ).loc main_arg5) (ix3 (expert (beT m ⟨t.val, point_lt m _ t⟩)) 0 n) := by
  have e0 : ((cfgM m (ok_of_good m G)).win 1).index t = ![(expert (beT m ⟨t.val, point_lt m _ t⟩)).val, 0, 0] := by
    rw [index1, expert_val (G.be_lt _)]
  blk_ext [iblk, V, e0]

/-- The hidden rows, the biases and the matrices, as numbers. -/
def hidden (c : Dev nD) (r : Fin 73728) (k : Fin 2048) : EReal := (m ((c.tc : Thread nD τ).loc main_arg4) : FVec Ideal S73728x2048 .bf16) (ix2 r k)
def bias (c : Dev nD) (e : Fin 32) (n : Fin 2048) : EReal := (m ((c.tc : Thread nD τ).loc main_arg5) : FVec Ideal S32x1x2048 .f32) (ix3 e 0 n)
def weight (c : Dev nD) (e : Fin 32) (k n : Fin 2048) : EReal := (m ((c.tc : Thread nD τ).loc main_arg6) : FVec Ideal S32x2048x2048 .f32) (ix3 e k n)

/-- What point `t` leaves at an element of its block. -/
theorem stored (G : GoodT m) (c : Dev nD) (t : Fin (cfgM m (ok_of_good m G)).N) (r : Fin 256) (n : Fin 2048) :
    outAt m c (grid0.coords t) (iblk m (ok_of_good m G) c 0 t) (iblk m (ok_of_good m G) c 1 t) (ix2 r n)
      = if t.val < (nuT m).toNat then
          (∑ k, hidden m c ⟨256 * t.val + r.val, by have := point_lt m _ t; omega⟩ k * weight m c (Spec.expertOf (beT m ⟨t.val, point_lt m _ t⟩)) k n)
            + bias m c (Spec.expertOf (beT m ⟨t.val, point_lt m _ t⟩)) n
        else (0 : EReal) := by
  have e : (⟨(grid0.coords t 1).val, coord_lt (grid0.coords t)⟩ : Fin 288) = ⟨t.val, point_lt m _ t⟩ := Fin.ext (coord_val t)
  unfold outAt
  rw [e, coord_val t]
  by_cases hu : t.val < (nuT m).toNat
  · rw [if_pos hu, if_pos hu]
    refine (pay2_at _ _ _ r n).trans (congrArg₂ (· + ·) (Finset.sum_congr rfl fun k _ => congrArg₂ (· * ·) ?_ ?_) ?_)
    · exact hidden_at m G c t hu r k
    · exact weight_at m c _ k n
    · exact bias_at m G c t n
  · rw [if_neg hu, if_neg hu]
    exact pay3_at r n

/-- The array after the run. -/
theorem array (G : GoodT m) (c : Dev nD) : (dats m (ok_of_good m G) 0 c).arrAt 2 (cfgM m (ok_of_good m G)).N = fun i : S73728x2048.Idx =>
    Spec.down (beT m) (nuT m) (hidden m c) (bias m c) (weight m c) (i 0) (i 1) := by
  refine (dats m (ok_of_good m G) 0 c).arrAt_eq_of_covers 2 _ (covers m _) (fun t hf (y : S256x2048.Idx) => ?_) (Memref.isWhole_whole _)
  have ht := point_lt m _ t
  idx_vars y
  have h0 : ((((cfgM m (ok_of_good m G)).win 2).blk t).view.emb (ix2 y0 y1) (0 : Fin 2) : ℕ) = 256 * t.val + y0 := by blk_simp [index2 m _ t]; omega
  have h1 : ((((cfgM m (ok_of_good m G)).win 2).blk t).view.emb (ix2 y0 y1) (1 : Fin 2) : ℕ) = y1 := by blk_simp [index2 m _ t]
  refine (congrFun (after2 m _ c t) (ix2 y0 y1)).trans ((stored m G c t y0 y1).trans ?_)
  exact (Spec.down_block _ _ _ _ _ ⟨t.val, ht⟩ y0 _ h0 y1 _ (Fin.ext h1)).symm

end Cert.Kernel3Ideal.Down

end
-- ==== Proof.RefValue3.lean ====
/-
  The reference of the down-projection, read at an index.
-/
module

public import proofs.«01_k».proof.Proof.Down.Spec
public import proofs.«01_k».proof.Proof.Gen.Reference3Ideal.Run
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference3Ideal.Value

open Cert.Reference3Ideal Cert.Reference3Ideal.Gen

/-- The expert of each block, a negative one counted from the end. -/
def EXPERT (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

/-- Whether a block is used. -/
def USED (nu : IVec S1 32) : Vec Ideal S288 .i1 := cmpi .slt (iotaInDim S288 32 0) (broadcastInDim S288 ![0] bcast_S1_S288_0 nu)

/-- The used blocks' products, with the bias. -/
def PROD (h : FVec Ideal S73728x2048 .bf16) (w : FVec Ideal S288x2048x2048 .f32) (b : FVec Ideal S288x1x2048 .f32) (u : Vec Ideal S288 .i1) : FVec Ideal S73728x2048 .f32 :=
  shapeCast _ (select (broadcastInDim S288x256x2048 ![0, 1, 2] bcast_S288x1x1_S288x256x2048_0_1_2 (broadcastInDim S288x1x1 ![0] bcast_S288_S288x1x1_0 u)) (addf (Host.dotGeneral dot_S288x256x2048_S288x2048x2048_S288x256x2048_2_1_1_2_0_0 none (shapeCast _ (extf .f32 h bitsLt_bf16_f32) shapeCasts_S73728x2048_S288x256x2048) w) (broadcastInDim S288x256x2048 ![0, 1, 2] bcast_S288x1x2048_S288x256x2048_0_1_2 b)) (broadcastInDim S288x256x2048 ![] bcast_S_S288x256x2048 (constant S_ .f32 0x00000000#32))) shapeCasts_S288x256x2048_S73728x2048

/-- Taking one matrix of `N` for each of `B` blocks. -/
abbrev bank (N K C B : ℕ) (wf : GatherDims.WF ⟨3, ![N, K, C]⟩ ⟨2, ![B, 1]⟩ ⟨3, ![B, K, C]⟩ [1, 2] [0] [] [0] [] 1 ![1, K, C]) :
    GatherDims ⟨3, ![N, K, C]⟩ ⟨2, ![B, 1]⟩ ⟨3, ![B, K, C]⟩ where
  offsetDims := [1, 2]
  collapsedSliceDims := [0]
  operandBatchingDims := []
  startIndicesBatchingDims := []
  startIndexMap := [0]
  indexVectorDim := 1
  sliceSizes := ![1, K, C]
  wf := wf

/-- An element of what is taken: of block `p`, the element of the matrix that the block's word names, clamped. -/
theorem bank_at {α : Type} {N K C B : ℕ} (hN : 0 < N) (wf) (x : (⟨3, ![N, K, C]⟩ : Shape).Idx → α) (idx : IVec ⟨2, ![B, 1]⟩ 32)
    (p : Fin B) (k : Fin K) (n : Fin C) :
    Host.gather (bank N K C B wf) x idx (ix3 p k n) = x (ix3 ⟨min (idx (ix2 p 0)).toInt.toNat (N - 1), by omega⟩ k n) := by
  unfold Host.gather
  congr 1
  funext a
  refine Fin.ext ?_
  show (bank N K C B wf).start (ix3 p k n) idx a + (bank N K C B wf).batchCoord (ix3 p k n) a + (bank N K C B wf).offCoord (ix3 p k n) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 3) ∈ (bank N K C B wf).startIndexMap from List.mem_singleton.mpr rfl)]
    have hs : (bank N K C B wf).siIdx (ix3 p k n) ⟨List.idxOf (0 : Fin 3) (bank N K C B wf).startIndexMap,
        List.idxOf_lt_length_iff.2 (List.mem_singleton.mpr rfl)⟩ = ix2 p 0 := by
      funext b
      refine Fin.ext ?_
      match b with
      | 0 => rfl
      | 1 => rfl
    rw [hs]
    rfl
  | 1 => exact Nat.zero_add _
  | 2 => exact Nat.zero_add _

/-- The products read at an element: the block of row `r` is `r / 256`. -/
theorem PROD_at (h : FVec Ideal S73728x2048 .bf16) (w : FVec Ideal S288x2048x2048 .f32) (b : FVec Ideal S288x1x2048 .f32) (u : Vec Ideal S288 .i1)
    (r : Fin 73728) (n : Fin 2048) : PROD h w b u (ix2 r n)
      = if u (ix1 ⟨r.val / 256, by omega⟩) = 1#1 then (∑ k : Fin 2048, h (ix2 r k) * w (ix3 ⟨r.val / 256, by omega⟩ k n)) + b (ix3 ⟨r.val / 256, by omega⟩ 0 n) else 0 := by
  pointwise [PROD]
  rfl

/-- A block is used if it comes before the number of used blocks. -/
theorem USED_at (nu : IVec S1 32) (p : Fin 288) : USED nu (ix1 p) = IntOp.cmpi .slt (BitVec.ofNat 32 p.val) (nu (ix1 0)) := by
  pointwise [USED]

/-- The expert of a block, as the host reads it. -/
theorem EXPERT_at (be : IVec S288 32) (p : Fin 288) : EXPERT be (ix2 p 0) = if IntOp.cmpi .slt (be (ix1 p)) 0#32 = 1#1 then be (ix1 p) + 32#32 else be (ix1 p) := by
  pointwise [EXPERT]
  rfl

/-- On words that name one of the 32 experts the index taken is the word itself. -/
theorem index_eq (be : IVec S288 32) (p : Fin 288) (h : (be (ix1 p)).toNat < 32) : min (EXPERT be (ix2 p 0)).toInt.toNat (32 - 1) = (be (ix1 p)).toNat % 32 := by
  have e : (be (ix1 p)).toInt = ((be (ix1 p)).toNat : ℤ) := WordCmp.toInt_eq_toNat_of_lt_half (by omega)
  have hz : (0#32 : BitVec 32).toInt = 0 := rfl
  rw [EXPERT_at, WordCmp.cmpi_slt_eq, if_neg (fun hc => by have := (WordCmp.ofBool_decide_eq_one_iff _).1 hc; omega), e]
  omega

/-- The reference's result at an element, on tables that name experts. -/
theorem DOWN_at (be : IVec S288 32) (nu : IVec S1 32) (h : FVec Ideal S73728x2048 .bf16) (b : FVec Ideal S32x1x2048 .f32) (w : FVec Ideal S32x2048x2048 .f32)
    (hb : ∀ p : Fin 288, (be (ix1 p)).toNat < 32) (hn : (nu (ix1 0)).toNat ≤ 288) (r : Fin 73728) (n : Fin 2048) :
    PROD h (Host.gather gather_S32x2048x2048_S288x1_S288x2048x2048_12_0_n_n_0_1_120482048 w (EXPERT be))
        (Host.gather gather_S32x1x2048_S288x1_S288x1x2048_12_0_n_n_0_1_112048 b (EXPERT be)) (USED nu) (ix2 r n)
      = Spec.down (fun p => be (ix1 p)) (nu (ix1 0)) (fun r k => h (ix2 r k)) (fun e n => b (ix3 e 0 n)) (fun e k n => w (ix3 e k n)) r n := by
  have hr : r.val / 256 < 288 := by omega
  have hw : ∀ k, Host.gather gather_S32x2048x2048_S288x1_S288x2048x2048_12_0_n_n_0_1_120482048 w (EXPERT be) (ix3 ⟨r.val / 256, hr⟩ k n)
      = w (ix3 (Spec.expertOf (be (ix1 ⟨r.val / 256, hr⟩))) k n) := fun k =>
    (bank_at (by decide) _ w (EXPERT be) ⟨r.val / 256, hr⟩ k n).trans (congrArg (fun e => w (ix3 e k n)) (Fin.ext (index_eq be _ (hb _))))
  have hg : Host.gather gather_S32x1x2048_S288x1_S288x1x2048_12_0_n_n_0_1_112048 b (EXPERT be) (ix3 ⟨r.val / 256, hr⟩ 0 n)
      = b (ix3 (Spec.expertOf (be (ix1 ⟨r.val / 256, hr⟩))) 0 n) :=
    (bank_at (by decide) _ b (EXPERT be) ⟨r.val / 256, hr⟩ 0 n).trans (congrArg (fun e => b (ix3 e 0 n)) (Fin.ext (index_eq be _ (hb _))))
  rw [PROD_at, hg, Finset.sum_congr rfl fun k _ => congrArg (h (ix2 r k) * ·) (hw k)]
  unfold Spec.down
  refine if_congr ?_ rfl rfl
  rw [USED_at, WordCmp.cmpi_slt_eq, WordCmp.ofBool_decide_eq_one_iff, WordCmp.toInt_eq_toNat_of_lt_half (x := nu (ix1 0)) (by omega), WordCmp.toInt_ofNat_of_lt (by dsimp only; omega)]
  exact Int.ofNat_lt

end Cert.Reference3Ideal.Value

end
-- ==== Proof.Up.Setup.lean ====
/- The call expert_up as the run meets it: its tables read off the launch memory, its operands as the memrefs the body is
   handed, the invariant of the launch conjunct by conjunct. -/
module

public import proofs.«01_k».proof.Proof.Gen.Kernel4Ideal.Launch
public import proofs.«01_k».proof.Proof.Gen.Kernel4Ideal.Skeleton
public import proofs.«01_k».proof.Proof.Gen.Kernel4Ideal.Loops
public import Idealize.ShloMosaic.Lib.Pipeline.FrameBody
public import Idealize.ShloMosaic.Lib.SparseCore.Scatter
public import Idealize.ShloMosaic.Lib.Ring
public import Idealize.ShloMosaic.Lib.Tactic
public import Idealize.ShloMosaic.Lib.WordCmp

@[expose] public section

set_option maxRecDepth 16384

noncomputable section

namespace Cert.Kernel4Ideal.Up

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- The program is the region alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The four tables' contents at the launch (the one device's). -/
def tbl : pre0.Contents (Elt F) := fun j => V m (0 : Dev nD) (pre0.ref j)

/-- Every device holds those tables. -/
theorem V_pre (c : Dev nD) (j : Fin 4) : V m c (pre0.ref j) = tbl m j := by
  obtain rfl : c = 0 := Subsingleton.elim _ _
  rfl

/-- The tables name blocks inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables and the other operands as the body is handed them: whole buffers. -/
abbrev beM : Memref sig .tc .smem S288 .i32 := Memref.whole main_arg0
abbrev nxM : Memref sig .tc .smem S288 .i32 := Memref.whole main_arg1
abbrev nuM : Memref sig .tc .smem S1 .i32 := Memref.whole main_arg2
abbrev feM : Memref sig .tc .smem S1 .i32 := Memref.whole main_arg3
abbrev wM : Memref sig .tc .hbm S32x2048x4096 .f32 := Memref.whole main_arg6
abbrev stgM : Memref sig .tc .vmem S2x2048x1024 .f32 := Memref.whole cc0_scratch0
abbrev wgM : Memref sig .tc .vmem S2048x1024 .bf16 := Memref.whole cc0_scratch1
abbrev wuM : Memref sig .tc .vmem S2048x1024 .bf16 := Memref.whole cc0_scratch2

/-- The two halves of the staging buffer, one for the gate's weights and one for the other's. -/
abbrev stA : Memref sig .tc .vmem S2048x1024 .f32 :=
  (stgM.slice (Rect.unit (s := S2x2048x1024) ![0, 0, 0] S1x2048x1024.size inb_S2x2048x1024_S1x2048x1024_0_0_0) (fun _ => rfl)).squeeze S2048x1024 squeezes_S1x2048x1024_S2048x1024
abbrev stB : Memref sig .tc .vmem S2048x1024 .f32 :=
  (stgM.slice (Rect.unit (s := S2x2048x1024) ![1, 0, 0] S1x2048x1024.size inb_S2x2048x1024_S1x2048x1024_1_0_0) (fun _ => rfl)).squeeze S2048x1024 squeezes_S1x2048x1024_S2048x1024

/-- A memref's buffer on core `c`, held whole; and a table's, of which the pipeline keeps the other half. -/
abbrev BufOf (c : Dev nD) {sp : Space} {S : Shape} {e : EltTy} (M : Memref sig .tc sp S e) : Type := Buf (Elt F) (M.view.loc (c : Thread nD τ))
abbrev pts (c : Dev nD) {sp : Space} {S : Shape} {e : EltTy} (M : Memref sig .tc sp S e) (f : BufOf (F := F) c M) : sProp 𝕄 :=
  M.view.loc (c : Thread nD τ) ↦{fullShare} f
abbrev tpts (c : Dev nD) {S : Shape} {e : EltTy} (M : Memref sig .tc .smem S e) (f : BufOf (F := F) c M) : sProp 𝕄 :=
  M.view.loc (c : Thread nD τ) ↦{fullShare.right} f

/-- A half of the staging buffer, held by its own elements; and a half of the weights' share. -/
abbrev hpts (c : Dev nD) {sp : Space} {S : Shape} {e : EltTy} (M : Memref sig .tc sp S e) (f : BufOf (F := F) c M) : sProp 𝕄 :=
  M.view.loc (c : Thread nD τ) ↦[M.view.set]{fullShare} f
abbrev wL (c : Dev nD) (w : BufOf (F := F) c wM) : sProp 𝕄 := wM.view.loc (c : Thread nD τ) ↦{fullShare.left} w
abbrev wR (c : Dev nD) (w : BufOf (F := F) c wM) : sProp 𝕄 := wM.view.loc (c : Thread nD τ) ↦{fullShare.right} w

/-- The tables' halves, table by table. -/
theorem PhiT_eq (c : Dev nD) : (Pipeline.ΦT pre0 (tbl m) c : sProp 𝕄)
    = iprop(tpts c beM (tbl m 0) ∗ tpts c nxM (tbl m 1) ∗ tpts c nuM (tbl m 2) ∗ tpts c feM (tbl m 3)) := by
  unfold Pipeline.ΦT Pipeline.prefHeld
  rw [BI.bigSep_eq_bigSepL_of_eq [(0 : Fin 4), 1, 2, 3] (by decide) (by decide)]
  rfl

/-- The body's own completion cells. -/
abbrev osem : Fin 2 → SemLoc sig := fun j => (![SemLoc.dma 8, SemLoc.dma 9] : Fin 2 → SemLoc sig) j
/-- The body's completion cells are distinct and none of them is a window's. -/
theorem ownSemFacts : Pipeline.OwnSemFacts spec0 osem := by decide
/-- The body's completion cells at zero, one by one. -/
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0 ∗ semVal ((c : Thread nD τ), SemLoc.dma 9) 0) := by
  rw [Pipeline.ownSems0_eq_of_list c osem [0, 1] (by decide) (by decide)]; rfl

/-- The weights, the one array the body reads itself. -/
def H : Finset (Ref sig .tc) := {main_arg6}
/-- The weights are an array that no window and no table uses. -/
theorem H_sub : H ⊆ Pipeline.restRefsP sig pre0 spec0 := by decide
/-- Holding the arrays of `H` is holding the weights. -/
theorem wPts_eq (c : Dev nD) :
    (bigSep H (fun b => ((c : Thread nD τ).loc b) ↦{fullShare} V m c b) : sProp 𝕄) = pts c wM (V m c main_arg6) := by
  rw [BI.bigSep_eq_bigSepL_of_eq [main_arg6] (by decide) (by decide)]; rfl

/-- What the launch hands the body besides the windows and the tables: the three scratch buffers at anything, the generator's
    register, the cells at zero, the weights. -/
theorem PhiD_eq (c : Dev nD) :
    (Pipeline.ΦD osem spec0 H (V m) c : sProp 𝕄)
      = iprop(((∃ f, pts c stgM f) ∗ (∃ f, pts c wgM f) ∗ (∃ f, pts c wuM f)) ∗ (∃ r, prngReg c r)
          ∗ (semVal ((c : Thread nD τ), SemLoc.dma 8) 0 ∗ semVal ((c : Thread nD τ), SemLoc.dma 9) 0) ∗ pts c wM (V m c main_arg6)) := by
  rw [Pipeline.ΦD_eq, scopedRest0_eq, ownSems_eq, wPts_eq]

end Cert.Kernel4Ideal.Up

end
-- ==== Proof.Up.Loop.lean ====
/- The body's two loops, each over sixteen strips of one half of the staging buffer: a strip is cast and kept. -/
module

public import proofs.«01_k».proof.Proof.Up.Setup
public import Idealize.ShloMosaic.Lib.VecWindow
public import Idealize.ShloMosaic.Lib.Pipeline.Value

@[expose] public section

set_option maxRecDepth 16384

noncomputable section

namespace Cert.Kernel4Ideal.Up

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Rows `128 k … 128 k + 127` of a matrix. -/
theorem rows_inb (k : Fin 16) (a : Fin 2) : (![128 * k.val, 0] : Fin 2 → ℕ) a + S128x1024.size a ≤ S2048x1024.size a := by
  have := k.isLt
  match a with
  | 0 => show 128 * k.val + 128 ≤ 2048; omega
  | 1 => exact Nat.le_refl 1024

abbrev rows (k : Fin 16) : Rect S2048x1024 := Rect.unit (s := S2048x1024) ![128 * k.val, 0] S128x1024.size (rows_inb k)

/-- A matrix as a memref of one half of the staging buffer. -/
abbrev Half : Type := Memref sig .tc .vmem S2048x1024 .f32

/-- Strip `k` of the staged half, cast: what one trip keeps. -/
def strip (M : Half) (X : BufTy.Contents (Elt F) M.view.ty) (k : Fin 16) : View.Piece (Elt F) S2048x1024 .bf16 :=
  ⟨rows k, truncf .bf16 (View.readAt (Elt F) M.view (rows k).toLoadRect X) bitsLt_bf16_f32⟩

/-- The strips the trips before `k` keep, last first. -/
def strips (M : Half) (X : BufTy.Contents (Elt F) M.view.ty) : ℕ → List (View.Piece (Elt F) S2048x1024 .bf16)
  | 0 => []
  | k + 1 => if h : k < 16 then strip M X ⟨k, h⟩ :: strips M X k else strips M X k

/-- One more trip keeps one more strip. -/
theorem strips_succ (M : Half) (X : BufTy.Contents (Elt F) M.view.ty) (k : ℕ) (h : k < 16) :
    strips M X (k + 1) = strip M X ⟨k, h⟩ :: strips M X k := by
  rw [strips.eq_2]; exact dif_pos h

/-- A piece stored at the rows of strip `k`, the cast of what is loaded there, is that strip. -/
theorem strip_of (M : Half) (X : BufTy.Contents (Elt F) M.view.ty) (k : Fin 16) (off : Fin 2 → ℕ)
    (h : ∀ a, off a + S128x1024.size a ≤ S2048x1024.size a) (ho : off = ![128 * k.val, 0])
    (pay : Vec F S128x1024 .f32 → Vec F S128x1024 .bf16) (hp : ∀ v, pay v = truncf .bf16 v bitsLt_bf16_f32) :
    (⟨Rect.unit (s := S2048x1024) off S128x1024.size h,
      pay (View.readAt (Elt F) M.view (Rect.unit (s := S2048x1024) off S128x1024.size h).toLoadRect X)⟩ : View.Piece (Elt F) S2048x1024 .bf16)
      = strip M X k := by
  subst ho
  rw [hp]; rfl

/-- What the gate's loop stores is the cast of what it loads. -/
theorem pay3_eq (v : Vec F S128x1024 .f32) : k0_pay3 v = truncf .bf16 v bitsLt_bf16_f32 := by
  unfold k0_pay3; exact shapeCast_self _ _
/-- What the linear half's loop stores is the cast of what it loads. -/
theorem pay4_eq (v : Vec F S128x1024 .f32) : k0_pay4 v = truncf .bf16 v bitsLt_bf16_f32 := by
  unfold k0_pay4; exact shapeCast_self _ _
/-- Trip `k` of the casting loop works at row 128k. -/
theorem off6_eq : ∀ k : Fin k0_t1_loop.trips, k0_off6 k = ![128 * k.val, 0] := by decide +kernel
/-- Trip `k` of the second casting loop works at row 128k. -/
theorem off7_eq : ∀ k : Fin k0_t2_loop.trips, k0_off7 k = ![128 * k.val, 0] := by decide +kernel
/-- The gate's casting loop makes 16 trips. -/
theorem trips1_eq : k0_t1_loop.trips = 16 := by decide +kernel
/-- The linear half's casting loop makes 16 trips. -/
theorem trips2_eq : k0_t2_loop.trips = 16 := by decide +kernel

variable (c : Dev nD) (𝒱 : Variants) (bd : Option 𝒱.V) (i : grid0.Coords)
  (arg6 : Memref sig .tc .vmem S256x2048 .f32) (harg6 : arg6.IsWhole) (arg7 : Memref sig .tc .vmem S1x1x1024 .f32) (harg7 : arg7.IsWhole)
  (arg8 : Memref sig .tc .vmem S1x1x1024 .f32) (harg8 : arg8.IsWhole) (arg10 : Memref sig .tc .vmem S256x1024 .bf16) (harg10 : arg10.IsWhole)
  (arg0 arg1 : BitVec 32) (v0 : Elt F .i32) (k0_h1 : k0_cond1 i v0 = 1#1) (v9 v14 : Elt F .i32)
  (k0_hw1 : k0_chk1 i v0 v9 v14) (k0_h2 : k0_cond2 i v9 v14 = 1#1)

/-- One trip of the first loop: strip `k` of the staged half is cast into the buffer. -/
theorem trip1 (X : BufOf (F := F) c stA) (k : Fin k0_t1_loop.trips) (hk : k.val < 16) (E : Set ℕ) (f : BufOf (F := F) c wgM) :
    iprop((stA.view.loc (c : Thread nD τ) ↦[stA.view.set]{fullShare} X) ∗ (wgM.view.loc (c : Thread nD τ) ↦{fullShare} f) : sProp 𝕄)
      ⊢ wp frame (wpE (defs₀ (F := F)) 𝒱 (c : Thread nD τ) bd) E
          (k0_t1_body (F := F) i beM (Memref.isWhole_whole _) nxM (Memref.isWhole_whole _) nuM (Memref.isWhole_whole _) feM (Memref.isWhole_whole _)
            arg6 harg6 arg7 harg7 arg8 harg8 wM (Memref.isWhole_whole _) arg10 harg10 stgM (Memref.isWhole_whole _) wgM (Memref.isWhole_whole _) wuM (Memref.isWhole_whole _) cc0_scratch3
            arg0 arg1 v0 k0_h1 v9 v14 k0_hw1 k0_h2 k PUnit.unit)
          (fun _ => iprop((stA.view.loc (c : Thread nD τ) ↦[stA.view.set]{fullShare} X)
            ∗ (wgM.view.loc (c : Thread nD τ) ↦{fullShare} wgM.view.writes (Elt F) f [strip stA X ⟨k.val, hk⟩]))) := by
  rw [← strip_of stA X ⟨k.val, hk⟩ (k0_off6 k) (k0_off6_inb k) (off6_eq k) k0_pay3 pay3_eq]
  unfold k0_t1_body
  iintro ⟨HX, HB⟩
  sl_exec
  sl_step
  isplitl [HX]; · iexact HX
  iexact HB

set_option warn.classDefReducibility false in
/-- The first loop by its invariant: the staged half is as it was and the buffer has the strips of the trips before. -/
@[sl_loop] def loopInv1 (E : Set ℕ) (X : BufOf (F := F) c stA) (G : BufOf (F := F) c wgM) :
    LoopInvTy_k0_t1 (F := F) Unit ℕ (Pipeline.UD sig nD τ) ℕ 𝒱 c bd E i beM (Memref.isWhole_whole _) nxM (Memref.isWhole_whole _) nuM (Memref.isWhole_whole _) feM (Memref.isWhole_whole _)
            arg6 harg6 arg7 harg7 arg8 harg8 wM (Memref.isWhole_whole _) arg10 harg10 stgM (Memref.isWhole_whole _) wgM (Memref.isWhole_whole _) wuM (Memref.isWhole_whole _) cc0_scratch3
            arg0 arg1 v0 k0_h1 v9 v14 k0_hw1 k0_h2 where
  inv k _ := iprop((stA.view.loc (c : Thread nD τ) ↦[stA.view.set]{fullShare} X)
    ∗ (∃ f, (wgM.view.loc (c : Thread nD τ) ↦{fullShare} f) ∗ ⌜f = wgM.view.writes (Elt F) G (strips stA X k)⌝))
  step k acc := by
    have hk : k.val < 16 := Nat.lt_of_lt_of_le k.isLt k0_t1_abs.2.1
    iintro ⟨HX, ⟨%f, HB, %hf⟩⟩
    iapply (wp_wand_r Idealize.ShloMosaic.frame (wpE (defs₀ (F := F)) 𝒱 (c : Thread nD τ) bd) E)
    isplitl [HX HB]
    · iapply (trip1 c 𝒱 bd i arg6 harg6 arg7 harg7 arg8 harg8 arg10 harg10 arg0 arg1 v0 k0_h1 v9 v14 k0_hw1 k0_h2 X k hk E f)
      isplitl [HX]; · iexact HX
      iexact HB
    · iintro %_ ⟨HX, HB⟩
      isplitl [HX]; · iexact HX
      rw [strips_succ _ _ _ hk]
      iexists _; isplitl [HB]; · iexact HB
      ipureintro; rw [hf, ← View.writes_append, List.singleton_append]

/-- One trip of the second loop: strip `k` of the staged half is cast into the buffer. -/
theorem trip2 (X : BufOf (F := F) c stB) (k : Fin k0_t2_loop.trips) (hk : k.val < 16) (E : Set ℕ) (f : BufOf (F := F) c wuM) :
    iprop((stB.view.loc (c : Thread nD τ) ↦[stB.view.set]{fullShare} X) ∗ (wuM.view.loc (c : Thread nD τ) ↦{fullShare} f) : sProp 𝕄)
      ⊢ wp frame (wpE (defs₀ (F := F)) 𝒱 (c : Thread nD τ) bd) E
          (k0_t2_body (F := F) i beM (Memref.isWhole_whole _) nxM (Memref.isWhole_whole _) nuM (Memref.isWhole_whole _) feM (Memref.isWhole_whole _)
            arg6 harg6 arg7 harg7 arg8 harg8 wM (Memref.isWhole_whole _) arg10 harg10 stgM (Memref.isWhole_whole _) wgM (Memref.isWhole_whole _) wuM (Memref.isWhole_whole _) cc0_scratch3
            arg0 arg1 v0 k0_h1 v9 v14 k0_hw1 k0_h2 k PUnit.unit)
          (fun _ => iprop((stB.view.loc (c : Thread nD τ) ↦[stB.view.set]{fullShare} X)
            ∗ (wuM.view.loc (c : Thread nD τ) ↦{fullShare} wuM.view.writes (Elt F) f [strip stB X ⟨k.val, hk⟩]))) := by
  rw [← strip_of stB X ⟨k.val, hk⟩ (k0_off7 k) (k0_off7_inb k) (off7_eq k) k0_pay4 pay4_eq]
  unfold k0_t2_body
  iintro ⟨HX, HB⟩
  sl_exec
  sl_step
  isplitl [HX]; · iexact HX
  iexact HB

set_option warn.classDefReducibility false in
/-- The second loop by its invariant: the staged half is as it was and the buffer has the strips of the trips before. -/
@[sl_loop] def loopInv2 (E : Set ℕ) (X : BufOf (F := F) c stB) (G : BufOf (F := F) c wuM) :
    LoopInvTy_k0_t2 (F := F) Unit ℕ (Pipeline.UD sig nD τ) ℕ 𝒱 c bd E i beM (Memref.isWhole_whole _) nxM (Memref.isWhole_whole _) nuM (Memref.isWhole_whole _) feM (Memref.isWhole_whole _)
            arg6 harg6 arg7 harg7 arg8 harg8 wM (Memref.isWhole_whole _) arg10 harg10 stgM (Memref.isWhole_whole _) wgM (Memref.isWhole_whole _) wuM (Memref.isWhole_whole _) cc0_scratch3
            arg0 arg1 v0 k0_h1 v9 v14 k0_hw1 k0_h2 where
  inv k _ := iprop((stB.view.loc (c : Thread nD τ) ↦[stB.view.set]{fullShare} X)
    ∗ (∃ f, (wuM.view.loc (c : Thread nD τ) ↦{fullShare} f) ∗ ⌜f = wuM.view.writes (Elt F) G (strips stB X k)⌝))
  step k acc := by
    have hk : k.val < 16 := Nat.lt_of_lt_of_le k.isLt k0_t2_abs.2.1
    iintro ⟨HX, ⟨%f, HB, %hf⟩⟩
    iapply (wp_wand_r Idealize.ShloMosaic.frame (wpE (defs₀ (F := F)) 𝒱 (c : Thread nD τ) bd) E)
    isplitl [HX HB]
    · iapply (trip2 c 𝒱 bd i arg6 harg6 arg7 harg7 arg8 harg8 arg10 harg10 arg0 arg1 v0 k0_h1 v9 v14 k0_hw1 k0_h2 X k hk E f)
      isplitl [HX]; · iexact HX
      iexact HB
    · iintro %_ ⟨HX, HB⟩
      isplitl [HX]; · iexact HX
      rw [strips_succ _ _ _ hk]
      iexists _; isplitl [HB]; · iexact HB
      ipureintro; rw [hf, ← View.writes_append, List.singleton_append]

end Cert.Kernel4Ideal.Up

end
-- ==== Proof.Up.Values.lean ====
/- What the body's moves leave: an expert's weights staged, the staged weights cast, a move that carries the weights back. -/
module

public import proofs.«01_k».proof.Proof.Up.Loop
public import Idealize.ShloMosaic.Lib.VecWindow
public import Idealize.ShloMosaic.Lib.Pipeline.Value

@[expose] public section

set_option maxRecDepth 16384

noncomputable section

namespace Cert.Kernel4Ideal.Up

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A window of the weights, 2048 rows by 1024 columns of one expert's, as the memref a move reads. -/
abbrev wsl (off : Fin 3 → ℕ) (h : ∀ a, off a + S1x2048x1024.size a ≤ S32x2048x4096.size a) : Memref sig .tc .hbm S2048x1024 .f32 :=
  (wM.slice (Rect.unit (s := S32x2048x4096) off S1x2048x1024.size h) (fun _ => rfl)).squeeze S2048x1024 squeezes_S1x2048x1024_S2048x1024

/-- Where the window of expert `k.1`, pass `k.2` starts; `h` is 0 for the gate's columns, 1 for the others. -/
abbrev offOf (k : Fin 32 × Fin 2) (h : Fin 2) : Fin 3 → ℕ := ![k.1.val, 0, 1024 * k.2.val + 2048 * h.val]

/-- An expert's part of the weights lies inside the array. -/
theorem wsl_inb (k : Fin 32 × Fin 2) (h : Fin 2) (a : Fin 3) : offOf k h a + S1x2048x1024.size a ≤ S32x2048x4096.size a := by
  have := k.1.isLt; have := k.2.isLt; have := h.isLt
  match a with
  | 0 => show k.1.val + 1 ≤ 32; omega
  | 1 => exact Nat.le_refl 2048
  | 2 => show 1024 * k.2.val + 2048 * h.val + 1024 ≤ 4096; omega

/-- The weights of that window. -/
def wOf (c : Dev nD) (w : BufOf (F := F) c wM) (k : Fin 32 × Fin 2) (h : Fin 2) : Vec F S2048x1024 .f32 :=
  (wsl (offOf k h) (wsl_inb k h)).view.read (Elt F) w

/-- A matrix cast as the body casts it. -/
def castB (X : Vec F S2048x1024 .f32) : Vec F S2048x1024 .bf16 := truncf .bf16 X bitsLt_bf16_f32

/-- The slice at the offsets of a window reads that window. -/
theorem read_wsl (c : Dev nD) (w : BufOf (F := F) c wM) (k : Fin 32 × Fin 2) (j : Fin 2) (off : Fin 3 → ℕ) (h) (ho : off = offOf k j) :
    (wsl off h).view.read (Elt F) w = wOf c w k j := by
  subst ho; rfl

/-- Every row of the matrix is in one of the sixteen strips. -/
theorem strips_cover (M : Half) (X : BufTy.Contents (Elt F) M.view.ty) (y : S2048x1024.Idx) : ∀ n : ℕ, n ≤ 16 → (y 0).val < 128 * n →
    ∃ p ∈ strips M X n, y ∈ p.1.set
  | 0, _, h => absurd h (by omega)
  | n + 1, hn, h => by
    rw [strips_succ _ _ n (by omega)]
    by_cases hy : (y 0).val < 128 * n
    · obtain ⟨p, hp, hy⟩ := strips_cover M X y n (by omega) hy
      exact ⟨p, List.mem_cons_of_mem _ hp, hy⟩
    · refine ⟨_, List.mem_cons_self, ?_⟩
      refine (Rect.mem_set_unit (inb := rows_inb ⟨n, hn⟩)).2 fun a => ?_
      match a with
      | 0 => exact ⟨by show 128 * n ≤ _; omega, by show _ < 128 * n + 128; omega⟩
      | 1 => exact ⟨Nat.zero_le _, by show (y 1).val < 0 + 1024; have h1 : (y 1).val < 1024 := (y 1).isLt; omega⟩

/-- A strip agrees with the cast of the whole matrix. -/
theorem strips_agree (M : Half) (X : BufTy.Contents (Elt F) M.view.ty) : ∀ n : ℕ, ∀ p ∈ strips M X n, ∀ x : p.1.shape.Idx,
    p.2 x = castB (M.view.read (Elt F) X) (p.1.emb x)
  | 0, p, hp, _ => absurd hp List.not_mem_nil
  | n + 1, p, hp, x => by
    rw [strips.eq_2] at hp
    split at hp
    · rcases List.mem_cons.mp hp with rfl | hp
      · rfl
      · exact strips_agree M X n p hp x
    · exact strips_agree M X n p hp x

/-- Strips that reach every row leave the cast of the staged half. -/
theorem writes_strips (M : Half) (X : BufTy.Contents (Elt F) M.view.ty) (b : Memref sig .tc .vmem S2048x1024 .bf16)
    (G : BufTy.Contents (Elt F) b.view.ty) (n : ℕ) (hn : n = 16) :
    b.view.read (Elt F) (b.view.writes (Elt F) G (strips M X n)) = castB (M.view.read (Elt F) X) := funext fun y => by
  have hy : (y 0).val < 128 * n := by rw [hn]; exact (y 0).isLt
  exact View.read_writes_apply_of_pieces (v := b.view) (f := G) (castB (M.view.read (Elt F) X)) (strips M X n) (strips_agree M X n) y
    (strips_cover M X y n (Nat.le_of_eq hn) hy)

/-- A buffer loaded after its loop: the cast of the staged half. -/
theorem readCov_strips (M : Half) (X : BufTy.Contents (Elt F) M.view.ty) (b : Memref sig .tc .vmem S2048x1024 .bf16) (n : ℕ) (hn : n = 16) :
    b.view.readCov (strips M X n) (Rect.unit (s := S2048x1024) ![0, 0] S2048x1024.size inb_S2048x1024_S2048x1024_0_0).toLoadRect
      = castB (M.view.read (Elt F) X) := by
  unfold View.readCov
  exact (View.readAt_full _ _ _).trans (writes_strips M X b _ n hn)

/-- The two moves of window `k` under way, each with half the weights' share: their ends give the staged halves and the shares back. -/
def mov (c : Dev nD) (w : BufOf (F := F) c wM) (k : Fin 32 × Fin 2) : sProp 𝕄 :=
  iprop(∃ fA : BufOf (F := F) c stA, ∃ fB : BufOf (F := F) c stB, ⌜stA.view.read (Elt F) fA = wOf c w k 0⌝ ∗ ⌜stB.view.read (Elt F) fB = wOf c w k 1⌝
    ∗ Transfers.Flight (countersEmb (U := Pipeline.UD sig nD τ)) (c : Thread nD τ) (SemLoc.dma 8) (default : Unit) 262144
        iprop(hpts c stA fA ∗ wL c w)
    ∗ Transfers.Flight (countersEmb (U := Pipeline.UD sig nD τ)) (c : Thread nD τ) (SemLoc.dma 9) (default : Unit) 262144
        iprop(hpts c stB fB ∗ wR c w))

/-- Nothing under way. -/
def atRest (c : Dev nD) (w : BufOf (F := F) c wM) : sProp 𝕄 :=
  iprop((∃ f, hpts c stA f) ∗ (∃ f, hpts c stB f) ∗ semVal ((c : Thread nD τ), SemLoc.dma 8) 0 ∗ semVal ((c : Thread nD τ), SemLoc.dma 9) 0 ∗ wL c w ∗ wR c w)

/-- The state of the moves between two points: none, or those of one window. -/
def stage (c : Dev nD) (w : BufOf (F := F) c wM) : Option (Fin 32 × Fin 2) → sProp 𝕄
  | none => atRest c w
  | some k => mov c w k

/-- A slice of the weights at some share and the rest of them, put back together. -/
theorem rejoin (c : Dev nD) (w : BufOf (F := F) c wM) (q : PosShare TreeShare) (S : Finset (Idx (wM.view.loc (c : Thread nD τ)))) (P : sProp 𝕄) :
    iprop((wM.view.loc (c : Thread nD τ) ↦[Finset.univ \ S]{q} w) ∗ P ∗ (wM.view.loc (c : Thread nD τ) ↦[S]{q} w))
      ⊢ iprop(P ∗ (wM.view.loc (c : Thread nD τ) ↦{q} w)) := by
  iintro ⟨Hw, Hst, HS⟩
  isplitl [Hst]; · iexact Hst
  iapply ((pointsTo_split_subset (Finset.subset_univ S)).2)
  isplitl [HS]; · iexact HS
  iexact Hw

/-- A move begun on a slice takes the rest of its share along. -/
theorem flight_rejoin (c : Dev nD) (w : BufOf (F := F) c wM) (q : PosShare TreeShare) (S : Finset (Idx (wM.view.loc (c : Thread nD τ))))
    (sm : SemLoc sig) (P : sProp 𝕄) :
    iprop(Transfers.Flight (countersEmb (U := Pipeline.UD sig nD τ)) (c : Thread nD τ) sm (default : Unit) 262144
        iprop(P ∗ (wM.view.loc (c : Thread nD τ) ↦[S]{q} w)) ∗ (wM.view.loc (c : Thread nD τ) ↦[Finset.univ \ S]{q} w))
      ⊢ (Transfers.Flight (countersEmb (U := Pipeline.UD sig nD τ)) (c : Thread nD τ) sm (default : Unit) 262144
          iprop(P ∗ (wM.view.loc (c : Thread nD τ) ↦{q} w)) : sProp 𝕄) :=
  (sep_comm.1.trans (Transfers.Flight_frame _ _)).trans (Transfers.Flight_mono _ _ (rejoin c w q S _))

/-- Both moves begun, each on a slice, with what was left of its share of the array beside it. -/
theorem mov_intro (c : Dev nD) (w : BufOf (F := F) c wM) (k : Fin 32 × Fin 2) (S S' : Finset (Idx (wM.view.loc (c : Thread nD τ))))
    (fA : BufOf (F := F) c stA) (fB : BufOf (F := F) c stB) (hA : stA.view.read (Elt F) fA = wOf c w k 0) (hB : stB.view.read (Elt F) fB = wOf c w k 1) :
    iprop((Transfers.Flight (countersEmb (U := Pipeline.UD sig nD τ)) (c : Thread nD τ) (SemLoc.dma 8) (default : Unit) 262144
        iprop(hpts c stA fA ∗ (wM.view.loc (c : Thread nD τ) ↦[S]{fullShare.left} w)) ∗ (wM.view.loc (c : Thread nD τ) ↦[Finset.univ \ S]{fullShare.left} w))
      ∗ (Transfers.Flight (countersEmb (U := Pipeline.UD sig nD τ)) (c : Thread nD τ) (SemLoc.dma 9) (default : Unit) 262144
        iprop(hpts c stB fB ∗ (wM.view.loc (c : Thread nD τ) ↦[S']{fullShare.right} w)) ∗ (wM.view.loc (c : Thread nD τ) ↦[Finset.univ \ S']{fullShare.right} w)))
      ⊢ (stage c w (some k) : sProp 𝕄) := by
  show _ ⊢ mov c w k
  unfold mov
  iintro ⟨HF, HG⟩
  ihave HF' := (flight_rejoin c w fullShare.left S (SemLoc.dma 8) (hpts c stA fA)) $$ HF
  ihave HG' := (flight_rejoin c w fullShare.right S' (SemLoc.dma 9) (hpts c stB fB)) $$ HG
  iexists fA, fB
  isplitr; · ipureintro; exact hA
  isplitr; · ipureintro; exact hB
  isplitl [HF']; · iexact HF'
  iexact HG'

/-- Nothing under way, what the staging buffer holds forgotten. -/
theorem rest_intro (c : Dev nD) (w : BufOf (F := F) c wM) (fA : BufOf (F := F) c stA) (fB : BufOf (F := F) c stB) :
    iprop(hpts c stA fA ∗ hpts c stB fB ∗ semVal ((c : Thread nD τ), SemLoc.dma 8) 0 ∗ semVal ((c : Thread nD τ), SemLoc.dma 9) 0 ∗ wL c w ∗ wR c w)
      ⊢ (stage c w none : sProp 𝕄) := by
  show _ ⊢ atRest c w
  unfold atRest
  iintro ⟨HA, HB, HF⟩
  isplitl [HA]; · iexists fA; iexact HA
  isplitl [HB]; · iexists fB; iexact HB
  iexact HF

end Cert.Kernel4Ideal.Up

end
-- ==== Proof.Up.Body.lean ====
/- One run of the body, case by case. -/
module

public import proofs.«01_k».proof.Proof.Up.Values

@[expose] public section

set_option maxRecDepth 16384

noncomputable section

namespace Cert.Kernel4Ideal.Up

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg6 : Memref sig .tc .vmem S256x2048 .f32) (harg6 : arg6.IsWhole) (arg7 : Memref sig .tc .vmem S1x1x1024 .f32) (harg7 : arg7.IsWhole)
  (arg8 : Memref sig .tc .vmem S1x1x1024 .f32) (harg8 : arg8.IsWhole) (arg10 : Memref sig .tc .vmem S256x1024 .bf16) (harg10 : arg10.IsWhole)

/-- The body at point `i` on the blocks it is handed. -/
abbrev body : Prog (TpuEff nD τ sig (Elt F) Λ₀ .tc) PUnit :=
  cc0_expert_up i beM (Memref.isWhole_whole _) nxM (Memref.isWhole_whole _) nuM (Memref.isWhole_whole _) feM (Memref.isWhole_whole _)
            arg6 harg6 arg7 harg7 arg8 harg8 wM (Memref.isWhole_whole _) arg10 harg10 stgM (Memref.isWhole_whole _) wgM (Memref.isWhole_whole _) wuM (Memref.isWhole_whole _) cc0_scratch3

variable (be : BufOf (F := F) c beM) (nx : BufOf (F := F) c nxM) (nu : BufOf (F := F) c nuM) (fe : BufOf (F := F) c feM)
  (x : Vec F S256x2048 .f32) (bg bu : Vec F S1x1x1024 .f32)

/-- The words the body reads at point `i`: the number of used blocks, the block's expert and its predecessor's, the next
    run's expert, the first expert. -/
abbrev nuW : BitVec 32 := View.readAt (Elt F) nuM.view (Rect.unit (s := S1) ![0] S1.size inb_S1_S1_0).toLoadRect nu (Shape.Idx.first (lt_of_lt_of_eq Nat.one_pos numel1_S1.symm))
abbrev beW : BitVec 32 := View.readAt (Elt F) beM.view (Rect.unit (s := S288) (k0_off2 i) S1.size (k0_off2_inb i)).toLoadRect be (Shape.Idx.first (lt_of_lt_of_eq Nat.one_pos numel1_S1.symm))
abbrev prW : BitVec 32 := View.readAt (Elt F) beM.view (Rect.unit (s := S288) (k0_off3 i) S1.size (k0_off3_inb i)).toLoadRect be (Shape.Idx.first (lt_of_lt_of_eq Nat.one_pos numel1_S1.symm))
abbrev nxW : BitVec 32 := View.readAt (Elt F) nxM.view (Rect.unit (s := S288) (k0_off8 i) S1.size (k0_off8_inb i)).toLoadRect nx (Shape.Idx.first (lt_of_lt_of_eq Nat.one_pos numel1_S1.symm))
abbrev feW : BitVec 32 := View.readAt (Elt F) feM.view (Rect.unit (s := S1) ![0] S1.size inb_S1_S1_0).toLoadRect fe (Shape.Idx.first (lt_of_lt_of_eq Nat.one_pos numel1_S1.symm))

abbrev Tabs : sProp 𝕄 := iprop(tpts c beM be ∗ tpts c nxM nx ∗ tpts c nuM nu ∗ tpts c feM fe)

/-- What the body stores at a used block, from its tokens, the cast weights and the two biases. -/
def outOf (x : Vec F S256x2048 .f32) (wg wu : Vec F S2048x1024 .bf16) (bg bu : Vec F S1x1x1024 .f32) : Vec F S256x1024 .bf16 :=
  k0_pay1 (k0_pay6 x wg bg) (k0_pay7 x wu bu) (k0_pay8 x wg bg)

/-- The operands of the block handed to the body, as the run leaves them; `z` is what the output block holds. -/
abbrev Blocks (z : Vec F S256x1024 .bf16) : sProp 𝕄 :=
  iprop(Tabs c be nx nu fe ∗ owns (c : Thread nD τ) arg6 fullShare x ∗ owns (c : Thread nD τ) arg7 fullShare bg ∗ owns (c : Thread nD τ) arg8 fullShare bu
    ∗ owns (c : Thread nD τ) arg10 fullShare z)

/-- The same before the run: the output block at anything. -/
abbrev Before : sProp 𝕄 :=
  iprop(Tabs c be nx nu fe ∗ owns (c : Thread nD τ) arg6 fullShare x ∗ owns (c : Thread nD τ) arg7 fullShare bg ∗ owns (c : Thread nD τ) arg8 fullShare bu
    ∗ (∃ d, owns (c : Thread nD τ) arg10 fullShare d))

/-- The tables and the blocks, held piece by piece, are `Blocks`. -/
theorem blocks_intro (z : Vec F S256x1024 .bf16) {f6 f7 f8 f10} (h6 : arg6.view.read (Elt F) f6 = x) (h7 : arg7.view.read (Elt F) f7 = bg)
    (h8 : arg8.view.read (Elt F) f8 = bu) :
    iprop(tpts c beM be ∗ tpts c nxM nx ∗ tpts c nuM nu ∗ tpts c feM fe ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ (arg10.view.loc (c : Thread nD τ) ↦[arg10.view.set]{fullShare} f10) ∗ ⌜arg10.view.read (Elt F) f10 = z⌝)
      ⊢ Blocks c arg6 arg7 arg8 arg10 be nx nu fe x bg bu z := by
  unfold Blocks Tabs owns
  iintro ⟨HT0, HT1, HT2, HT3, H6, H7, H8, H10, %h10⟩
  isplitl [HT0 HT1 HT2 HT3]
  · isplitl [HT0]; · iexact HT0
    isplitl [HT1]; · iexact HT1
    isplitl [HT2]; · iexact HT2
    iexact HT3
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  iexists f10; isplitr; · ipureintro; exact h10
  iexact H10

/-- A block past the used ones: the output is zeros. -/
theorem run_idle (h1 : ¬ k0_cond1 i (nuW c nu) = 1#1) (h5 : k0_cond5 i (nuW c nu) = 1#1) (W : Waits sig Unit) (K : PUnit → sProp 𝕄) :
    iprop(Before c arg6 arg7 arg8 arg10 be nx nu fe x bg bu ∗ owes (c : Thread nD τ) 0 W
       ∗ (iprop(Blocks c arg6 arg7 arg8 arg10 be nx nu fe x bg bu k0_pay2 ∗ ∃ W', owes (c : Thread nD τ) 0 W') -∗ K ⟨⟩))
     ⊢ wp frame (wpE (defs₀ (F := F)) Variants.none (c : Thread nD τ) none) Set.univ (body (F := F) i arg6 harg6 arg7 harg7 arg8 harg8 arg10 harg10) K := by
  unfold body
  simp only [cc0_expert_up_eq_skeleton]; unfold cc0_expert_up_skel
  unfold Before owns
  iintro ⟨⟨⟨HT0, HT1, HT2, HT3⟩, ⟨%f6, %hf6, H6⟩, ⟨%f7, %hf7, H7⟩, ⟨%f8, %hf8, H8⟩, ⟨%d10, %f10, -, H10⟩⟩, HW, Hk⟩
  sl_exec
  sl_step
  iapply Hk
  isplitr [HW]
  · iapply (blocks_intro c arg6 arg7 arg8 arg10 be nx nu fe x bg bu _ hf6 hf7 hf8)
    iframe
    ipureintro; exact View.read_writes_full _ _ _ _ _
  iexists _; iexact HW

/-- A used block of the same expert and pass as the one before: the cast weights are there. -/
theorem run_same (h1 : k0_cond1 i (nuW c nu) = 1#1) (hc1 : k0_chk1 i (nuW c nu) (beW c i be) (prW c i be))
    (h2 : ¬ k0_cond2 i (beW c i be) (prW c i be) = 1#1) (h5 : ¬ k0_cond5 i (nuW c nu) = 1#1)
    (wg : BufOf (F := F) c wgM) (wu : BufOf (F := F) c wuM) (W : Waits sig Unit) (K : PUnit → sProp 𝕄) :
    iprop(Before c arg6 arg7 arg8 arg10 be nx nu fe x bg bu ∗ pts c wgM wg ∗ pts c wuM wu ∗ owes (c : Thread nD τ) 0 W
       ∗ (iprop(Blocks c arg6 arg7 arg8 arg10 be nx nu fe x bg bu (outOf x wg wu bg bu) ∗ pts c wgM wg ∗ pts c wuM wu
          ∗ ∃ W', owes (c : Thread nD τ) 0 W') -∗ K ⟨⟩))
     ⊢ wp frame (wpE (defs₀ (F := F)) Variants.none (c : Thread nD τ) none) Set.univ (body (F := F) i arg6 harg6 arg7 harg7 arg8 harg8 arg10 harg10) K := by
  unfold body
  simp only [cc0_expert_up_eq_skeleton]; unfold cc0_expert_up_skel
  simp only [k0_part2_eq_skeleton]; unfold k0_part2_skel
  unfold Before owns
  iintro ⟨⟨⟨HT0, HT1, HT2, HT3⟩, ⟨%f6, %hf6, H6⟩, ⟨%f7, %hf7, H7⟩, ⟨%f8, %hf8, H8⟩, ⟨%d10, %f10, -, H10⟩⟩, Hg, Hu, HW, Hk⟩
  sl_exec
  sl_step
  iapply Hk
  isplitr [HW Hg Hu]
  · iapply (blocks_intro c arg6 arg7 arg8 arg10 be nx nu fe x bg bu _ hf6 hf7 hf8)
    iframe
    ipureintro
    refine (View.read_writes_full _ _ _ _ _).trans ?_
    rw [View.readAt_full, View.readAt_full, View.readAt_full, View.readAt_full, View.readAt_full, hf6, hf7, hf8]; rfl
  isplitl [Hg]; · iexact Hg
  isplitl [Hu]; · iexact Hu
  iexists _; iexact HW

/-- The end of a run that changed the weights: what the two buffers and the output block hold. -/
theorem change_end (w : BufOf (F := F) c wM) (k : Fin 32 × Fin 2) (o : Option (Fin 32 × Fin 2)) {f6 f7 f8 f10} (h6 : arg6.view.read (Elt F) f6 = x)
    (h7 : arg7.view.read (Elt F) f7 = bg) (h8 : arg8.view.read (Elt F) f8 = bu) (XA : BufOf (F := F) c stA) (XB : BufOf (F := F) c stB)
    (hA : stA.view.read (Elt F) XA = wOf c w k 0) (hB : stB.view.read (Elt F) XB = wOf c w k 1)
    (n n' : ℕ) (hn : n = 16) (hn' : n' = 16) (wg : BufOf (F := F) c wgM) (wu : BufOf (F := F) c wuM) (v21 v27 : Vec F S2048x1024 .bf16)
    (h21 : v21 = wgM.view.readCov (strips stA XA n) (Rect.unit (s := S2048x1024) ![0, 0] S2048x1024.size inb_S2048x1024_S2048x1024_0_0).toLoadRect)
    (h27 : v27 = wuM.view.readCov (strips stB XB n') (Rect.unit (s := S2048x1024) ![0, 0] S2048x1024.size inb_S2048x1024_S2048x1024_0_0).toLoadRect)
    (W : Waits sig Unit) :
    iprop((tpts c beM be ∗ tpts c nxM nx ∗ tpts c nuM nu ∗ tpts c feM fe ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ (arg10.view.loc (c : Thread nD τ) ↦[arg10.view.set]{fullShare}
          arg10.view.writes (Elt F) f10 [⟨Rect.unit ![0, 0] S256x1024.size inb_S256x1024_S256x1024_0_0,
          outOf
            (View.readAt (Elt F) arg6.view (Rect.unit ![0, 0] S256x2048.size inb_S256x2048_S256x2048_0_0).toLoadRect f6)
            v21 v27
            (View.readAt (Elt F) arg7.view (Rect.unit ![0, 0, 0] S1x1x1024.size inb_S1x1x1024_S1x1x1024_0_0_0).toLoadRect f7)
            (View.readAt (Elt F) arg8.view (Rect.unit ![0, 0, 0] S1x1x1024.size inb_S1x1x1024_S1x1x1024_0_0_0).toLoadRect f8)⟩]))
      ∗ pts c wgM (wgM.view.writes (Elt F) wg (strips stA XA n)) ∗ pts c wuM (wuM.view.writes (Elt F) wu (strips stB XB n'))
      ∗ owes (c : Thread nD τ) 0 W ∗ stage c w o)
    ⊢ iprop(Blocks c arg6 arg7 arg8 arg10 be nx nu fe x bg bu (outOf x (castB (wOf c w k 0)) (castB (wOf c w k 1)) bg bu)
            ∗ pts c wgM (castB (wOf c w k 0)) ∗ pts c wuM (castB (wOf c w k 1)) ∗ stage c w o ∗ ∃ W', owes (c : Thread nD τ) 0 W') := by
  have e21 : v21 = castB (wOf c w k 0) := by rw [h21, readCov_strips _ _ _ _ hn, hA]
  have e27 : v27 = castB (wOf c w k 1) := by rw [h27, readCov_strips _ _ _ _ hn', hB]
  have eg : wgM.view.writes (Elt F) wg (strips stA XA n) = castB (wOf c w k 0) := by
    rw [← hA]; exact (View.read_whole cc0_scratch1 _).symm.trans (writes_strips stA XA wgM wg n hn)
  have eu : wuM.view.writes (Elt F) wu (strips stB XB n') = castB (wOf c w k 1) := by
    rw [← hB]; exact (View.read_whole cc0_scratch2 _).symm.trans (writes_strips stB XB wuM wu n' hn')
  rw [eg, eu]
  iintro ⟨⟨HT0, HT1, HT2, HT3, H6, H7, H8, H10⟩, Hg, Hu, HW, Hs⟩
  isplitl [HT0 HT1 HT2 HT3 H6 H7 H8 H10]
  · iapply (blocks_intro c arg6 arg7 arg8 arg10 be nx nu fe x bg bu _ h6 h7 h8)
    iframe
    ipureintro
    refine (View.read_writes_full _ _ _ _ _).trans ?_
    rw [View.readAt_full, View.readAt_full, View.readAt_full, h6, h7, h8, e21, e27]
  isplitl [Hg]; · iexact Hg
  isplitl [Hu]; · iexact Hu
  isplitl [Hs]; · iexact Hs
  iexists W; iexact HW

/-- A used block at which the weights change. Its weights are on their way (`some k`) or, at the first block of the first
    pass, start now; the next window's start when there is one (`o`). -/
theorem run_change (w : BufOf (F := F) c wM) (k : Fin 32 × Fin 2) (s o : Option (Fin 32 × Fin 2))
    (h1 : k0_cond1 i (nuW c nu) = 1#1) (hc1 : k0_chk1 i (nuW c nu) (beW c i be) (prW c i be))
    (h2 : k0_cond2 i (beW c i be) (prW c i be) = 1#1) (h5 : ¬ k0_cond5 i (nuW c nu) = 1#1)
    (hoff4 : k0_off4 i (beW c i be) 0#32 = offOf k 0 ∧ k0_off4 i (beW c i be) 2048#32 = offOf k 1)
    (hs : (k0_cond3 i = 1#1 ∧ s = none) ∨ (¬ k0_cond3 i = 1#1 ∧ s = some k))
    (hc2 : k0_chk2 i (nuW c nu) (beW c i be) (prW c i be) (nxW c i nx))
    (hc3 : k0_chk3 i (nuW c nu) (beW c i be) (prW c i be) (nxW c i nx) (nxW c i nx) (feW c fe))
    (ho : (¬ k0_cond4 i (nxW c i nx) = 1#1 ∧ o = none)
      ∨ (k0_cond4 i (nxW c i nx) = 1#1 ∧ ∃ k', o = some k' ∧ k0_off9 i (nxW c i nx) (nxW c i nx) (feW c fe) 0#32 = offOf k' 0
          ∧ k0_off9 i (nxW c i nx) (nxW c i nx) (feW c fe) 2048#32 = offOf k' 1))
    (W : Waits sig Unit) (K : PUnit → sProp 𝕄) :
    iprop(Before c arg6 arg7 arg8 arg10 be nx nu fe x bg bu ∗ (∃ wg, pts c wgM wg) ∗ (∃ wu, pts c wuM wu) ∗ stage c w s ∗ owes (c : Thread nD τ) 0 W
       ∗ (iprop(Blocks c arg6 arg7 arg8 arg10 be nx nu fe x bg bu (outOf x (castB (wOf c w k 0)) (castB (wOf c w k 1)) bg bu)
            ∗ pts c wgM (castB (wOf c w k 0)) ∗ pts c wuM (castB (wOf c w k 1)) ∗ stage c w o ∗ ∃ W', owes (c : Thread nD τ) 0 W') -∗ K ⟨⟩))
     ⊢ wp frame (wpE (defs₀ (F := F)) Variants.none (c : Thread nD τ) none) Set.univ (body (F := F) i arg6 harg6 arg7 harg7 arg8 harg8 arg10 harg10) K := by
  unfold body
  simp only [cc0_expert_up_eq_skeleton]; unfold cc0_expert_up_skel
  simp only [k0_part2_eq_skeleton]; unfold k0_part2_skel
  unfold Before owns
  rcases hs with ⟨h3, rfl⟩ | ⟨h3, rfl⟩ <;> rcases ho with ⟨h4, rfl⟩ | ⟨h4, k', rfl, hoff9⟩
  · rw [show stage c w none = atRest c w from rfl]; unfold atRest
    iintro ⟨⟨⟨HT0, HT1, HT2, HT3⟩, ⟨%f6, %hf6, H6⟩, ⟨%f7, %hf7, H7⟩, ⟨%f8, %hf8, H8⟩, ⟨%d10, %f10, -, H10⟩⟩, ⟨%wg, Hg⟩, ⟨%wu, Hu⟩, ⟨⟨%fA, HA⟩, ⟨%fB, HB⟩, HF, HG, HwL, HwR⟩, HW, Hk⟩
    sl_exec
    sl_step
    iapply Hk
    iapply (change_end c arg6 arg7 arg8 arg10 be nx nu fe x bg bu w k none hf6 hf7 hf8 _ _ ((View.read_writes_whole _ _ _).trans (read_wsl c w k 0 _ _ hoff4.1)) ((View.read_writes_whole _ _ _).trans (read_wsl c w k 1 _ _ hoff4.2))
      _ _ trips1_eq trips2_eq _ _ (run_change.sl.v21 c i be nu w h1 hc1 h2 h3) (run_change.sl.v27 c i be nu w h1 hc1 h2 h3) rfl rfl _)
    isplitl [HT0 HT1 HT2 HT3 H6 H7 H8 H10]
    · isplitl [HT0]; · iexact HT0
      isplitl [HT1]; · iexact HT1
      isplitl [HT2]; · iexact HT2
      isplitl [HT3]; · iexact HT3
      isplitl [H6]; · iexact H6
      isplitl [H7]; · iexact H7
      isplitl [H8]; · iexact H8
      iexact H10
    isplitl [Hg]; · iexact Hg
    isplitl [Hu]; · iexact Hu
    isplitl [HW]; · iexact HW
    iapply (rest_intro c w _ _)
    isplitl [HA]; · iexact HA
    isplitl [HB]; · iexact HB
    isplitl [HF]; · iexact HF
    isplitl [HG]; · iexact HG
    isplitl [HwL]; · iexact HwL
    iexact HwR
  · rw [show stage c w none = atRest c w from rfl]; unfold atRest
    iintro ⟨⟨⟨HT0, HT1, HT2, HT3⟩, ⟨%f6, %hf6, H6⟩, ⟨%f7, %hf7, H7⟩, ⟨%f8, %hf8, H8⟩, ⟨%d10, %f10, -, H10⟩⟩, ⟨%wg, Hg⟩, ⟨%wu, Hu⟩, ⟨⟨%fA, HA⟩, ⟨%fB, HB⟩, HF, HG, HwL, HwR⟩, HW, Hk⟩
    sl_exec
    sl_step
    iapply Hk
    iapply (change_end c arg6 arg7 arg8 arg10 be nx nu fe x bg bu w k (some k') hf6 hf7 hf8 _ _ ((View.read_writes_whole _ _ _).trans (read_wsl c w k 0 _ _ hoff4.1)) ((View.read_writes_whole _ _ _).trans (read_wsl c w k 1 _ _ hoff4.2))
      _ _ trips1_eq trips2_eq _ _ _ _ rfl rfl _)
    isplitl [HT0 HT1 HT2 HT3 H6 H7 H8 H10]
    · isplitl [HT0]; · iexact HT0
      isplitl [HT1]; · iexact HT1
      isplitl [HT2]; · iexact HT2
      isplitl [HT3]; · iexact HT3
      isplitl [H6]; · iexact H6
      isplitl [H7]; · iexact H7
      isplitl [H8]; · iexact H8
      iexact H10
    isplitl [Hg]; · iexact Hg
    isplitl [Hu]; · iexact Hu
    isplitl [HW]; · iexact HW
    iapply (mov_intro c w k' _ _ _ _ ((View.read_writes_whole _ _ _).trans (read_wsl c w k' 0 _ _ hoff9.1)) ((View.read_writes_whole _ _ _).trans (read_wsl c w k' 1 _ _ hoff9.2)))
    isplitl [HF HwL]
    · isplitl [HF]; · iexact HF
      iexact HwL
    isplitl [HG]; · iexact HG
    iexact HwR
  · rw [show stage c w (some k) = mov c w k from rfl]; unfold mov
    iintro ⟨⟨⟨HT0, HT1, HT2, HT3⟩, ⟨%f6, %hf6, H6⟩, ⟨%f7, %hf7, H7⟩, ⟨%f8, %hf8, H8⟩, ⟨%d10, %f10, -, H10⟩⟩, ⟨%wg, Hg⟩, ⟨%wu, Hu⟩, ⟨%fA, %fB, %hA, %hB, HF, HG⟩, HW, Hk⟩
    sl_exec
    sl_step
    iapply Hk
    iapply (change_end c arg6 arg7 arg8 arg10 be nx nu fe x bg bu w k none hf6 hf7 hf8 _ _ hA hB
      _ _ trips1_eq trips2_eq _ _ _ _ rfl rfl _)
    isplitl [HT0 HT1 HT2 HT3 H6 H7 H8 H10]
    · isplitl [HT0]; · iexact HT0
      isplitl [HT1]; · iexact HT1
      isplitl [HT2]; · iexact HT2
      isplitl [HT3]; · iexact HT3
      isplitl [H6]; · iexact H6
      isplitl [H7]; · iexact H7
      isplitl [H8]; · iexact H8
      iexact H10
    isplitl [Hg]; · iexact Hg
    isplitl [Hu]; · iexact Hu
    isplitl [HW]; · iexact HW
    iapply (rest_intro c w _ _)
    isplitl [HF_dst]; · iexact HF_dst
    isplitl [HG_dst]; · iexact HG_dst
    isplitl [HF]; · iexact HF
    isplitl [HG]; · iexact HG
    isplitl [HF_src]; · iexact HF_src
    iexact HG_src
  · rw [show stage c w (some k) = mov c w k from rfl]; unfold mov
    iintro ⟨⟨⟨HT0, HT1, HT2, HT3⟩, ⟨%f6, %hf6, H6⟩, ⟨%f7, %hf7, H7⟩, ⟨%f8, %hf8, H8⟩, ⟨%d10, %f10, -, H10⟩⟩, ⟨%wg, Hg⟩, ⟨%wu, Hu⟩, ⟨%fA, %fB, %hA, %hB, HF, HG⟩, HW, Hk⟩
    sl_exec
    sl_step
    iapply Hk
    iapply (change_end c arg6 arg7 arg8 arg10 be nx nu fe x bg bu w k (some k') hf6 hf7 hf8 _ _ hA hB
      _ _ trips1_eq trips2_eq _ _ _ _ rfl rfl _)
    isplitl [HT0 HT1 HT2 HT3 H6 H7 H8 H10]
    · isplitl [HT0]; · iexact HT0
      isplitl [HT1]; · iexact HT1
      isplitl [HT2]; · iexact HT2
      isplitl [HT3]; · iexact HT3
      isplitl [H6]; · iexact H6
      isplitl [H7]; · iexact H7
      isplitl [H8]; · iexact H8
      iexact H10
    isplitl [Hg]; · iexact Hg
    isplitl [Hu]; · iexact Hu
    isplitl [HW]; · iexact HW
    iapply (mov_intro c w k' _ _ _ _ ((View.read_writes_whole _ _ _).trans (read_wsl c w k' 0 _ _ hoff9.1)) ((View.read_writes_whole _ _ _).trans (read_wsl c w k' 1 _ _ hoff9.2)))
    isplitl [HF HF_src]
    · isplitl [HF]; · iexact HF
      iexact HF_src
    isplitl [HG]; · iexact HG
    iexact HG_src

end Cert.Kernel4Ideal.Up

end
-- ==== Proof.Up.Tables.lean ====
/- The tables of expert_up in words: what makes them good, the conditions and offsets the body computes from them, and
   that the blocks they name lie inside their arrays. -/
module

public import proofs.«01_k».proof.Proof.Up.Body
public import proofs.«01_k».proof.Proof.Down.Tables
public import Idealize.ShloMosaic.Lib.ValueIdxCore

@[expose] public section

set_option maxRecDepth 16384

noncomputable section

namespace Cert.Kernel4Ideal.Up

open Cert.Kernel4Ideal Cert.Kernel4Ideal.Gen
open Idealize.ShloMosaic Idealize.ShloMosaic.TcCoe Idealize.ShloMosaic.ValueIdx
open Cert.Kernel3Ideal.Down (Good expert expert_val slt_32 not_slt_32 not_lt_of_ge bit_test read288 read1)

variable {F : FTy → Type} [FloatOps F]

section conditions
variable (i : grid0.Coords)

/-- The second coordinate of a grid point names one of the 288 blocks. -/
theorem coord_lt : (i 1).val < 288 := (i 1).isLt

/-- The pass a point belongs to, one per half of the columns. -/
def pass : Fin 2 := i 0

/-- A grid point belongs to the first pass or to the second. -/
theorem pass_cases : (i 0).val = 0 ∨ (i 0).val = 1 := by
  have h : (i 0).val < 2 := (i 0).isLt
  omega

/-- What the body moves next after a block of pass `p` whose next-run word is `z`: the next run's weights, or after the
    first pass the first expert's (`fe`) for the second, or nothing. -/
def nextKey (p : Fin 2) (z fe : BitVec 32) : Option (Fin 32 × Fin 2) :=
  if z.toNat < 32 then some (expert z, p) else if p = 0 then some (expert fe, 1) else none

/-- The point of expert_down of the same block: the conditions on the block alone are the same there. -/
def down : Cert.Kernel3Ideal.grid0.Coords := fun a => match a with
  | ⟨0, _⟩ => (⟨0, by decide⟩ : Fin 1)
  | ⟨1, _⟩ => (⟨(i 1).val, coord_lt i⟩ : Fin 288)

/-- The block is used. -/
theorem cond1_iff {nu : BitVec 32} (h : nu.toNat ≤ 288) : k0_cond1 i nu = 1#1 ↔ (i 1).val < nu.toNat :=
  Cert.Kernel3Ideal.Down.cond1_iff (down i) h

/-- The block is past the used ones. -/
theorem cond5_iff {nu : BitVec 32} (h : nu.toNat ≤ 288) : k0_cond5 i nu = 1#1 ↔ nu.toNat ≤ (i 1).val :=
  Cert.Kernel3Ideal.Down.cond5_iff (down i) h

/-- The block's run begins. -/
theorem cond2_iff (x y : BitVec 32) : k0_cond2 i x y = 1#1 ↔ ((i 1).val = 0 ∨ x ≠ y) :=
  Cert.Kernel3Ideal.Down.cond2_iff (down i) x y

/-- The first block of the first pass. -/
theorem cond3_iff : k0_cond3 i = 1#1 ↔ ((i 1).val = 0 ∧ (i 0).val = 0) := by
  have hi := coord_lt i
  have hp := pass_cases i
  unfold k0_cond3
  dsimp only
  rw [bit_test]
  refine Iff.trans (b := IntOp.andi (IntOp.cmpi .eq (BitVec.ofNat 32 (i 1).val) (BitVec.ofNat 32 0))
    (IntOp.cmpi .eq (BitVec.ofNat 32 (i 0).val) (BitVec.ofNat 32 0)) = 1#1) Iff.rfl ?_
  rw [WordCmp.cmpi_eq_ofNat (by omega) (by omega), WordCmp.cmpi_eq_ofNat (by omega) (by omega), WordCmp.andi_ofBool]
  by_cases h0 : (i 1).val = 0 <;> by_cases h1 : (i 0).val = 0 <;> simp [h0, h1]

/-- Where the second table names an expert, the body starts the copy of that expert's weights, -/
theorem cond4_of_lt {x : BitVec 32} (h : x.toNat < 32) : k0_cond4 i x = 1#1 := by
  unfold k0_cond4
  dsimp only
  rw [bit_test, slt_32 h]
  rcases pass_cases i with hp | hp <;> rw [hp] <;> decide

/-- and where it names none, only in the first pass a copy. -/
theorem cond4_of_ge {x : BitVec 32} (h : 32 ≤ x.toInt) : k0_cond4 i x = 1#1 ↔ (i 0).val = 0 := by
  unfold k0_cond4
  dsimp only
  rw [bit_test, not_slt_32 h]
  rcases pass_cases i with hp | hp <;> rw [hp] <;> decide

/-- Where a column offset of pass `p` begins, for the gate's half (`r = 0`) and the other's. -/
theorem col_eq : ∀ p r : Fin 2, (Scalar.addi (BitVec.ofNat 32 (2048 * r.val)) (Scalar.muli (BitVec.ofNat 32 p.val) 1024#32) : BitVec 32).toNat
    = 1024 * p.val + 2048 * r.val := by decide

/-- Where the columns of the second pass begin, as the first pass computes it. -/
theorem col_next : ∀ r : Fin 2, (Scalar.addi (BitVec.ofNat 32 (2048 * r.val)) (Scalar.muli (Scalar.addi (BitVec.ofNat 32 0) 1#32) 1024#32) : BitVec 32).toNat
    = 1024 * 1 + 2048 * r.val := by decide

/-- A copy of expert `x`'s weights begins at that expert, at the columns of the point's pass. -/
theorem off4_eq (x : BitVec 32) (r : Fin 2) : k0_off4 i x (BitVec.ofNat 32 (2048 * r.val)) = ![x.toNat, 0, 1024 * (pass i).val + 2048 * r.val] :=
  congrArg (fun n => (![x.toNat, 0, n] : Fin 3 → ℕ)) (col_eq (pass i) r)

/-- When the table names a next expert, the next copy begins at that expert, in the same pass. -/
theorem off9_of_lt {x : BitVec 32} (h : x.toNat < 32) (y : BitVec 32) (r : Fin 2) :
    k0_off9 i x x y (BitVec.ofNat 32 (2048 * r.val)) = ![x.toNat, 0, 1024 * (pass i).val + 2048 * r.val] := by
  unfold k0_off9
  dsimp only
  rw [slt_32 h]
  exact congrArg (fun n => (![x.toNat, 0, n] : Fin 3 → ℕ)) (col_eq (pass i) r)

/-- When the table names none, the next copy begins at the first expert, in the second pass. -/
theorem off9_of_ge {x : BitVec 32} (h : 32 ≤ x.toInt) (hp : (i 0).val = 0) (y : BitVec 32) (r : Fin 2) :
    k0_off9 i x x y (BitVec.ofNat 32 (2048 * r.val)) = ![y.toNat, 0, 1024 * 1 + 2048 * r.val] := by
  unfold k0_off9
  dsimp only
  rw [not_slt_32 h, hp]
  exact congrArg (fun n => (![y.toNat, 0, n] : Fin 3 → ℕ)) (col_next r)

/-- An expert's part of the weights lies inside the weight array. -/
theorem expert_inb {n p r : ℕ} (h : n < 32) (hp : p < 2) (hr : r < 2) (a : Fin 3) :
    (![n, 0, 1024 * p + 2048 * r] : Fin 3 → ℕ) a + S1x2048x1024.size a ≤ S32x2048x4096.size a := by
  match a with
  | 0 => exact h
  | 1 => exact Nat.le_of_eq rfl
  | 2 =>
    show 1024 * p + 2048 * r + 1024 ≤ 4096
    omega

/-- The copies that a run waits for lie inside the weights. -/
theorem chk1_of {x : BitVec 32} (h : x.toNat < 32) (nu y : BitVec 32) : k0_chk1 i nu x y :=
  ⟨fun _ _ _ r a => by rw [off4_eq]; exact expert_inb h (pass i).isLt r.isLt a,
    fun _ _ r a => (by rw [off4_eq]; exact expert_inb h (pass i).isLt r.isLt a : k0_off4 i x (BitVec.ofNat 32 (2048 * r.val)) a + _ ≤ _)⟩

/-- The column where the next copy begins is a multiple of the tile's width. -/
theorem chk2_of {z : BitVec 32} (hz : 32 ≤ z.toInt ∨ z.toNat < 32) (nu x y : BitVec 32) : k0_chk2 i nu x y z := by
  refine ⟨fun _ _ _ => ?_, fun _ _ _ => ?_⟩
  · unfold k0_mult7
    dsimp only
    rcases hz with h | h <;> rcases pass_cases i with hp | hp <;> first | rw [not_slt_32 h, hp] | rw [slt_32 h, hp]
    all_goals decide
  · unfold k0_mult8
    dsimp only
    rcases hz with h | h <;> rcases pass_cases i with hp | hp <;> first | rw [not_slt_32 h, hp] | rw [slt_32 h, hp]
    all_goals decide

/-- The next copy lies inside the weights. -/
theorem chk3_of {z : BitVec 32} (hz : 32 ≤ z.toInt ∨ z.toNat < 32) (nu x y : BitVec 32) {w : BitVec 32} (hw : w.toNat < 32) :
    k0_chk3 i nu x y z z w := fun _ _ h4 r a => by
  rcases hz with h | h
  · rw [off9_of_ge i h ((cond4_of_ge i h).1 h4)]; exact expert_inb hw (by decide) r.isLt a
  · rw [off9_of_lt i h]; exact expert_inb h (pass i).isLt r.isLt a

end conditions

section reads
variable (i : grid0.Coords) (c : Dev nD)

/-- A word of a table that the grid's second coordinate reads. -/
theorem off_coord : (![(Scalar.indexCast (BitVec.ofNat 32 (i 1).val) : Index).toNat] : Fin 1 → ℕ) = ![(i 1).val] := by
  have hi := coord_lt i
  congr 1
  exact WordCmp.toNat_ofNat_of_lt (by omega)

/-- The word read of the experts' table is the block's entry. -/
theorem beW_eq (be : BufOf (F := F) c beM) : beW c i be = (be : S288.Idx → BitVec 32) (ix1 ⟨(i 1).val, coord_lt i⟩) :=
  Eq.trans rfl (read288 be (k0_off2 i) (k0_off2_inb i) ⟨(i 1).val, coord_lt i⟩ (off_coord i) _)

/-- The word read of the next experts' table is the block's entry. -/
theorem nxW_eq (nx : BufOf (F := F) c nxM) : nxW c i nx = (nx : S288.Idx → BitVec 32) (ix1 ⟨(i 1).val, coord_lt i⟩) :=
  Eq.trans rfl (read288 nx (k0_off8 i) (k0_off8_inb i) ⟨(i 1).val, coord_lt i⟩ (off_coord i) _)

/-- The word read of the third table is the number of used blocks. -/
theorem nuW_eq (nu : BufOf (F := F) c nuM) : nuW c nu = (nu : S1.Idx → BitVec 32) (ix1 0) :=
  Eq.trans rfl (read1 nu _ _)

/-- The word before the block's own. -/
theorem prW_eq (be : BufOf (F := F) c beM) (h : (i 1).val ≠ 0) :
    prW c i be = (be : S288.Idx → BitVec 32) (ix1 ⟨(i 1).val - 1, lt_of_le_of_lt (Nat.sub_le _ _) (coord_lt i)⟩) := by
  refine Eq.trans rfl (read288 be (k0_off3 i) (k0_off3_inb i) ⟨(i 1).val - 1, lt_of_le_of_lt (Nat.sub_le _ _) (coord_lt i)⟩ ?_ _)
  have hi := coord_lt i
  unfold k0_off3
  dsimp only
  congr 1
  generalize (i 1).val = n at h hi ⊢
  have key : ∀ n : Fin 288, n.val ≠ 0 →
      (Scalar.indexCast (Scalar.maxsi (Scalar.subi (BitVec.ofNat 32 n.val) 1#32) 0#32) : Index).toNat = n.val - 1 := by
    decide +kernel
  exact key ⟨n, hi⟩ h

/-- The word read of the fourth table is the first expert. -/
theorem feW_eq (fe : BufOf (F := F) c feM) : feW c fe = (fe : S1.Idx → BitVec 32) (ix1 0) :=
  Eq.trans rfl (read1 fe _ _)

end reads

section launch
variable (m : (ℓ : Loc nD τ sig) → Buf (Elt F) ℓ)

/-- The launch's tables in words. -/
def beT (k : Fin 288) : BitVec 32 := (tbl m 0 : S288.Idx → BitVec 32) (ix1 k)
def nxT (k : Fin 288) : BitVec 32 := (tbl m 1 : S288.Idx → BitVec 32) (ix1 k)
def nuT : BitVec 32 := (tbl m 2 : S1.Idx → BitVec 32) (ix1 0)

def feT : BitVec 32 := (tbl m 3 : S1.Idx → BitVec 32) (ix1 0)

/-- The launch's tables are good, and the last one names the first block's expert. -/
structure GoodT : Prop extends Good (beT m) (nxT m) (nuT m) where
  first : feT m = beT m 0

/-- The map of the hidden blocks: the block itself as long as it is used, afterwards the last used one. -/
theorem map0_eq (G : GoodT m) (i : grid0.Coords) :
    cc0_transform_0 inb_S1_S1_0 numel1_S1 (tbl m) i = ![min (i 1).val ((nuT m).toNat - 1), 0] := by
  have hi := coord_lt i
  have h1 := G.nu_pos
  have h2 := G.nu_le
  have hw : ((tbl m).at 2 (Rect.unit (s := S1) ![0] S1.size inb_S1_S1_0) numel1_S1 : BitVec 32) = nuT m := read1 (tbl m 2) _ _
  unfold cc0_transform_0
  dsimp only
  rw [hw]
  congr 1
  have hs : (Scalar.subi (nuT m) 1#32 : BitVec 32) = BitVec.ofNat 32 ((nuT m).toNat - 1) := by
    apply BitVec.eq_of_toNat_eq
    show (nuT m - 1#32).toNat = _
    rw [BitVec.toNat_sub, BitVec.toNat_ofNat]
    simp only [BitVec.toNat_ofNat]
    omega
  rw [hs]
  generalize hn : (nuT m).toNat - 1 = n
  have hn' : n < 288 := by omega
  generalize (i 1).val = k at hi ⊢
  show (Scalar.minsi (BitVec.ofNat 32 k) (BitVec.ofNat 32 n) : BitVec 32).toNat = min k n
  unfold Scalar.minsi IntOp.minsi
  have ek : (BitVec.ofNat 32 k).toInt = (k : ℤ) := WordCmp.toInt_ofNat_of_lt (by omega)
  have en : (BitVec.ofNat 32 n).toInt = (n : ℤ) := WordCmp.toInt_ofNat_of_lt (by omega)
  simp only [BitVec.slt, ek, en, Int.ofNat_lt, decide_eq_true_eq]
  split
  · rw [WordCmp.toNat_ofNat_of_lt (by omega)]; omega
  · rw [WordCmp.toNat_ofNat_of_lt (by omega)]; omega

/-- The word of the first table that the bias maps read. -/
theorem word1 (i : grid0.Coords) :
    ((tbl m).at 0 (Rect.unit (s := S288) (k0_off1 i) S1.size (k0_off1_inb i)) numel1_S1 : BitVec 32) = beT m ⟨(i 1).val, coord_lt i⟩ :=
  read288 (tbl m 0) (k0_off1 i) (k0_off1_inb i) ⟨(i 1).val, coord_lt i⟩ (off_coord i) _

/-- The maps of the biases: the block's expert, the pass's columns for the gate -/
theorem map1_eq (i : grid0.Coords) :
    cc0_transform_1 k0_off1_inb numel1_S1 (tbl m) i = ![(beT m ⟨(i 1).val, coord_lt i⟩).toNat, 0, (i 0).val] := by
  refine Eq.trans (b := ![((tbl m).at 0 (Rect.unit (s := S288) (k0_off1 i) S1.size (k0_off1_inb i)) numel1_S1 : BitVec 32).toNat, 0,
    (BitVec.ofNat 32 (i 0).val).toNat]) rfl ?_
  rw [word1]
  rcases pass_cases i with hp | hp <;> rw [hp] <;> rfl

/-- and for the other half. -/
theorem map2_eq (i : grid0.Coords) :
    cc0_transform_2 k0_off1_inb numel1_S1 (tbl m) i = ![(beT m ⟨(i 1).val, coord_lt i⟩).toNat, 0, 2 + (i 0).val] := by
  refine Eq.trans (b := ![((tbl m).at 0 (Rect.unit (s := S288) (k0_off1 i) S1.size (k0_off1_inb i)) numel1_S1 : BitVec 32).toNat, 0,
    (Scalar.addi 2#32 (BitVec.ofNat 32 (i 0).val) : BitVec 32).toNat]) rfl ?_
  rw [word1]
  rcases pass_cases i with hp | hp <;> rw [hp] <;> rfl

/-- A bias block of an expert below 32 lies inside the bias array. -/
theorem bias_inb {n p : ℕ} (h : n < 32) (hp : p < 4) (a : Fin 3) :
    ((![n, 0, p] : Fin 3 → ℕ) a + 1) * S1x1x1024.size a ≤ S32x1x4096.size a := by
  match a with
  | 0 =>
    show (n + 1) * 1 ≤ 32
    omega
  | 1 => exact Nat.le_of_eq rfl
  | 2 =>
    show (p + 1) * 1024 ≤ 4096
    omega

/-- Good tables name blocks inside their arrays. -/
theorem ok_of_good (G : GoodT m) : Ok m := by
  have h1 := G.nu_pos
  have h2 := G.nu_le
  refine ⟨fun i => ?_, fun i => ?_, fun i => ?_⟩
  · rw [map0_eq m G i]
    have hi := coord_lt i
    refine ⟨fun a => ?_, .inl rfl⟩
    match a with
    | 0 =>
      show (min (i 1).val ((nuT m).toNat - 1) + 1) * 256 ≤ 73728
      omega
    | 1 => exact Nat.le_of_eq rfl
  · rw [map1_eq m i]
    have hp := pass_cases i
    exact ⟨bias_inb (G.be_lt _) (by omega), .inl rfl⟩
  · rw [map2_eq m i]
    have hp := pass_cases i
    exact ⟨bias_inb (G.be_lt _) (by omega), .inl rfl⟩

/-- Every point stores the output block. -/
theorem not_idle (G : GoodT m) (i : grid0.Coords) : idle0 (tbl m) 3 i = false := by
  have h2 := G.nu_le
  have hw : ((tbl m).atD 2 ![0] : BitVec 32) = nuT m := by
    unfold Pipeline.Prefetch.Contents.atD
    rw [dif_pos (fun a => match a with | ⟨0, _⟩ => Nat.le_of_eq rfl)]
    exact read1 (tbl m 2) _ _
  show (!(k0_cond1 i ((tbl m).atD 2 ![0]) == 1#1) && !(k0_cond5 i ((tbl m).atD 2 ![0]) == 1#1)) = false
  rw [hw]
  by_cases h : (i 1).val < (nuT m).toNat
  · rw [(cond1_iff i h2).2 h]; rfl
  · rw [(cond5_iff i h2).2 (by omega)]; simp

end launch

end Cert.Kernel4Ideal.Up

end
-- ==== Proof.Up.Step.lean ====
/- One point of expert_up, whatever its case: the cast weights and the move under way before and after it, and the block
   it leaves. -/
module

public import proofs.«01_k».proof.Proof.Up.Tables

@[expose] public section

set_option maxRecDepth 16384

noncomputable section

namespace Cert.Kernel4Ideal.Up

open Cert.Kernel4Ideal Cert.Kernel4Ideal.Gen
open Idealize.ShloMosaic Idealize.ShloMosaic.TcCoe Idealize.ShloMosaic.Tactic Idealize.ShloMosaic.ValueIdx
open Cert.Kernel3Ideal.Down (Good expert expert_val)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (c : Dev nD)

/-- The weights at the launch. -/
abbrev W0 : BufOf (F := F) c wM := V m c main_arg6

/-- What the body moves for a block of pass `p`: the block's expert's weights, that pass's columns. -/
def keyAt (p : Fin 2) (k : Fin 288) : Fin 32 × Fin 2 := (expert (beT m k), p)

/-- Those weights cast, the gate's (`h = 0`) and the other half's. -/
def wAt (p : Fin 2) (k : Fin 288) (h : Fin 2) : Vec F S2048x1024 .bf16 := castB (wOf c (W0 m c) (keyAt m p k) h)

/-- What the body carries from a point to the next: after the used block `k` of pass `p`, its cast weights and the move of
    the next ones. -/
def carry (p : Fin 2) (k : Fin 288) : sProp 𝕄 :=
  iprop(pts c wgM (wAt m c p k 0) ∗ pts c wuM (wAt m c p k 1) ∗ stage c (W0 m c) (nextKey p (nxT m k) (feT m)))

/-- The last used block among the first `n + 1`. -/
def lastUsed (n : ℕ) : Fin 288 := ⟨min n ((nuT m).toNat - 1) % 288, Nat.mod_lt _ (by decide)⟩

/-- What the body carries after its first `n` points: before the first, anything and no move. -/
def St : ℕ → sProp 𝕄
  | 0 => iprop((∃ wg, pts c wgM wg) ∗ (∃ wu, pts c wuM wu) ∗ stage c (W0 m c) none)
  | n + 1 => carry m c ⟨n / 288 % 2, Nat.mod_lt _ (by decide)⟩ (lastUsed m (n % 288))

/-- The block the body leaves at point `i`. -/
def outAt (i : grid0.Coords) (x : Vec F S256x2048 .f32) (bg bu : Vec F S1x1x1024 .f32) : Vec F S256x1024 .bf16 :=
  if (i 1).val < (nuT m).toNat then
    outOf x (wAt m c (pass i) ⟨(i 1).val, coord_lt i⟩ 0) (wAt m c (pass i) ⟨(i 1).val, coord_lt i⟩ 1) bg bu
  else k0_pay2

variable (i : grid0.Coords)
  (arg6 : Memref sig .tc .vmem S256x2048 .f32) (harg6 : arg6.IsWhole) (arg7 : Memref sig .tc .vmem S1x1x1024 .f32) (harg7 : arg7.IsWhole)
  (arg8 : Memref sig .tc .vmem S1x1x1024 .f32) (harg8 : arg8.IsWhole) (arg10 : Memref sig .tc .vmem S256x1024 .bf16) (harg10 : arg10.IsWhole)
  (x : Vec F S256x2048 .f32) (bg bu : Vec F S1x1x1024 .f32)

/-- The number of a point. -/
def num : ℕ := (i 0).val * 288 + (i 1).val

/-- A used block is the last used one among those up to it. -/
theorem lastUsed_used {n : ℕ} (hn : n < 288) (h : n < (nuT m).toNat) : lastUsed m n = ⟨n, hn⟩ := by
  apply Fin.ext
  show min n ((nuT m).toNat - 1) % 288 = n
  rw [Nat.min_eq_left (by omega), Nat.mod_eq_of_lt hn]

/-- What is carried after `p * 288 + k` points and one more is of pass `p` and block `k`. -/
theorem St_of {n : ℕ} (p : Fin 2) {k : ℕ} (hk : k < 288) (hn : n = p.val * 288 + k) : St m c (n + 1) = carry m c p (lastUsed m k) := by
  have e1 : (⟨n / 288 % 2, Nat.mod_lt _ (by decide)⟩ : Fin 2) = p := Fin.ext (by show n / 288 % 2 = p.val; omega)
  have e2 : n % 288 = k := by omega
  show carry m c _ (lastUsed m (n % 288)) = _
  rw [e1, e2]

/-- What is carried after point `i`, -/
theorem St_after : St m c (num i + 1) = carry m c (pass i) (lastUsed m (i 1).val) := St_of m c (pass i) (coord_lt i) rfl

/-- and before it, unless it is a pass's first. -/
theorem St_before {n : ℕ} (hn : (i 1).val = n + 1) : St m c (num i) = carry m c (pass i) (lastUsed m n) := by
  have hi := coord_lt i
  have e : num i = ((pass i).val * 288 + n) + 1 := by
    show (i 0).val * 288 + (i 1).val = (i 0).val * 288 + n + 1
    omega
  rw [e]
  exact St_of m c (pass i) (by omega) rfl

/-- The move after a used block, in the two forms the run takes it. -/
theorem next_forms (G : GoodT m) (k : Fin 288) (hk : k.val < (nuT m).toNat) (z fw : BitVec 32) (hz : z = nxT m k) (hf : fw = feT m) :
    (¬ k0_cond4 i z = 1#1 ∧ nextKey (pass i) (nxT m k) (feT m) = none)
      ∨ (k0_cond4 i z = 1#1 ∧ ∃ k', nextKey (pass i) (nxT m k) (feT m) = some k' ∧ k0_off9 i z z fw 0#32 = offOf k' 0
          ∧ k0_off9 i z z fw 2048#32 = offOf k' 1) := by
  subst hz hf
  have hfe : (feT m).toNat < 32 := G.first ▸ G.be_lt 0
  unfold nextKey
  rcases G.next_cases k hk with h | h
  · rw [if_neg (Cert.Kernel3Ideal.Down.not_lt_of_ge h)]
    by_cases hp : (i 0).val = 0
    · refine .inr ⟨(cond4_of_ge i h).2 hp, (expert (feT m), 1), if_pos (Fin.ext hp), ?_, ?_⟩
      · exact (off9_of_ge i h hp _ 0).trans (by unfold offOf; rw [expert_val hfe]; rfl)
      · exact (off9_of_ge i h hp _ 1).trans (by unfold offOf; rw [expert_val hfe]; rfl)
    · exact .inl ⟨fun h4 => hp ((cond4_of_ge i h).1 h4), if_neg fun e => hp (congrArg Fin.val e)⟩
  · refine .inr ⟨cond4_of_lt i h, (expert (nxT m k), pass i), if_pos h, ?_, ?_⟩
    · exact (off9_of_lt i h _ 0).trans (by unfold offOf; rw [expert_val h])
    · exact (off9_of_lt i h _ 1).trans (by unfold offOf; rw [expert_val h])

/-- A point that begins a run of blocks, or the second pass. -/
theorem step_change (G : GoodT m) (hu : (i 1).val < (nuT m).toNat) (s : Option (Fin 32 × Fin 2))
    (h2 : k0_cond2 i (beW c i (tbl m 0)) (prW c i (tbl m 0)) = 1#1)
    (hs : (k0_cond3 i = 1#1 ∧ s = none) ∨ (¬ k0_cond3 i = 1#1 ∧ s = some (keyAt m (pass i) ⟨(i 1).val, coord_lt i⟩)))
    (W : Waits sig Unit) (K : PUnit → sProp 𝕄) :
    iprop(Before c arg6 arg7 arg8 arg10 (tbl m 0) (tbl m 1) (tbl m 2) (tbl m 3) x bg bu ∗ ((∃ wg, pts c wgM wg) ∗ (∃ wu, pts c wuM wu) ∗ stage c (W0 m c) s) ∗ owes (c : Thread nD τ) 0 W
       ∗ (iprop(Blocks c arg6 arg7 arg8 arg10 (tbl m 0) (tbl m 1) (tbl m 2) (tbl m 3) x bg bu (outAt m c i x bg bu) ∗ St m c (num i + 1)
            ∗ ∃ W', owes (c : Thread nD τ) 0 W') -∗ K ⟨⟩))
     ⊢ wp frame (wpE (defs₀ (F := F)) Variants.none (c : Thread nD τ) none) Set.univ (body (F := F) i arg6 harg6 arg7 harg7 arg8 harg8 arg10 harg10) K := by
  have hbe : beW c i (tbl m 0) = beT m ⟨(i 1).val, coord_lt i⟩ := beW_eq i c _
  have hnx : nxW c i (tbl m 1) = nxT m ⟨(i 1).val, coord_lt i⟩ := nxW_eq i c _
  have hnu : nuW c (tbl m 2) = nuT m := nuW_eq c _
  have hfe : feW c (tbl m 3) = feT m := feW_eq c _
  have hlt : (beW c i (tbl m 0)).toNat < 32 := hbe ▸ G.be_lt _
  have hz : 32 ≤ (nxW c i (tbl m 1)).toInt ∨ (nxW c i (tbl m 1)).toNat < 32 := hnx ▸ G.next_cases _ hu
  have hfl : (feW c (tbl m 3)).toNat < 32 := hfe ▸ G.first ▸ G.be_lt 0
  have ho : outAt m c i x bg bu = outOf x (castB (wOf c (W0 m c) (keyAt m (pass i) ⟨(i 1).val, coord_lt i⟩) 0))
      (castB (wOf c (W0 m c) (keyAt m (pass i) ⟨(i 1).val, coord_lt i⟩) 1)) bg bu := if_pos hu
  have hS : St m c (num i + 1) = iprop(pts c wgM (castB (wOf c (W0 m c) (keyAt m (pass i) ⟨(i 1).val, coord_lt i⟩) 0))
      ∗ pts c wuM (castB (wOf c (W0 m c) (keyAt m (pass i) ⟨(i 1).val, coord_lt i⟩) 1))
      ∗ stage c (W0 m c) (nextKey (pass i) (nxT m ⟨(i 1).val, coord_lt i⟩) (feT m))) := by
    rw [St_after, lastUsed_used m (coord_lt i) hu]
    rfl
  have hoff : ∀ r : Fin 2, k0_off4 i (beW c i (tbl m 0)) (BitVec.ofNat 32 (2048 * r.val)) = offOf (keyAt m (pass i) ⟨(i 1).val, coord_lt i⟩) r := fun r => by
    rw [off4_eq, hbe]
    unfold offOf keyAt
    rw [expert_val (G.be_lt _)]
  rw [ho, hS]
  iintro ⟨HB, ⟨Hwg, Hwu, Hst⟩, HW, Hk⟩
  iapply (run_change c i arg6 harg6 arg7 harg7 arg8 harg8 arg10 harg10 (tbl m 0) (tbl m 1) (tbl m 2) (tbl m 3) x bg bu (W0 m c)
    (keyAt m (pass i) ⟨(i 1).val, coord_lt i⟩) s (nextKey (pass i) (nxT m ⟨(i 1).val, coord_lt i⟩) (feT m))
    (by rw [hnu]; exact (cond1_iff i G.nu_le).2 hu) (chk1_of i hlt _ _) h2 (by rw [hnu, cond5_iff i G.nu_le]; omega)
    ⟨hoff 0, hoff 1⟩ hs (chk2_of i hz _ _ _) (chk3_of i hz _ _ _ hfl)
    (next_forms m i G _ hu _ _ hnx hfe) W K)
  isplitl [HB]; · iexact HB
  isplitl [Hwg]; · iexact Hwg
  isplitl [Hwu]; · iexact Hwu
  isplitl [Hst]; · iexact Hst
  isplitl [HW]; · iexact HW
  iintro ⟨HB, Hwg, Hwu, Hst, HW⟩
  iapply Hk
  isplitl [HB]; · iexact HB
  isplitl [Hwg Hwu Hst]
  · isplitl [Hwg]; · iexact Hwg
    isplitl [Hwu]; · iexact Hwu
    iexact Hst
  iexact HW

/-- The same where the body has carried something so far. -/
theorem step_next (G : GoodT m) (hu : (i 1).val < (nuT m).toNat) (p : Fin 2) (k : Fin 288)
    (h2 : k0_cond2 i (beW c i (tbl m 0)) (prW c i (tbl m 0)) = 1#1) (h3 : ¬ k0_cond3 i = 1#1)
    (hs : nextKey p (nxT m k) (feT m) = some (keyAt m (pass i) ⟨(i 1).val, coord_lt i⟩))
    (W : Waits sig Unit) (K : PUnit → sProp 𝕄) :
    iprop(Before c arg6 arg7 arg8 arg10 (tbl m 0) (tbl m 1) (tbl m 2) (tbl m 3) x bg bu ∗ carry m c p k ∗ owes (c : Thread nD τ) 0 W
       ∗ (iprop(Blocks c arg6 arg7 arg8 arg10 (tbl m 0) (tbl m 1) (tbl m 2) (tbl m 3) x bg bu (outAt m c i x bg bu) ∗ St m c (num i + 1)
            ∗ ∃ W', owes (c : Thread nD τ) 0 W') -∗ K ⟨⟩))
     ⊢ wp frame (wpE (defs₀ (F := F)) Variants.none (c : Thread nD τ) none) Set.univ (body (F := F) i arg6 harg6 arg7 harg7 arg8 harg8 arg10 harg10) K := by
  unfold carry
  rw [hs]
  refine BIBase.Entails.trans ?_ (step_change m c i arg6 harg6 arg7 harg7 arg8 harg8 arg10 harg10 x bg bu G hu _ h2 (.inr ⟨h3, rfl⟩) W K)
  iintro ⟨HB, ⟨Hwg, Hwu, Hst⟩, HW, Hk⟩
  isplitl [HB]; · iexact HB
  isplitl [Hwg Hwu Hst]
  · isplitl [Hwg]; · iexists _; iexact Hwg
    isplitl [Hwu]; · iexists _; iexact Hwu
    iexact Hst
  isplitl [HW]; · iexact HW
  iexact Hk

/-- Any point. -/
theorem step (G : GoodT m) (W : Waits sig Unit) (K : PUnit → sProp 𝕄) :
    iprop(Before c arg6 arg7 arg8 arg10 (tbl m 0) (tbl m 1) (tbl m 2) (tbl m 3) x bg bu ∗ St m c (num i) ∗ owes (c : Thread nD τ) 0 W
       ∗ (iprop(Blocks c arg6 arg7 arg8 arg10 (tbl m 0) (tbl m 1) (tbl m 2) (tbl m 3) x bg bu (outAt m c i x bg bu) ∗ St m c (num i + 1)
            ∗ ∃ W', owes (c : Thread nD τ) 0 W') -∗ K ⟨⟩))
     ⊢ wp frame (wpE (defs₀ (F := F)) Variants.none (c : Thread nD τ) none) Set.univ (body (F := F) i arg6 harg6 arg7 harg7 arg8 harg8 arg10 harg10) K := by
  have hbe : beW c i (tbl m 0) = beT m ⟨(i 1).val, coord_lt i⟩ := beW_eq i c _
  have hnu : nuW c (tbl m 2) = nuT m := nuW_eq c _
  have hi := coord_lt i
  have hpos := G.nu_pos
  have hle := G.nu_le
  by_cases hu : (i 1).val < (nuT m).toNat
  · rcases Nat.eq_zero_or_pos (i 1).val with h0 | h0
    · have h2 : k0_cond2 i (beW c i (tbl m 0)) (prW c i (tbl m 0)) = 1#1 := (cond2_iff i _ _).2 (.inl h0)
      rcases pass_cases i with hp | hp
      · have hS : St m c (num i) = iprop((∃ wg, pts c wgM wg) ∗ (∃ wu, pts c wuM wu) ∗ stage c (W0 m c) none) := by
          have e : num i = 0 := by unfold num; rw [h0, hp]
          rw [e]; rfl
        rw [hS]
        exact step_change m c i arg6 harg6 arg7 harg7 arg8 harg8 arg10 harg10 x bg bu G hu none h2 (.inl ⟨(cond3_iff i).2 ⟨h0, hp⟩, rfl⟩) W K
      · have hS : St m c (num i) = carry m c 0 (lastUsed m 287) := by
          have e : num i = 287 + 1 := by unfold num; rw [h0, hp]
          rw [e]; exact St_of m c 0 (by decide) rfl
        have hz : 32 ≤ (nxT m (lastUsed m 287)).toInt := by
          refine G.last _ ?_
          show min 287 ((nuT m).toNat - 1) % 288 + 1 = _
          rw [Nat.min_eq_right (by omega), Nat.mod_eq_of_lt (by omega)]
          omega
        have hs : nextKey 0 (nxT m (lastUsed m 287)) (feT m) = some (keyAt m (pass i) ⟨(i 1).val, coord_lt i⟩) := by
          have e1 : (⟨(i 1).val, coord_lt i⟩ : Fin 288) = 0 := Fin.ext h0
          have e2 : pass i = 1 := Fin.ext hp
          unfold nextKey keyAt
          rw [if_neg (Cert.Kernel3Ideal.Down.not_lt_of_ge hz), if_pos rfl, G.first, e1, e2]
        rw [hS]
        exact step_next m c i arg6 harg6 arg7 harg7 arg8 harg8 arg10 harg10 x bg bu G hu 0 _ h2 (by rw [cond3_iff]; omega) hs W K
    · obtain ⟨n, hn⟩ : ∃ n, (i 1).val = n + 1 := ⟨(i 1).val - 1, by omega⟩
      have hpr : prW c i (tbl m 0) = beT m ⟨n, by omega⟩ := (prW_eq i c _ (by omega)).trans (by
        show beT m ⟨(i 1).val - 1, _⟩ = _
        congr 1
        exact Fin.ext (by show (i 1).val - 1 = n; omega))
      have hS : St m c (num i) = carry m c (pass i) ⟨n, by omega⟩ := by
        rw [St_before m c i hn, lastUsed_used m (show n < 288 by omega) (by omega)]
      have hS' : St m c (num i + 1) = carry m c (pass i) ⟨(i 1).val, hi⟩ := by
        rw [St_after, lastUsed_used m hi hu]
      rcases G.next ⟨n, by omega⟩ ⟨(i 1).val, hi⟩ hn hu with ⟨he, hx⟩ | ⟨he, hx⟩
      · have hw : wAt m c (pass i) ⟨(i 1).val, hi⟩ = wAt m c (pass i) ⟨n, by omega⟩ := by funext h; unfold wAt keyAt; rw [he]
        have hc : carry m c (pass i) ⟨(i 1).val, hi⟩ = carry m c (pass i) ⟨n, by omega⟩ := by unfold carry; rw [hw, hx]
        have ho : outAt m c i x bg bu = outOf x (wAt m c (pass i) ⟨n, by omega⟩ 0) (wAt m c (pass i) ⟨n, by omega⟩ 1) bg bu :=
          (if_pos hu).trans (by rw [hw])
        have h2 : ¬ k0_cond2 i (beW c i (tbl m 0)) (prW c i (tbl m 0)) = 1#1 := by
          rw [cond2_iff, hbe, hpr, he]
          rintro (h | h)
          · omega
          · exact h rfl
        rw [hS', hc, hS, ho]
        unfold carry
        iintro ⟨HB, ⟨Hwg, Hwu, Hst⟩, HW, Hk⟩
        iapply (run_same c i arg6 harg6 arg7 harg7 arg8 harg8 arg10 harg10 (tbl m 0) (tbl m 1) (tbl m 2) (tbl m 3) x bg bu
          (by rw [hnu]; exact (cond1_iff i G.nu_le).2 hu) (chk1_of i (hbe ▸ G.be_lt _) _ _) h2 (by rw [hnu, cond5_iff i G.nu_le]; omega)
          (wAt m c (pass i) ⟨n, by omega⟩ 0) (wAt m c (pass i) ⟨n, by omega⟩ 1) W K)
        isplitl [HB]; · iexact HB
        isplitl [Hwg]; · iexact Hwg
        isplitl [Hwu]; · iexact Hwu
        isplitl [HW]; · iexact HW
        iintro ⟨HB, Hwg, Hwu, HW⟩
        iapply Hk
        isplitl [HB]; · iexact HB
        isplitl [Hwg Hwu Hst]
        · isplitl [Hwg]; · iexact Hwg
          isplitl [Hwu]; · iexact Hwu
          iexact Hst
        iexact HW
      · have h2 : k0_cond2 i (beW c i (tbl m 0)) (prW c i (tbl m 0)) = 1#1 := by
          rw [cond2_iff, hbe, hpr]
          exact .inr he
        have hs : nextKey (pass i) (nxT m ⟨n, by omega⟩) (feT m) = some (keyAt m (pass i) ⟨(i 1).val, hi⟩) := by
          rw [hx]; exact if_pos (G.be_lt _)
        rw [hS]
        exact step_next m c i arg6 harg6 arg7 harg7 arg8 harg8 arg10 harg10 x bg bu G hu _ _ h2 (by rw [cond3_iff]; omega) hs W K
  · have ho : outAt m c i x bg bu = k0_pay2 := if_neg hu
    obtain ⟨n, hn⟩ : ∃ n, (i 1).val = n + 1 := ⟨(i 1).val - 1, by omega⟩
    have hS : St m c (num i + 1) = St m c (num i) := by
      rw [St_after, St_before m c i hn, hn]
      congr 1
      apply Fin.ext
      show min (n + 1) ((nuT m).toNat - 1) % 288 = min n ((nuT m).toNat - 1) % 288
      rw [Nat.min_eq_right (by omega), Nat.min_eq_right (by omega)]
    rw [hS, ho]
    iintro ⟨HB, Hst, HW, Hk⟩
    iapply (run_idle c i arg6 harg6 arg7 harg7 arg8 harg8 arg10 harg10 (tbl m 0) (tbl m 1) (tbl m 2) (tbl m 3) x bg bu
      (by rw [hnu, cond1_iff i G.nu_le]; exact hu) (by rw [hnu]; exact (cond5_iff i G.nu_le).2 (by omega)) W K)
    isplitl [HB]; · iexact HB
    isplitl [HW]; · iexact HW
    iintro ⟨HB, HW⟩
    iapply Hk
    isplitl [HB]; · iexact HB
    isplitl [Hst]; · iexact Hst
    iexact HW

end Cert.Kernel4Ideal.Up

end
-- ==== Proof.Up.Run.lean ====
/- The run of expert_up: the proof data of its pipeline, the body's obligation at every point, the launch, and that the
   arguments come back. -/
module

public import proofs.«01_k».proof.Proof.Up.Step
public import Idealize.ShloMosaic.Lib.Claim

@[expose] public section

set_option maxRecDepth 16384

noncomputable section

namespace Cert.Kernel4Ideal.Up

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Point `t` is number `t`. -/
theorem coord_num : ∀ t : Fin grid0.N, (grid0.coords t 0).val * 288 + (grid0.coords t 1).val = t.val := by decide +kernel

/-- The output block is written back at every point. -/
theorem flush3 (a : (pcfg0 (F := F)).Adm) : ∀ t : Fin (cfg0 a).N, ((cfg0 a).win 3).flush t = true :=
  (fun t => (Pipeline.Window.flushOf_reads cc0_transform_4 reads0_3 hreads0_3 1 (by decide) (by decide) (Pipeline.Window.sep_of_coord cc0_transform_4 1 0 (fun _ => rfl) (by decide)) (P := 1) (m := 0) (by decide) rfl t).mpr (Nat.mod_one _) : ∀ t : Fin grid0.N, Pipeline.Window.flushOf grid0 true cc0_transform_4 t = true)

/-- Window `w`'s block at point `t`, of its array at the launch. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The buffers the body is handed at point `t`. -/
abbrev st0 (hO : Ok m) (t : Fin (cfgM m hO).N) := spec0_0.stage ((cfgM m hO).slots t 0)
abbrev st1 (hO : Ok m) (t : Fin (cfgM m hO).N) := spec0_1.stage ((cfgM m hO).slots t 1)
abbrev st2 (hO : Ok m) (t : Fin (cfgM m hO).N) := spec0_2.stage ((cfgM m hO).slots t 2)
abbrev st3 (hO : Ok m) (t : Fin (cfgM m hO).N) := spec0_3.stage ((cfgM m hO).slots t 3)

/-- The body at point `t`, as the pipeline calls it. -/
abbrev bodyAt (hO : Ok m) (t : Fin (cfgM m hO).N) : Prog (TpuEff nD τ sig (Elt F) Λ₀ .tc) PUnit :=
  body (F := F) (grid0.coords t) (st0 m hO t) (hstage0_0 (((cfgM m hO).slots t 0).cast nbuf0_0)) (st1 m hO t)
    (hstage0_1 (((cfgM m hO).slots t 1).cast nbuf0_1)) (st2 m hO t) (hstage0_2 (((cfgM m hO).slots t 2).cast nbuf0_2))
    (st3 m hO t) (hstage0_3 (((cfgM m hO).slots t 3).cast nbuf0_3))

/-- What holds before point `n`: the generator's register, the carried state, the tables. -/
def Inv (c : Dev nD) (n : ℕ) : sProp 𝕄 := iprop((∃ r, prngReg c r) ∗ St m c n ∗ Pipeline.ΦT pre0 (tbl m) c)

/-- The proof data: the arrays as launched, each input's block left in place, the output block as the body leaves it. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m c (grid0.coords t) (iblk m hO c 0 t) (iblk m hO c 1 t) (iblk m hO c 2 t)
  Φ t := Inv m c t.val
  q := Pipeline.shareOf spec0
  owed _ := 0

/-- The arrays in the proof data are the launched ones. -/
theorem A_eq (hO : Ok m) (c : Dev nD) (w : Fin (cfgM m hO).W) : (dats m hO 0 c).A w = V m c (Pipeline.arrRef spec0 w) := by
  dsimp only [dats]
/-- The body leaves the rows' block in place. -/
theorem after0 (hO : Ok m) (c : Dev nD) (t : Fin (cfgM m hO).N) : (dats m hO 0 c).after 0 t = iblk m hO c 0 t := by dsimp only [dats]; try rfl
/-- The body leaves the first bias's block in place. -/
theorem after1 (hO : Ok m) (c : Dev nD) (t : Fin (cfgM m hO).N) : (dats m hO 0 c).after 1 t = iblk m hO c 1 t := by dsimp only [dats]; try rfl
/-- The body leaves the second bias's block in place. -/
theorem after2 (hO : Ok m) (c : Dev nD) (t : Fin (cfgM m hO).N) : (dats m hO 0 c).after 2 t = iblk m hO c 2 t := by dsimp only [dats]; try rfl
/-- The body leaves the output block at `outAt`. -/
theorem after3 (hO : Ok m) (c : Dev nD) (t : Fin (cfgM m hO).N) :
    (dats m hO 0 c).after 3 t = outAt m c (grid0.coords t) (iblk m hO c 0 t) (iblk m hO c 1 t) (iblk m hO c 2 t) := by dsimp only [dats]; try rfl

/-- An input's buffer holds its block at every point, copied there or not. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
/-- The first bias's buffer holds its block at every point. -/
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
/-- The second bias's buffer holds its block at every point. -/
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)

/-- The invariant at a point's start and end. -/
theorem Phi_start (hO : Ok m) (c : Dev nD) (t : Fin (cfgM m hO).N) : (dats m hO 0 c).Φ t.castSucc = Inv m c t.val := by
  dsimp only [dats]; exact Pipeline.Dat.Φ_castSucc (fun n _ => Inv m c n) t
/-- The invariant at a point's end. -/
theorem Phi_end (hO : Ok m) (c : Dev nD) (t : Fin (cfgM m hO).N) : (dats m hO 0 c).Φ t.succ = Inv m c (t.val + 1) := by
  dsimp only [dats]; rfl

/-- What the body is handed at point `t`, and what it gives back. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t))

/-- The body meets its obligation at point `t`. -/
theorem sound_body (G : GoodT m) (c : Dev nD) (t : Fin (cfgM m (ok_of_good m G)).N) :
    bodyPre m (ok_of_good m G) c t ⊢ wp frame (wpE (defs₀ (F := F)) Variants.none (c : Thread nD τ) none) Set.univ (bodyAt m (ok_of_good m G) t)
      (fun _ => bodyPost m (ok_of_good m G) c t) := by
  generalize ok_of_good m G = hO at t ⊢
  unfold bodyPre bodyPost bodyAt
  simp only [before0, before1, before2]
  rw [after0, after1, after2, after3, Phi_start, Phi_end]
  unfold Dat.owesAt Pipeline.owesWithin
  rw [show (dats m hO 0 c).owed t.castSucc = 0 from rfl, show (dats m hO 0 c).owed t.succ = 0 from rfl]
  unfold Inv
  rw [PhiT_eq]
  have hk : num (grid0.coords t) = t.val := coord_num t
  iintro ⟨⟨Hg, Hst, HT⟩, ⟨%W, -, HW⟩, ⟨%d0, H0⟩, ⟨%d1, H1⟩, ⟨%d2, H2⟩, ⟨%d3, H3⟩⟩
  iapply (step m c (grid0.coords t) _ _ _ _ _ _ _ _ (iblk m hO c 0 t) (iblk m hO c 1 t) (iblk m hO c 2 t) G W _)
  isplitl [HT H0 H1 H2 H3]
  · isplitl [HT]; · iexact HT
    isplitl [H0]; · iexact H0
    isplitl [H1]; · iexact H1
    isplitl [H2]; · iexact H2
    iexists _; iexact H3
  isplitl [Hst]; · rw [hk]; iexact Hst
  isplitl [HW]; · iexact HW
  rw [hk]
  iintro ⟨⟨HT, H0, H1, H2, H3⟩, Hst, ⟨%W', HW'⟩⟩
  isplitl [Hg Hst HT]
  · isplitl [Hg]; · iexact Hg
    isplitl [Hst]; · iexact Hst
    iexact HT
  isplitl [HW']
  · iexists W'; isplitr; · ipureintro; exact fun _ _ => Or.inl trivial
    iexact HW'
  isplitl [H0]; · iexact H0
  isplitl [H1]; · iexact H1
  isplitl [H2]; · iexact H2
  iexact H3

/-- The row of the body table at point `t` is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- No point leaves the output block alone. -/
theorem idle3 (G : GoodT m) (hO : Ok m) (t : Fin (cfgM m hO).N) : (cfgM m hO).idle 3 ((cfgM m hO).grid.coords t) = false :=
  not_idle m G (grid0.coords t)

/-- So the block the body leaves is what the window is left with. -/
theorem leaves3 (G : GoodT m) (hO : Ok m) (c : Dev nD) (t : Fin (cfgM m hO).N) :
    owns (c : Thread nD τ) (st3 m hO t) fullShare ((dats m hO 0 c).after 3 t) ⊢ (dats m hO 0 c).leavesExact 3 t := by
  unfold Dat.leavesExact
  rw [idle3 m G hO t]
  exact .rfl

/-- The body's obligation at every point. -/
theorem body_obligation (G : GoodT m) (c : Dev nD) :
    BodyObligation (dats (F := F) m (ok_of_good m G) 0 c) (defs₀ (F := F)) Variants.none () Set.univ := fun t => by
  rw [bigSep_W0, bigSep_W0, defs₀_row m (ok_of_good m G)]
  exact triple_restated (sound_body m G c t) rfl .rfl fun _ =>
    sep_mono .rfl (sep_mono .rfl (sep_mono .rfl (sep_mono .rfl (sep_mono .rfl (leaves3 m G (ok_of_good m G) c t)))))

/-- The two halves of the staging buffer have no element in common, -/
theorem halves_disjoint : Disjoint (stA.view.set) (stB.view.set) := by
  rw [show stA.view.set = (Rect.unit (s := S2x2048x1024) ![0, 0, 0] S1x2048x1024.size inb_S2x2048x1024_S1x2048x1024_0_0_0).set from
      (View.set_reshape _ _).trans (View.set_slice_whole _ _),
    show stB.view.set = (Rect.unit (s := S2x2048x1024) ![1, 0, 0] S1x2048x1024.size inb_S2x2048x1024_S1x2048x1024_1_0_0).set from
      (View.set_reshape _ _).trans (View.set_slice_whole _ _), Finset.disjoint_left]
  intro j hj hj'
  have h0 := (Rect.mem_set_unit.1 hj 0).2
  have h1 := (Rect.mem_set_unit.1 hj' 0).1
  have h0' : (j 0).val < 0 + 1 := h0
  have h1' : 1 ≤ (j 0).val := h1
  omega

/-- and together are all of it. -/
theorem halves_union : stA.view.set ∪ stB.view.set = Finset.univ := by
  rw [show stA.view.set = (Rect.unit (s := S2x2048x1024) ![0, 0, 0] S1x2048x1024.size inb_S2x2048x1024_S1x2048x1024_0_0_0).set from
      (View.set_reshape _ _).trans (View.set_slice_whole _ _),
    show stB.view.set = (Rect.unit (s := S2x2048x1024) ![1, 0, 0] S1x2048x1024.size inb_S2x2048x1024_S1x2048x1024_1_0_0).set from
      (View.set_reshape _ _).trans (View.set_slice_whole _ _)]
  refine Finset.eq_univ_iff_forall.2 fun j => Finset.mem_union.2 ?_
  have h0 : (j 0).val < 2 := (j 0).isLt
  have h1 : (j 1).val < 2048 := (j 1).isLt
  have h2 : (j 2).val < 1024 := (j 2).isLt
  by_cases h : (j 0).val = 0
  · refine .inl (Rect.mem_set_unit.2 fun a => ?_)
    match a with
    | 0 => exact ⟨Nat.zero_le _, by show (j 0).val < 0 + 1; omega⟩
    | 1 => exact ⟨Nat.zero_le _, by show (j 1).val < 0 + 2048; omega⟩
    | 2 => exact ⟨Nat.zero_le _, by show (j 2).val < 0 + 1024; omega⟩
  · refine .inr (Rect.mem_set_unit.2 fun a => ?_)
    match a with
    | 0 => exact ⟨by show 1 ≤ (j 0).val; omega, by show (j 0).val < 1 + 1; omega⟩
    | 1 => exact ⟨Nat.zero_le _, by show (j 1).val < 0 + 2048; omega⟩
    | 2 => exact ⟨Nat.zero_le _, by show (j 2).val < 0 + 1024; omega⟩

/-- So the buffer is its halves, -/
theorem halves_split (c : Dev nD) : (iprop(∃ f, pts c stgM f) : sProp 𝕄) ⊢ iprop((∃ f, hpts c stA f) ∗ (∃ f, hpts c stB f)) := by
  iintro ⟨%f, Hf⟩
  have h : (pts c stgM f : sProp 𝕄) ⊢ iprop(hpts c stA f ∗ hpts c stB f) := by
    show (stgM.view.loc (c : Thread nD τ) ↦[Finset.univ]{fullShare} f : sProp 𝕄) ⊢ _
    rw [← halves_union]
    exact (pointsTo_union halves_disjoint).1
  ihave ⟨HA, HB⟩ := h $$ Hf
  isplitl [HA]
  · iexists f; iexact HA
  iexists f; iexact HB

/-- and the halves are the buffer. -/
theorem halves_join (c : Dev nD) : iprop((∃ f, hpts c stA f) ∗ (∃ f, hpts c stB f)) ⊢ (iprop(∃ f, pts c stgM f) : sProp 𝕄) := by
  iintro ⟨⟨%f, HA⟩, ⟨%g, HB⟩⟩
  have h : iprop(hpts c stA f ∗ hpts c stB g) ⊢ (iprop(∃ f, pts c stgM f) : sProp 𝕄) := by
    refine (pointsTo_join halves_disjoint).trans ?_
    rw [halves_union]
    iintro H
    iexists _; iexact H
  iapply h
  isplitl [HA]; · iexact HA
  iexact HB

/-- The weights' share in two halves, one for each move. -/
theorem weights_share (c : Dev nD) (w : BufOf (F := F) c wM) : (pts c wM w : sProp 𝕄) ⊣⊢ iprop(wL c w ∗ wR c w) :=
  pointsTo_share (PosShare.mem_left_op_right fullShare)

/-- The launch hands over the invariant, -/
theorem inv_start (c : Dev nD) : iprop(Pipeline.ΦD osem spec0 H (V m) c ∗ Pipeline.ΦT pre0 (tbl m) c) ⊢ (Inv m c 0 : sProp 𝕄) := by
  rw [PhiD_eq]
  unfold Inv St
  show _ ⊢ iprop(_ ∗ (_ ∗ _ ∗ atRest c (W0 m c)) ∗ _)
  unfold atRest
  iintro ⟨⟨⟨Hs, Hg, Hu⟩, Hr, ⟨HF, HG⟩, HW⟩, HT⟩
  ihave ⟨HA, HB⟩ := (halves_split c) $$ Hs
  ihave ⟨HL, HR⟩ := (weights_share c (W0 m c)).1 $$ HW
  isplitl [Hr]; · iexact Hr
  isplitl [HA HB Hg Hu HF HG HL HR]
  · isplitl [Hg]; · iexact Hg
    isplitl [Hu]; · iexact Hu
    isplitl [HA]; · iexact HA
    isplitl [HB]; · iexact HB
    isplitl [HF]; · iexact HF
    isplitl [HG]; · iexact HG
    isplitl [HL]; · iexact HL
    iexact HR
  iexact HT

/-- and takes it back at the end: after the last used block of the second pass nothing is under way. -/
theorem inv_end (G : GoodT m) (c : Dev nD) : (Inv m c 576 : sProp 𝕄) ⊢ Pipeline.ΦD osem spec0 H (V m) c := by
  have h1 := G.nu_pos
  have h2 := G.nu_le
  rw [PhiD_eq]
  unfold Inv
  rw [St_of m c (n := 575) 1 (k := 287) (by decide) rfl]
  unfold carry
  have hl : nextKey 1 (nxT m (lastUsed m 287)) (feT m) = none := by
    unfold nextKey
    rw [if_neg, if_neg (by decide)]
    refine Cert.Kernel3Ideal.Down.not_lt_of_ge (G.last _ ?_)
    show min 287 ((nuT m).toNat - 1) % 288 + 1 = _
    rw [Nat.min_eq_right (by omega), Nat.mod_eq_of_lt (by omega)]
    omega
  rw [hl]
  show iprop(_ ∗ (_ ∗ _ ∗ atRest c (W0 m c)) ∗ _) ⊢ _
  unfold atRest
  iintro ⟨Hr, ⟨Hg, Hu, HA, HB, HF, HG, HL, HR⟩, -⟩
  isplitl [HA HB Hg Hu]
  · isplitl [HA HB]
    · iapply (halves_join c)
      isplitl [HA]; · iexact HA
      iexact HB
    isplitl [Hg]; · iexists _; iexact Hg
    iexists _; iexact Hu
  isplitl [Hr]; · iexact Hr
  isplitl [HF HG]
  · isplitl [HF]; · iexact HF
    iexact HG
  iapply (weights_share c (W0 m c)).2
  isplitl [HL]; · iexact HL
  iexact HR

-- the launch theorem's implicit arguments are found by unifying its conclusion with this one, plain definitions unfolded
set_option backward.isDefEq.respectTransparency.types false in
/-- The launch on good tables: the output array as the points leave it, the other arrays as they were, every counter at zero. -/
theorem run (G : GoodT m) : θ_run defs (onTc (τ := τ) (main (F := F))) (s₀ m ρ)
    (fun r => Pipeline.FramePost (Pipeline.pin pcfgs fun _ => adm m (ok_of_good m G)) (dats m (ok_of_good m G)) 0 (V m) r ∧ r.2.sem = fun _ => 0) :=
  Pipeline.θ_run_frameP_dma_shared (Q' := _) pcfgs (fun _ => adm m (ok_of_good m G)) (dats m (ok_of_good m G)) (0 : Fin 1) launch₀0 osem defs₀ Variants.none ownSemFacts H H_sub m ρ main
    (hbody := fun c => (body_obligation m G c).loose) (hq := fun _ _ _ => rfl)
    (howed := fun _ _ => rfl) (V := V m) (hmain := hmain m Variants.none) (hA := A_eq m (ok_of_good m G)) (hpf := V_pre m)
    (hin := inv_start m) (hout := inv_end m G)

/-- From that: the output array as the points leave it, and the arguments as they were. -/
theorem run_blocks (G : GoodT m) : θ_run defs (onTc (τ := τ) (main (F := F))) ⟨m, fun _ => 0, ρ⟩ (fun r => ∀ c : Dev nD,
      r.2.mem ((c.tc : Thread nD τ).loc main_v0) = (dats m (ok_of_good m G) 0 c).arrAt 3 (cfgM m (ok_of_good m G)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 3,
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans (((dats m (ok_of_good m G) 0 c).arrAt_in 0 rfl _).trans (A_eq m _ c 0)),
      ((h.1 c).1 1).trans (((dats m (ok_of_good m G) 0 c).arrAt_in 1 rfl _).trans (A_eq m _ c 1)),
      (h.1 c).2 main_arg6 (by decide : main_arg6 ∈ Pipeline.restRefs sig spec0)⟩) (run m ρ G)

/-- On good tables the call gives its arguments back and every counter at zero. -/
theorem frame_good (G : GoodT m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (run_blocks m ρ G)) ((θ_run defs _ _).mono (fun _ h => h.2) (run m ρ G))

end Cert.Kernel4Ideal.Up

end
-- ==== Proof.Up.Bits.lean ====
/-
  The call expert_up before idealizing. Nothing of it was rewritten, so its text is the idealized call's text and what was
  proved there for every float type holds of it.
-/
module

public import proofs.«01_k».proof.Proof.Up.Run
public import proofs.«01_k».proof.Proof.Gen.Kernel4

@[expose] public section

set_option maxRecDepth 16384

noncomputable section

namespace Cert.Kernel4.Up

open Idealize.ShloMosaic Idealize.ShloMosaic.TcCoe Idealize.SL.Sem

variable {F : FTy → Type} [FloatOps F]

/-- Both programs run the same body. -/
theorem body_eq : Cert.Kernel4.cc0_expert_up (F := F) = Cert.Kernel4Ideal.cc0_expert_up (F := F) := rfl

/-- Both programs have the same host function. -/
theorem main_eq : Cert.Kernel4.main (F := F) = Cert.Kernel4Ideal.main (F := F) := rfl

/-- Both programs give the label of the call the same body. -/
theorem bodies_eq : Cert.Kernel4.defs₀ (F := F) = Cert.Kernel4Ideal.defs₀ (F := F) := by
  unfold Cert.Kernel4.defs₀ Cert.Kernel4Ideal.defs₀
  rw [body_eq]
  refine congrArg Defs.onTc (funext fun l => funext fun x => ?_)
  match l with
  | 0 => rfl

/-- Both programs have the same bodies, the launch's own included. -/
theorem defs_eq : Cert.Kernel4.defs (F := F) = Cert.Kernel4Ideal.defs (F := F) := by
  unfold Cert.Kernel4.defs Cert.Kernel4Ideal.defs
  rw [bodies_eq]
  rfl

end Cert.Kernel4.Up

end
-- ==== Proof.Up.Pre.lean ====
/- What the precondition of expert_up says of the tables. Its first two parts are expert_down's, the third is about first_e. -/
module

public import proofs.«01_k».proof.Proof.Gen.Pre_pass_tables
public import proofs.«01_k».proof.Proof.Down.Pre
public import proofs.«01_k».proof.Proof.Up.Tables

@[expose] public section

set_option maxRecDepth 16384

noncomputable section

namespace Cert.Kernel4Ideal.Up

open Idealize.ShloMosaic Idealize.ShloMosaic.ValueIdx
open Cert.Pre_pass_tables
open Cert.Kernel3Ideal.Down (Good read1)

variable {F : FTy → Type} [FloatOps F]

/-- The precondition holds only of good tables whose last word names the first block's expert. -/
theorem good_of_pre (a0 a1 : IVec S288 32) (a2 a3 : IVec S1 32) (a4 : FVec F S73728x2048 .f32) (a5 : FVec F S32x1x4096 .f32)
    (a6 : FVec F S32x2048x4096 .f32) (h1 : ∀ k, (fn (F := F) a0 a1 a2 a3 a4 a5 a6).1 k = 1#1)
    (h2 : ∀ k, (fn (F := F) a0 a1 a2 a3 a4 a5 a6).2.1 k = 1#1) (h3 : ∀ k, (fn (F := F) a0 a1 a2 a3 a4 a5 a6).2.2 k = 1#1) :
    Good (fun k => a0 (ix1 k)) (fun k => a1 (ix1 k)) (a2 (ix1 0)) ∧ a3 (ix1 0) = a0 (ix1 0) := by
  refine ⟨Cert.Kernel3Ideal.Down.good_of_pre (F := F) a0 a1 a2 a3 (fun _ => Cert.Kernel4Ideal.Gen.k0_pay2 (F := F) (ix2 0 0))
    (fun _ => a4 (ix2 0 0)) (fun _ => a4 (ix2 0 0)) (fun k => h1 k) (fun k => h2 k), ?_⟩
  obtain ⟨j, j', hj, e⟩ : ∃ (j : S1.Idx) (j' : S288.Idx), j' = ix1 0 ∧ IntOp.cmpi .eq (a3 j) (a0 j') = 1#1 :=
    ⟨_, _, by funext x; apply Fin.ext; match x with | 0 => rfl, h3 (ix1 0)⟩
  rw [WordCmp.cmpi_eq_eq, WordCmp.ofBool_decide_eq_one_iff] at e
  rw [read1 a3 (ix1 0) j, e, hj]

end Cert.Kernel4Ideal.Up

end
-- ==== Proof.Up.Spec.lean ====
/-
  What the call expert_up computes, element by element.
-/
module

public import proofs.«01_k».proof.Proof.Down.Spec
public import Idealize.ShloMosaic.Lib.Pointwise

@[expose] public section

noncomputable section

namespace Cert.Spec

open Idealize.ShloMosaic

/-- The unit's limit 7 and its negative, and the factor 1.702 of its gate, as the programs write them in f32. -/
def limit : EReal := Ideal.ofBits FTy.f32 0x40E00000#32
def negLimit : EReal := Ideal.ofBits FTy.f32 0xC0E00000#32
def slope : EReal := Ideal.ofBits FTy.f32 0x3FD9DB23#32

/-- The clamped gated unit of a gate `g` and a value `u`. -/
def gated (g u : EReal) : EReal :=
  (min limit (max negLimit u) + 1) * (min g limit * Ideal.div 1 (1 + Ideal.exp (0 - slope * min g limit)))

/-- Column `n` of row `r` before the unit: the row times the matrix of the expert of its block of 256 rows, and the bias. -/
def lin (be : Fin 288 → BitVec 32) (x : Fin 73728 → Fin 2048 → EReal) (b : Fin 32 → Fin 4096 → EReal) (w : Fin 32 → Fin 2048 → Fin 4096 → EReal)
    (r : Fin 73728) (n : Fin 4096) : EReal :=
  (∑ k, x r k * w (expertOf (be ⟨r.val / 256, by omega⟩)) k n) + b (expertOf (be ⟨r.val / 256, by omega⟩)) n

/-- Element `n` of row `r` of the hidden rows: in a used block the unit of column `n` and column `n` of the second half; zero
    in an unused block. -/
def up (be : Fin 288 → BitVec 32) (nu : BitVec 32) (x : Fin 73728 → Fin 2048 → EReal) (b : Fin 32 → Fin 4096 → EReal)
    (w : Fin 32 → Fin 2048 → Fin 4096 → EReal) (r : Fin 73728) (n : Fin 2048) : EReal :=
  if r.val / 256 < nu.toNat then gated (lin be x b w r ⟨n.val, by omega⟩) (lin be x b w r ⟨2048 + n.val, by omega⟩) else 0

/-- A column before the unit at row `r` of block `t`. -/
theorem lin_block (be : Fin 288 → BitVec 32) (x : Fin 73728 → Fin 2048 → EReal) (b : Fin 32 → Fin 4096 → EReal)
    (w : Fin 32 → Fin 2048 → Fin 4096 → EReal) (t : Fin 288) (r : Fin 256) (R : Fin 73728) (hR : R.val = 256 * t.val + r.val)
    (n N : Fin 4096) (hN : N = n) :
    lin be x b w R N = (∑ k, x ⟨256 * t.val + r.val, by omega⟩ k * w (expertOf (be t)) k n) + b (expertOf (be t)) n := by
  subst hN
  have e : (⟨R.val / 256, by omega⟩ : Fin 288) = t := Fin.ext (by show R.val / 256 = t.val; omega)
  have f : R = ⟨256 * t.val + r.val, by omega⟩ := Fin.ext hR
  unfold lin
  rw [e, ← f]

/-- The element at row `r` of block `t` and column `n` of half `p` of the columns. -/
theorem up_block (be : Fin 288 → BitVec 32) (nu : BitVec 32) (x : Fin 73728 → Fin 2048 → EReal) (b : Fin 32 → Fin 4096 → EReal)
    (w : Fin 32 → Fin 2048 → Fin 4096 → EReal) (t : Fin 288) (p : Fin 2) (r : Fin 256) (n : Fin 1024) (R : Fin 73728) (hR : R.val = 256 * t.val + r.val)
    (N : Fin 2048) (hN : N.val = 1024 * p.val + n.val) :
    up be nu x b w R N = if t.val < nu.toNat then
        gated ((∑ k, x ⟨256 * t.val + r.val, by omega⟩ k * w (expertOf (be t)) k ⟨1024 * p.val + n.val, by omega⟩)
            + b (expertOf (be t)) ⟨1024 * p.val + n.val, by omega⟩)
          ((∑ k, x ⟨256 * t.val + r.val, by omega⟩ k * w (expertOf (be t)) k ⟨1024 * p.val + 2048 + n.val, by omega⟩)
            + b (expertOf (be t)) ⟨1024 * p.val + 2048 + n.val, by omega⟩)
      else 0 := by
  have q : R.val / 256 = t.val := by omega
  unfold up
  rw [q, lin_block be x b w t r R hR ⟨1024 * p.val + n.val, by omega⟩ _ (Fin.ext hN),
    lin_block be x b w t r R hR ⟨1024 * p.val + 2048 + n.val, by omega⟩ _ (Fin.ext (by show 2048 + N.val = 1024 * p.val + 2048 + n.val; omega))]

end Cert.Spec

end
-- ==== Proof.Up.Value.lean ====
/-
  The array the call expert_up leaves: element by element what the specification says.
-/
module

public import proofs.«01_k».proof.Proof.Up.Run
public import proofs.«01_k».proof.Proof.Up.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Up

open Cert.Kernel4Ideal Cert.Kernel4Ideal.Gen
open Cert.Kernel3Ideal.Down (expert expert_val)

/-- The gate's product with its bias, bounded. -/
theorem pay6_at (x : FVec Ideal S256x2048 .f32) (w : FVec Ideal S2048x1024 .bf16) (b : FVec Ideal S1x1x1024 .f32) (r : Fin 256) (n : Fin 1024) :
    k0_pay6 (F := Ideal) x w b (ix2 r n) = min ((∑ k, x (ix2 r k) * w (ix2 k n)) + b (ix3 0 0 n)) Spec.limit := by
  pointwise [k0_pay6, k0_pay5]
  rfl

/-- The other product with its bias, bounded on both sides, and one. -/
theorem pay7_at (x : FVec Ideal S256x2048 .f32) (w : FVec Ideal S2048x1024 .bf16) (b : FVec Ideal S1x1x1024 .f32) (r : Fin 256) (n : Fin 1024) :
    k0_pay7 (F := Ideal) x w b (ix2 r n)
      = min Spec.limit (max Spec.negLimit ((∑ k, x (ix2 r k) * w (ix2 k n)) + b (ix3 0 0 n))) + 1 := by
  pointwise [k0_pay7, k0_pay5]
  rfl

/-- The gate times its slope. -/
theorem pay8_at (x : FVec Ideal S256x2048 .f32) (w : FVec Ideal S2048x1024 .bf16) (b : FVec Ideal S1x1x1024 .f32) (r : Fin 256) (n : Fin 1024) :
    k0_pay8 (F := Ideal) x w b (ix2 r n) = Spec.slope * k0_pay6 (F := Ideal) x w b (ix2 r n) := by
  pointwise [k0_pay8]
  rfl

/-- The unit of what the two products left. -/
theorem pay1_at (g u s : FVec Ideal S256x1024 .f32) (r : Fin 256) (n : Fin 1024) :
    k0_pay1 (F := Ideal) g u s (ix2 r n) = u (ix2 r n) * (g (ix2 r n) * Ideal.div 1 (1 + Ideal.exp (0 - s (ix2 r n)))) := by
  pointwise [k0_pay1]

/-- What a used block stores: the unit of its two products. -/
theorem out_at (x : FVec Ideal S256x2048 .f32) (wg wu : FVec Ideal S2048x1024 .bf16) (bg bu : FVec Ideal S1x1x1024 .f32) (r : Fin 256) (n : Fin 1024) :
    outOf (F := Ideal) x wg wu bg bu (ix2 r n) = Spec.gated ((∑ k, x (ix2 r k) * wg (ix2 k n)) + bg (ix3 0 0 n))
      ((∑ k, x (ix2 r k) * wu (ix2 k n)) + bu (ix3 0 0 n)) := by
  unfold outOf
  rw [pay1_at, pay8_at, pay7_at, pay6_at]
  rfl

/-- What an unused block stores. -/
theorem pay2_at (r : Fin 256) (n : Fin 1024) : k0_pay2 (F := Ideal) (ix2 r n) = 0 := by
  pointwise [k0_pay2]

variable (m : (ℓ : Loc nD τ sig) → Buf (Elt Ideal) ℓ)

/-- The part of an expert's matrix that a pass uses, cast, at an element. -/
theorem weight_at (c : Dev nD) (e : Fin 32) (p h : Fin 2) (k : Fin 2048) (n : Fin 1024) (N : Fin 4096) (hN : N.val = 1024 * p.val + 2048 * h.val + n.val) :
    (castB (wOf c (W0 m c) (e, p) h) (ix2 k n) : EReal) = m ((c.tc : Thread nD τ).loc main_arg6) (ix3 e k N) := by
  refine Eq.trans (b := wOf c (W0 m c) (e, p) h (ix2 k n)) (by pointwise [castB]) ?_
  have hn : S2048x1024.numel = S1x2048x1024.numel := by decide
  have q : Shape.reshapeEquiv hn (ix2 k n) = (ix3 (0 : Fin 1) k n : S1x2048x1024.Idx) :=
    Shape.reshapeEquiv_eq_of_rowMajor hn (by
      rw [Shape.rowMajor_val_three, Shape.rowMajor_val_two]
      show ((0 : ℕ) * 2048 + k.val) * 1024 + n.val = k.val * 1024 + n.val
      omega)
  show W0 m c ((Rect.unit (s := S32x2048x4096) (offOf (e, p) h) S1x2048x1024.size (wsl_inb (e, p) h)).idx (Shape.reshapeEquiv hn (ix2 k n))) = _
  rw [q]
  refine congrArg (W0 m c) (funext fun (a : Fin 3) => ?_)
  match a with
  | 0 => exact Fin.ext (by show e.val + 1 * 0 = e.val; omega)
  | 1 => exact Fin.ext (by show 0 + 1 * k.val = k.val; omega)
  | 2 => exact Fin.ext (by show 1024 * p.val + 2048 * h.val + 1 * n.val = N.val; omega)

/-- The grid has 576 points. -/
theorem points : grid0.N = 576 := by decide

/-- The block and the pass of a point. -/
abbrev blkOf (hO : Ok m) (t : Fin (cfgM m hO).N) : Fin 288 := ⟨(grid0.coords t 1).val, coord_lt (grid0.coords t)⟩
abbrev passOf (hO : Ok m) (t : Fin (cfgM m hO).N) : Fin 2 := pass (grid0.coords t)

/-- The tokens held at point `t`. -/
theorem index0 (G : GoodT m) (t : Fin (cfgM m (ok_of_good m G)).N) :
    ((cfgM m (ok_of_good m G)).win 0).index t = ![min (blkOf m _ t).val ((nuT m).toNat - 1), 0] := map0_eq m G (grid0.coords t)

/-- The biases held at point `t`. -/
theorem index1 (hO : Ok m) (t : Fin (cfgM m hO).N) :
    ((cfgM m hO).win 1).index t = ![(beT m (blkOf m hO t)).toNat, 0, (passOf m hO t).val] := map1_eq m (grid0.coords t)
/-- The second bias's block held at point `t`. -/
theorem index2 (hO : Ok m) (t : Fin (cfgM m hO).N) :
    ((cfgM m hO).win 2).index t = ![(beT m (blkOf m hO t)).toNat, 0, 2 + (passOf m hO t).val] := map2_eq m (grid0.coords t)

/-- The block written at point `t`. -/
theorem index3 (hO : Ok m) (t : Fin (cfgM m hO).N) : ((cfgM m hO).win 3).index t = ![(blkOf m hO t).val, (passOf m hO t).val] := by
  show cc0_transform_4 (grid0.coords t) = ![(grid0.coords t 1).val, (grid0.coords t 0).val]
  have h1 := coord_lt (grid0.coords t)
  have h0 := pass_cases (grid0.coords t)
  unfold cc0_transform_4
  dsimp only
  rw [BitVec.toNat_ofNat, BitVec.toNat_ofNat, Nat.mod_eq_of_lt (by omega), Nat.mod_eq_of_lt (by omega)]

/-- The blocks written cover the array. -/
theorem covers (hO : Ok m) : ((cfgM m hO).win 3).Covers := by
  refine ⟨(by decide : ∀ a : Fin 2, 0 < (![256, 1024] : Fin 2 → ℕ) a), fun (β : (a : Fin 2) → Fin (((cfgM m hO).win 3).nblk a)) => ?_⟩
  have hβ : (β 0).val < 288 := lt_of_lt_of_eq (β 0).isLt (by decide : (73728 + 256 - 1) / 256 = 288)
  have hβ' : (β 1).val < 2 := lt_of_lt_of_eq (β 1).isLt (by decide : (2048 + 1024 - 1) / 1024 = 2)
  have hN : (β 1).val * 288 + (β 0).val < grid0.N := by rw [points]; omega
  have hc := coord_num ⟨(β 1).val * 288 + (β 0).val, hN⟩
  have h1 := coord_lt (grid0.coords ⟨(β 1).val * 288 + (β 0).val, hN⟩)
  have h0 := pass_cases (grid0.coords ⟨(β 1).val * 288 + (β 0).val, hN⟩)
  dsimp only at hc
  refine ⟨⟨(β 1).val * 288 + (β 0).val, hN⟩, flush3 _ _, fun (a : Fin 2) => ⟨?_, .inl rfl⟩⟩
  rw [index3]
  match a with
  | 0 =>
    show (grid0.coords ⟨(β 1).val * 288 + (β 0).val, hN⟩ 1).val = (β 0).val
    omega
  | 1 =>
    show (grid0.coords ⟨(β 1).val * 288 + (β 0).val, hN⟩ 0).val = (β 1).val
    omega

/-- The tokens held at the point of a used block. -/
theorem tokens_at (G : GoodT m) (c : Dev nD) (t : Fin (cfgM m (ok_of_good m G)).N) (hu : (blkOf m _ t).val < (nuT m).toNat) (r : Fin 256) (k : Fin 2048) :
    (iblk m (ok_of_good m G) c 0 t (ix2 r k) : EReal)
      = m ((c.tc : Thread nD τ).loc main_arg4) (ix2 ⟨256 * (blkOf m _ t).val + r.val, by have := (blkOf m _ t).isLt; omega⟩ k) := by
  have e0 : ((cfgM m (ok_of_good m G)).win 0).index t = ![(blkOf m _ t).val, 0] := by rw [index0 m G, Nat.min_eq_left (by omega)]
  blk_ext [iblk, V, e0]

/-- The gate's bias held at a point, -/
theorem gate_bias_at (G : GoodT m) (c : Dev nD) (t : Fin (cfgM m (ok_of_good m G)).N) (n : Fin 1024) :
    (iblk m (ok_of_good m G) c 1 t (ix3 0 0 n) : EReal)
      = m ((c.tc : Thread nD τ).loc main_arg5) (ix3 (expert (beT m (blkOf m _ t))) 0 ⟨1024 * (passOf m _ t).val + n.val, by omega⟩) := by
  have e0 : ((cfgM m (ok_of_good m G)).win 1).index t = ![(expert (beT m (blkOf m _ t))).val, 0, (passOf m _ t).val] := by
    rw [index1, expert_val (G.be_lt _)]
  blk_ext [iblk, V, e0]

/-- and the other half's. -/
theorem up_bias_at (G : GoodT m) (c : Dev nD) (t : Fin (cfgM m (ok_of_good m G)).N) (n : Fin 1024) :
    (iblk m (ok_of_good m G) c 2 t (ix3 0 0 n) : EReal)
      = m ((c.tc : Thread nD τ).loc main_arg5) (ix3 (expert (beT m (blkOf m _ t))) 0 ⟨1024 * (passOf m _ t).val + 2048 + n.val, by omega⟩) := by
  have e0 : ((cfgM m (ok_of_good m G)).win 2).index t = ![(expert (beT m (blkOf m _ t))).val, 0, 2 + (passOf m _ t).val] := by
    rw [index2, expert_val (G.be_lt _)]
  blk_ext [iblk, V, e0]

/-- The tokens, the biases and the matrices, as numbers. -/
def tokens (c : Dev nD) (r : Fin 73728) (k : Fin 2048) : EReal := (m ((c.tc : Thread nD τ).loc main_arg4) : FVec Ideal S73728x2048 .f32) (ix2 r k)
def bias (c : Dev nD) (e : Fin 32) (n : Fin 4096) : EReal := (m ((c.tc : Thread nD τ).loc main_arg5) : FVec Ideal S32x1x4096 .f32) (ix3 e 0 n)
def weight (c : Dev nD) (e : Fin 32) (k : Fin 2048) (n : Fin 4096) : EReal := (m ((c.tc : Thread nD τ).loc main_arg6) : FVec Ideal S32x2048x4096 .f32) (ix3 e k n)

/-- What point `t` leaves at an element of its block. -/
theorem stored (G : GoodT m) (c : Dev nD) (t : Fin (cfgM m (ok_of_good m G)).N) (r : Fin 256) (n : Fin 1024) :
    outAt m c (grid0.coords t) (iblk m (ok_of_good m G) c 0 t) (iblk m (ok_of_good m G) c 1 t) (iblk m (ok_of_good m G) c 2 t) (ix2 r n)
      = if (blkOf m _ t).val < (nuT m).toNat then
          Spec.gated ((∑ k, tokens m c ⟨256 * (blkOf m _ t).val + r.val, by have := (blkOf m _ t).isLt; omega⟩ k
                * weight m c (Spec.expertOf (beT m (blkOf m _ t))) k ⟨1024 * (passOf m _ t).val + n.val, by omega⟩)
              + bias m c (Spec.expertOf (beT m (blkOf m _ t))) ⟨1024 * (passOf m _ t).val + n.val, by omega⟩)
            ((∑ k, tokens m c ⟨256 * (blkOf m _ t).val + r.val, by have := (blkOf m _ t).isLt; omega⟩ k
                * weight m c (Spec.expertOf (beT m (blkOf m _ t))) k ⟨1024 * (passOf m _ t).val + 2048 + n.val, by omega⟩)
              + bias m c (Spec.expertOf (beT m (blkOf m _ t))) ⟨1024 * (passOf m _ t).val + 2048 + n.val, by omega⟩)
        else (0 : EReal) := by
  unfold outAt
  by_cases hu : (blkOf m (ok_of_good m G) t).val < (nuT m).toNat
  · rw [if_pos hu, if_pos hu]
    refine (out_at _ _ _ _ _ r n).trans (congrArg₂ Spec.gated
      (congrArg₂ (· + ·) (Finset.sum_congr rfl fun k _ => congrArg₂ (· * ·) ?_ ?_) ?_)
      (congrArg₂ (· + ·) (Finset.sum_congr rfl fun k _ => congrArg₂ (· * ·) ?_ ?_) ?_))
    · exact tokens_at m G c t hu r k
    · exact weight_at m c _ _ 0 k n _ (by show 1024 * (pass (grid0.coords t)).val + n.val = 1024 * (pass (grid0.coords t)).val + 2048 * 0 + n.val; omega)
    · exact gate_bias_at m G c t n
    · exact tokens_at m G c t hu r k
    · exact weight_at m c _ _ 1 k n _ rfl
    · exact up_bias_at m G c t n
  · rw [if_neg hu, if_neg hu]
    exact pay2_at r n

/-- The array after the run. -/
theorem array (G : GoodT m) (c : Dev nD) : (dats m (ok_of_good m G) 0 c).arrAt 3 (cfgM m (ok_of_good m G)).N = fun i : S73728x2048.Idx =>
    Spec.up (beT m) (nuT m) (tokens m c) (bias m c) (weight m c) (i 0) (i 1) := by
  refine (dats m (ok_of_good m G) 0 c).arrAt_eq_of_covers 3 _ (covers m _) (fun t hf (y : S256x1024.Idx) => ?_) (Memref.isWhole_whole _)
  idx_vars y
  have h0 : ((((cfgM m (ok_of_good m G)).win 3).blk t).view.emb (ix2 y0 y1) (0 : Fin 2) : ℕ) = 256 * (blkOf m _ t).val + y0 := by blk_simp [index3 m _ t]; omega
  have h1 : ((((cfgM m (ok_of_good m G)).win 3).blk t).view.emb (ix2 y0 y1) (1 : Fin 2) : ℕ) = 1024 * (passOf m _ t).val + y1 := by blk_simp [index3 m _ t]; omega
  refine (congrFun (after3 m _ c t) (ix2 y0 y1)).trans ((stored m G c t y0 y1).trans ?_)
  exact (Spec.up_block _ _ _ _ _ (blkOf m _ t) (passOf m _ t) y0 y1 _ h0 _ h1).symm

end Cert.Kernel4Ideal.Up

end
-- ==== Proof.RefValue4.lean ====
/-
  The reference of the call expert_up, read at an index.
-/
module

public import proofs.«01_k».proof.Proof.Up.Spec
public import proofs.«01_k».proof.Proof.RefValue3
public import proofs.«01_k».proof.Proof.Gen.Reference4Ideal.Run
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference4Ideal.Value

open Cert.Reference4Ideal Cert.Reference4Ideal.Gen
open Cert.Reference3Ideal.Value (EXPERT USED USED_at index_eq bank_at)

/-- The products of the blocks with their experts' matrices, with the biases. -/
def GU (x : FVec Ideal S73728x2048 .f32) (w : FVec Ideal S288x2048x4096 .f32) (b : FVec Ideal S288x1x4096 .f32) : FVec Ideal S288x256x4096 .f32 :=
  addf (Host.dotGeneral dot_S288x256x2048_S288x2048x4096_S288x256x4096_2_1_1_2_0_0 none (shapeCast _ x shapeCasts_S73728x2048_S288x256x2048) w) (broadcastInDim S288x256x4096 ![0, 1, 2] bcast_S288x1x4096_S288x256x4096_0_1_2 b)

/-- The first half of the columns, bounded. -/
def GATE (gu : FVec Ideal S288x256x4096 .f32) : FVec Ideal S288x256x2048 .f32 :=
  minimumf (extractStridedSlice S288x256x2048 ![0, 0, 0] gu slices_S288x256x4096_S288x256x2048_0_0_0) (broadcastInDim S288x256x2048 ![] bcast_S_S288x256x2048 (constant S_ .f32 0x40E00000#32))

/-- The second half, bounded on both sides, and one. -/
def LIN (gu : FVec Ideal S288x256x4096 .f32) : FVec Ideal S288x256x2048 .f32 :=
  addf (minimumf (broadcastInDim S288x256x2048 ![] bcast_S_S288x256x2048 (id (constant S_ .f32 0x40E00000#32))) (maximumf (broadcastInDim S288x256x2048 ![] bcast_S_S288x256x2048 (id (constant S_ .f32 0xC0E00000#32))) (extractStridedSlice S288x256x2048 ![0, 0, 2048] gu slices_S288x256x4096_S288x256x2048_0_0_2048))) (broadcastInDim S288x256x2048 ![] bcast_S_S288x256x2048 (constant S_ .f32 0x3F800000#32))

/-- The unit on the used blocks, zero elsewhere. -/
def UNIT (u : Vec Ideal S288 .i1) (g l : FVec Ideal S288x256x2048 .f32) : FVec Ideal S73728x2048 .bf16 :=
  truncf .bf16 (shapeCast _ (select (broadcastInDim S288x256x2048 ![0, 1, 2] bcast_S288x1x1_S288x256x2048_0_1_2 (broadcastInDim S288x1x1 ![0] bcast_S288_S288x1x1_0 u)) (mulf l (mulf g (Host.divf (broadcastInDim S288x256x2048 ![] bcast_S_S288x256x2048 (constant S_ .f32 0x3F800000#32)) (addf (broadcastInDim S288x256x2048 ![] bcast_S_S288x256x2048 (constant S_ .f32 0x3F800000#32)) (Host.exp (Host.negf (mulf (broadcastInDim S288x256x2048 ![] bcast_S_S288x256x2048 (constant S_ .f32 0x3FD9DB23#32)) g))))))) (broadcastInDim S288x256x2048 ![] bcast_S_S288x256x2048 (id (constant S_ .f32 0x00000000#32)))) shapeCasts_S288x256x2048_S73728x2048) bitsLt_bf16_f32

/-- The products at an element. -/
theorem GU_at (x : FVec Ideal S73728x2048 .f32) (w : FVec Ideal S288x2048x4096 .f32) (b : FVec Ideal S288x1x4096 .f32) (p : Fin 288) (r : Fin 256) (n : Fin 4096)
    (R : Fin 73728) (hR : R.val = p.val * 256 + r.val) :
    GU x w b (ix3 p r n) = (∑ k, x (ix2 R k) * w (ix3 p k n)) + b (ix3 p 0 n) := by
  have e : R = ⟨p.val * 256 + r.val, by omega⟩ := Fin.ext hR
  rw [e]
  pointwise [GU]

/-- The bounded gate at an element. -/
theorem GATE_at (gu : FVec Ideal S288x256x4096 .f32) (p : Fin 288) (r : Fin 256) (n : Fin 2048) :
    GATE gu (ix3 p r n) = min (gu (ix3 p r ⟨n.val, by omega⟩)) Spec.limit := by
  pointwise [GATE]
  rfl

/-- The bounded linear half at an element, and one. -/
theorem LIN_at (gu : FVec Ideal S288x256x4096 .f32) (p : Fin 288) (r : Fin 256) (n : Fin 2048) :
    LIN gu (ix3 p r n) = min Spec.limit (max Spec.negLimit (gu (ix3 p r ⟨2048 + n.val, by omega⟩))) + 1 := by
  pointwise [LIN]
  rfl

/-- The unit at an element: the block of row `r` is `r / 256`. -/
theorem UNIT_at (u : Vec Ideal S288 .i1) (g l : FVec Ideal S288x256x2048 .f32) (r : Fin 73728) (n : Fin 2048) :
    UNIT u g l (ix2 r n) = if u (ix1 ⟨r.val / 256, by omega⟩) = 1#1 then
        l (ix3 ⟨r.val / 256, by omega⟩ ⟨r.val % 256, by omega⟩ n) * (g (ix3 ⟨r.val / 256, by omega⟩ ⟨r.val % 256, by omega⟩ n)
          * Ideal.div 1 (1 + Ideal.exp (0 - Spec.slope * g (ix3 ⟨r.val / 256, by omega⟩ ⟨r.val % 256, by omega⟩ n)))) else 0 := by
  have hz : (id (constant (F := Ideal) S_ .f32 0x00000000#32) ix0 : EReal) = 0 := by
    show constant (F := Ideal) S_ .f32 0x00000000#32 ix0 = 0
    pointwise
  pointwise [UNIT]
  refine (congrArg (Scalar.select _ _) hz).trans ?_
  rw [zero_sub]
  rfl

/-- The reference's result at an element, on tables that name experts. -/
theorem UP_at (be : IVec S288 32) (nu : IVec S1 32) (x : FVec Ideal S73728x2048 .f32) (b : FVec Ideal S32x1x4096 .f32) (w : FVec Ideal S32x2048x4096 .f32)
    (hb : ∀ p : Fin 288, (be (ix1 p)).toNat < 32) (hn : (nu (ix1 0)).toNat ≤ 288) (r : Fin 73728) (n : Fin 2048) (gu : FVec Ideal S288x256x4096 .f32)
    (hgu : gu = GU x (Host.gather gather_S32x2048x4096_S288x1_S288x2048x4096_12_0_n_n_0_1_120484096 w (EXPERT be))
        (Host.gather gather_S32x1x4096_S288x1_S288x1x4096_12_0_n_n_0_1_114096 b (EXPERT be))) :
    UNIT (USED nu) (GATE gu) (LIN gu) (ix2 r n)
      = Spec.up (fun p => be (ix1 p)) (nu (ix1 0)) (fun r k => x (ix2 r k)) (fun e n => b (ix3 e 0 n)) (fun e k n => w (ix3 e k n)) r n := by
  subst hgu
  have hr : r.val / 256 < 288 := by omega
  have hw : ∀ k N, Host.gather gather_S32x2048x4096_S288x1_S288x2048x4096_12_0_n_n_0_1_120484096 w (EXPERT be) (ix3 ⟨r.val / 256, hr⟩ k N)
      = w (ix3 (Spec.expertOf (be (ix1 ⟨r.val / 256, hr⟩))) k N) := fun k N =>
    (bank_at (by decide) _ w (EXPERT be) ⟨r.val / 256, hr⟩ k N).trans (congrArg (fun e => w (ix3 e k N)) (Fin.ext (index_eq be _ (hb _))))
  have hg : ∀ N, Host.gather gather_S32x1x4096_S288x1_S288x1x4096_12_0_n_n_0_1_114096 b (EXPERT be) (ix3 ⟨r.val / 256, hr⟩ 0 N)
      = b (ix3 (Spec.expertOf (be (ix1 ⟨r.val / 256, hr⟩))) 0 N) := fun N =>
    (bank_at (by decide) _ b (EXPERT be) ⟨r.val / 256, hr⟩ 0 N).trans (congrArg (fun e => b (ix3 e 0 N)) (Fin.ext (index_eq be _ (hb _))))
  have hl : ∀ N, GU x (Host.gather gather_S32x2048x4096_S288x1_S288x2048x4096_12_0_n_n_0_1_120484096 w (EXPERT be))
        (Host.gather gather_S32x1x4096_S288x1_S288x1x4096_12_0_n_n_0_1_114096 b (EXPERT be)) (ix3 ⟨r.val / 256, hr⟩ ⟨r.val % 256, by omega⟩ N)
      = Spec.lin (fun p => be (ix1 p)) (fun r k => x (ix2 r k)) (fun e n => b (ix3 e 0 n)) (fun e k n => w (ix3 e k n)) r N := fun N => by
    rw [GU_at _ _ _ _ _ _ r (by dsimp only; omega), hg, Finset.sum_congr rfl fun k _ => congrArg (x (ix2 r k) * ·) (hw k N)]
    rfl
  rw [UNIT_at, GATE_at, LIN_at, hl, hl]
  unfold Spec.up
  refine if_congr ?_ rfl rfl
  rw [USED_at, WordCmp.cmpi_slt_eq, WordCmp.ofBool_decide_eq_one_iff, WordCmp.toInt_eq_toNat_of_lt_half (x := nu (ix1 0)) (by omega), WordCmp.toInt_ofNat_of_lt (by dsimp only; omega)]
  exact Int.ofNat_lt

end Cert.Reference4Ideal.Value

end
-- ==== Proof.lean ====
/-
  The proof of `Cert.Claim`: the frames are the generated ones, the rewritings are empty, and each equation of idealized
  programs sets the kernel's output beside the reference's result. For the mixing and attention call (Proof/Array.lean,
  Proof/RefValue.lean) both are `Spec.cell` of the arguments; for the input projection (Proof/Project.lean,
  Proof/RefValue2.lean) both are `Spec.project` of a row and a column; for the experts' down-projection (Proof/Down/Value.lean,
  Proof/RefValue3.lean) both are `Spec.down`; for the experts' up-projection (Proof/Up/Value.lean, Proof/RefValue4.lean) both are
  `Spec.up`. The frames of the two expert calls are Proof/Down/Run.lean's and Proof/Up/Run.lean's, of good tables.
-/
module

public import proofs.«01_k».proof.Defs
public import proofs.«01_k».proof.Proof.Array
public import proofs.«01_k».proof.Proof.RefValue
public import proofs.«01_k».proof.Proof.Project
public import proofs.«01_k».proof.Proof.RefValue2
public import proofs.«01_k».proof.Proof.Down.Bits
public import proofs.«01_k».proof.Proof.Down.Pre
public import proofs.«01_k».proof.Proof.Down.Value
public import proofs.«01_k».proof.Proof.RefValue3
public import proofs.«01_k».proof.Proof.Up.Bits
public import proofs.«01_k».proof.Proof.Up.Pre
public import proofs.«01_k».proof.Proof.Up.Value
public import proofs.«01_k».proof.Proof.RefValue4
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.On_read_columns
public import proofs.«01_k».proof.Proof.Gen.Kernel3
public import proofs.«01_k».proof.Proof.Gen.Kernel3.Skeleton
public import proofs.«01_k».proof.Proof.Gen.Kernel3.Launch
public import proofs.«01_k».proof.Proof.Gen.Kernel3.Loops
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Loops
public import proofs.«01_k».proof.Proof.Gen.Reference3Ideal
public import proofs.«01_k».proof.Proof.Gen.Reference3Ideal.Run
public import proofs.«01_k».proof.Proof.Gen.Pre_expert_tables
public import proofs.«01_k».proof.Proof.Gen.Kernel4
public import proofs.«01_k».proof.Proof.Gen.Kernel4.Skeleton
public import proofs.«01_k».proof.Proof.Gen.Kernel4.Launch
public import proofs.«01_k».proof.Proof.Gen.Kernel4.Loops
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Loops
public import proofs.«01_k».proof.Proof.Gen.Reference4Ideal
public import proofs.«01_k».proof.Proof.Gen.Reference4Ideal.Run
public import proofs.«01_k».proof.Proof.Gen.Pre_pass_tables
public import Idealize.ShloMosaic.Adequacy
public import Idealize.ShloMosaic.Init

@[expose] public section

noncomputable section

namespace Cert.Proof

open Idealize.ShloMosaic Idealize.SL.Sem Cert.Kernel

/-- The idealized call and the idealized reference, run on the same arguments, leave the same array. -/
theorem algebraic : Cert.algebraic_KernelIdeal_ReferenceIdeal := by
  intro m g m' g' _ hag
  refine ⟨fun c => fun i => Cert.KernelIdeal.Value.result m c (i 0) (i 1), ?_, ?_⟩
  · exact (θ_run _ _ _).mono (fun _ h c => ⟨(h c).1.trans (Cert.KernelIdeal.Value.array m c), (h c).2⟩) (Cert.KernelIdeal.Value.run_blocks m g)
  · refine (θ_run _ _ _).mono (fun _ h c => ⟨(h c).1.trans ?_, (h c).2⟩) (Cert.ReferenceIdeal.Value.run m' g')
    obtain ⟨h0, h1, h2, h3, h4, h5, h6, h7, h8, h9, h10⟩ := hag c
    rw [Cert.ReferenceIdeal.Value.res_eq]
    dsimp only
    rw [h0, h1, h2, h3, h4, h5, h6, h7, h8, h9, h10]
    funext i
    idx_vars i
    exact Cert.ReferenceIdeal.Value.RES_at _ _ _ _ _ _ _ _ _ _ _ _ _

/-- The reference, run on the host, gives its arguments back. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The idealized input projection and its idealized reference, run on the same arguments, leave the same elements in the
    columns that the mask keeps. -/
theorem algebraic_projection : Cert.algebraic_Kernel2Ideal_Reference2Ideal_on_read_columns := by
  intro m g m' g' _ hag
  refine ⟨_, _, (θ_run _ _ _).mono (fun _ h c => ⟨fun i _ => congrFun ((h c).1.trans (Cert.Kernel2Ideal.Value.array3 m c)) i,
    fun i _ => congrFun ((h c).2.1.trans (Cert.Kernel2Ideal.Value.array4 m c)) i, (h c).2.2⟩) (Cert.Kernel2Ideal.Value.run_blocks m g),
    (θ_run _ _ _).mono (fun _ h c => ⟨fun i hi => (congrFun (h c).1 i).trans ?_, fun i hi => (congrFun (h c).2.1 i).trans ?_, (h c).2.2⟩)
      (Cert.Reference2Ideal.Value.run m' g')⟩
  all_goals
    obtain ⟨h0, h1, h2⟩ := hag c
    rw [h0, h1, h2]
    idx_vars i
  · have hb := Cert.Reference2Ideal.Value.mask_first _ _ _ i0 i1 hi
    refine (Cert.Reference2Ideal.Value.FIRST_at (Cert.Reference2Ideal.Value.PROD (Cert.Reference2Ideal.Value.NORM _ _) _) i0 i1 hb).trans ?_
    exact (Cert.Reference2Ideal.Value.product_at _ _ _ i0 _).trans
      (Cert.Kernel2Ideal.Value.product_congr m c rfl (if_pos hb).symm)
  · have hb := Cert.Reference2Ideal.Value.mask_second _ _ _ i0 i1 hi
    refine (Cert.Reference2Ideal.Value.SECOND_at (Cert.Reference2Ideal.Value.PROD (Cert.Reference2Ideal.Value.NORM _ _) _) i0 i1 hb).trans ?_
    exact (Cert.Reference2Ideal.Value.product_at _ _ _ i0 _).trans
      (Cert.Kernel2Ideal.Value.product_congr m c rfl ((Nat.add_comm _ _).trans (if_pos hb).symm))

/-- The input projection's reference, run on the host, gives its arguments back. -/
theorem frame_reference_projection : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- The precondition says that the idealized down-projection's tables are good. -/
theorem good_ideal (m : (ℓ : Loc Cert.Kernel3Ideal.nD Cert.Kernel3Ideal.τ Cert.Kernel3Ideal.sig) → Buf (Elt Ideal) ℓ) (h : Cert.Pre_Kernel3Ideal m) :
    Cert.Kernel3Ideal.Down.GoodT m :=
  Cert.Kernel3Ideal.Down.good_of_pre (F := Ideal) _ _ _ _ _ _ _ (fun k => congrFun (h 0).1 k) (fun k => congrFun (h 0).2 k)

/-- The down-projection gives its arguments back. -/
theorem frame_down : Cert.quiescent_Kernel3 := by
  intro m g h
  rw [Cert.Kernel3.Down.defs_eq, Cert.Kernel3.Down.main_eq]
  exact Cert.Kernel3Ideal.Down.frame_good (F := Bits) m g
    (Cert.Kernel3Ideal.Down.good_of_pre (F := Bits) _ _ _ _ _ _ _ (fun k => congrFun (h 0).1 k) (fun k => congrFun (h 0).2 k))

/-- The idealized down-projection gives its arguments back. -/
theorem frame_down_ideal : Cert.quiescent_Kernel3Ideal := fun m g h => Cert.Kernel3Ideal.Down.frame_good (F := Ideal) m g (good_ideal m h)

/-- The down-projection's reference, run on the host, gives its arguments back. -/
theorem frame_reference_down : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The idealized down-projection and its idealized reference, run on the same arguments, leave the same array. -/
theorem algebraic_down : Cert.algebraic_Kernel3Ideal_Reference3Ideal := by
  intro m g m' g' h hag
  have G := good_ideal m h
  refine ⟨_, (θ_run _ _ _).mono (fun _ h c => ⟨(h c).1.trans (Cert.Kernel3Ideal.Down.array m G c), (h c).2⟩) (Cert.Kernel3Ideal.Down.run_blocks m g G), ?_⟩
  refine (θ_run _ _ _).mono (fun _ h c => ⟨(h c).1.trans ?_, (h c).2⟩) (Cert.Reference3Ideal.Value.run m' g')
  obtain ⟨h0, h1, h2, h3, h4, h5, h6⟩ := hag c
  rw [h0, h2, h4, h5, h6]
  obtain rfl : c = 0 := Subsingleton.elim _ _
  funext i
  idx_vars i
  exact Cert.Reference3Ideal.Value.DOWN_at _ _ _ _ _ G.be_lt G.nu_le i0 i1

/-- The precondition says that the idealized up-projection's tables are good. -/
theorem good_up_ideal (m : (ℓ : Loc Cert.Kernel4Ideal.nD Cert.Kernel4Ideal.τ Cert.Kernel4Ideal.sig) → Buf (Elt Ideal) ℓ) (h : Cert.Pre_Kernel4Ideal m) :
    Cert.Kernel4Ideal.Up.GoodT m :=
  have g := Cert.Kernel4Ideal.Up.good_of_pre (F := Ideal) _ _ _ _ _ _ _ (fun k => congrFun (h 0).1 k) (fun k => congrFun (h 0).2.1 k) (fun k => congrFun (h 0).2.2 k)
  ⟨g.1, g.2⟩

/-- The up-projection gives its arguments back. -/
theorem frame_up : Cert.quiescent_Kernel4 := by
  intro m g h
  rw [Cert.Kernel4.Up.defs_eq, Cert.Kernel4.Up.main_eq]
  have t := Cert.Kernel4Ideal.Up.good_of_pre (F := Bits) _ _ _ _ _ _ _ (fun k => congrFun (h 0).1 k) (fun k => congrFun (h 0).2.1 k) (fun k => congrFun (h 0).2.2 k)
  exact Cert.Kernel4Ideal.Up.frame_good (F := Bits) m g ⟨t.1, t.2⟩

/-- The idealized up-projection gives its arguments back. -/
theorem frame_up_ideal : Cert.quiescent_Kernel4Ideal := fun m g h => Cert.Kernel4Ideal.Up.frame_good (F := Ideal) m g (good_up_ideal m h)

/-- The up-projection's reference, run on the host, gives its arguments back. -/
theorem frame_reference_up : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The idealized up-projection and its idealized reference, run on the same arguments, leave the same array. -/
theorem algebraic_up : Cert.algebraic_Kernel4Ideal_Reference4Ideal := by
  intro m g m' g' h hag
  have G := good_up_ideal m h
  refine ⟨_, (θ_run _ _ _).mono (fun _ h c => ⟨(h c).1.trans (Cert.Kernel4Ideal.Up.array m G c), (h c).2⟩) (Cert.Kernel4Ideal.Up.run_blocks m g G), ?_⟩
  refine (θ_run _ _ _).mono (fun _ h c => ⟨(h c).1.trans ?_, (h c).2⟩) (Cert.Reference4Ideal.Value.run m' g')
  obtain ⟨h0, h1, h2, h3, h4, h5, h6⟩ := hag c
  unfold Cert.Reference4Ideal.Value.res_main_v41
  rw [h0, h2, h4, h5, h6]
  obtain rfl : c = 0 := Subsingleton.elim _ _
  funext i
  idx_vars i
  exact Cert.Reference4Ideal.Value.UP_at _ _ _ _ _ G.be_lt G.nu_le i0 i1 _ rfl

/-- The claims about the four calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_expert_tables.Gen.facts, Cert.Pre_pass_tables.Gen.facts, Cert.On_read_columns.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference_projection,
  frame_down, frame_down_ideal, frame_reference_down,
  frame_up, frame_up_ideal, frame_reference_up,
  trivial, algebraic, trivial, algebraic_projection, trivial, algebraic_down, trivial, algebraic_up⟩

end Cert.Proof

end
